-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Codes (m : (ℓ : Loc Cert.Codes.nD Cert.Codes.τ Cert.Codes.sig) → Buf (Elt Bits) ℓ) : Prop :=
  True

def Pre_CodesIdeal (m : (ℓ : Loc Cert.CodesIdeal.nD Cert.CodesIdeal.τ Cert.CodesIdeal.sig) → Buf (Elt Ideal) ℓ) : Prop :=
  True

def Pre_CodesReferenceIdeal (m : (ℓ : Loc Cert.CodesReferenceIdeal.nD Cert.CodesReferenceIdeal.τ Cert.CodesReferenceIdeal.sig) → Buf (Elt Ideal) ℓ) : Prop :=
  True

def Pre_Rebuild [hPre_idx_in_codebook : Cert.Pre_idx_in_codebook.Facts] (m : (ℓ : Loc Cert.Rebuild.nD Cert.Rebuild.τ Cert.Rebuild.sig) → Buf (Elt Bits) ℓ) : Prop :=
  ∀ c : Dev Cert.Rebuild.nD,
    (Cert.Pre_idx_in_codebook.fn (F := Bits) (m ((c.tc : Thread Cert.Rebuild.nD Cert.Rebuild.τ).loc Cert.Rebuild.main_arg0)) (m ((c.tc : Thread Cert.Rebuild.nD Cert.Rebuild.τ).loc Cert.Rebuild.main_arg1)) (m ((c.tc : Thread Cert.Rebuild.nD Cert.Rebuild.τ).loc Cert.Rebuild.main_arg2)) (m ((c.tc : Thread Cert.Rebuild.nD Cert.Rebuild.τ).loc Cert.Rebuild.main_arg3)) (m ((c.tc : Thread Cert.Rebuild.nD Cert.Rebuild.τ).loc Cert.Rebuild.main_arg4)) (m ((c.tc : Thread Cert.Rebuild.nD Cert.Rebuild.τ).loc Cert.Rebuild.main_arg5)) (m ((c.tc : Thread Cert.Rebuild.nD Cert.Rebuild.τ).loc Cert.Rebuild.main_arg6)) (m ((c.tc : Thread Cert.Rebuild.nD Cert.Rebuild.τ).loc Cert.Rebuild.main_arg7)) (m ((c.tc : Thread Cert.Rebuild.nD Cert.Rebuild.τ).loc Cert.Rebuild.main_arg8))) = (fun _ => 1#1)

def Pre_RebuildIdeal [hPre_idx_in_codebook : Cert.Pre_idx_in_codebook.Facts] (m : (ℓ : Loc Cert.RebuildIdeal.nD Cert.RebuildIdeal.τ Cert.RebuildIdeal.sig) → Buf (Elt Ideal) ℓ) : Prop :=
  ∀ c : Dev Cert.RebuildIdeal.nD,
    (Cert.Pre_idx_in_codebook.fn (F := Ideal) (m ((c.tc : Thread Cert.RebuildIdeal.nD Cert.RebuildIdeal.τ).loc Cert.RebuildIdeal.main_arg0)) (m ((c.tc : Thread Cert.RebuildIdeal.nD Cert.RebuildIdeal.τ).loc Cert.RebuildIdeal.main_arg1)) (m ((c.tc : Thread Cert.RebuildIdeal.nD Cert.RebuildIdeal.τ).loc Cert.RebuildIdeal.main_arg2)) (m ((c.tc : Thread Cert.RebuildIdeal.nD Cert.RebuildIdeal.τ).loc Cert.RebuildIdeal.main_arg3)) (m ((c.tc : Thread Cert.RebuildIdeal.nD Cert.RebuildIdeal.τ).loc Cert.RebuildIdeal.main_arg4)) (m ((c.tc : Thread Cert.RebuildIdeal.nD Cert.RebuildIdeal.τ).loc Cert.RebuildIdeal.main_arg5)) (m ((c.tc : Thread Cert.RebuildIdeal.nD Cert.RebuildIdeal.τ).loc Cert.RebuildIdeal.main_arg6)) (m ((c.tc : Thread Cert.RebuildIdeal.nD Cert.RebuildIdeal.τ).loc Cert.RebuildIdeal.main_arg7)) (m ((c.tc : Thread Cert.RebuildIdeal.nD Cert.RebuildIdeal.τ).loc Cert.RebuildIdeal.main_arg8))) = (fun _ => 1#1)

def Pre_RebuildReferenceIdeal [hPre_idx_in_codebook : Cert.Pre_idx_in_codebook.Facts] (m : (ℓ : Loc Cert.RebuildReferenceIdeal.nD Cert.RebuildReferenceIdeal.τ Cert.RebuildReferenceIdeal.sig) → Buf (Elt Ideal) ℓ) : Prop :=
  ∀ c : Dev Cert.RebuildReferenceIdeal.nD,
    (Cert.Pre_idx_in_codebook.fn (F := Ideal) (m ((c.tc : Thread Cert.RebuildReferenceIdeal.nD Cert.RebuildReferenceIdeal.τ).loc Cert.RebuildReferenceIdeal.main_arg0)) (m ((c.tc : Thread Cert.RebuildReferenceIdeal.nD Cert.RebuildReferenceIdeal.τ).loc Cert.RebuildReferenceIdeal.main_arg1)) (m ((c.tc : Thread Cert.RebuildReferenceIdeal.nD Cert.RebuildReferenceIdeal.τ).loc Cert.RebuildReferenceIdeal.main_arg2)) (m ((c.tc : Thread Cert.RebuildReferenceIdeal.nD Cert.RebuildReferenceIdeal.τ).loc Cert.RebuildReferenceIdeal.main_arg3)) (m ((c.tc : Thread Cert.RebuildReferenceIdeal.nD Cert.RebuildReferenceIdeal.τ).loc Cert.RebuildReferenceIdeal.main_arg4)) (m ((c.tc : Thread Cert.RebuildReferenceIdeal.nD Cert.RebuildReferenceIdeal.τ).loc Cert.RebuildReferenceIdeal.main_arg5)) (m ((c.tc : Thread Cert.RebuildReferenceIdeal.nD Cert.RebuildReferenceIdeal.τ).loc Cert.RebuildReferenceIdeal.main_arg6)) (m ((c.tc : Thread Cert.RebuildReferenceIdeal.nD Cert.RebuildReferenceIdeal.τ).loc Cert.RebuildReferenceIdeal.main_arg7)) (m ((c.tc : Thread Cert.RebuildReferenceIdeal.nD Cert.RebuildReferenceIdeal.τ).loc Cert.RebuildReferenceIdeal.main_arg8))) = (fun _ => 1#1)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11)
      ∧ r.2.mem ((c.tc : Thread Cert.Reference.nD Cert.Reference.τ).loc Cert.Reference.main_arg12) = m ((c.tc : Thread Cert.Reference.nD Cert.Reference.τ).loc Cert.Reference.main_arg12)
      ∧ r.2.mem ((c.tc : Thread Cert.Reference.nD Cert.Reference.τ).loc Cert.Reference.main_arg13) = m ((c.tc : Thread Cert.Reference.nD Cert.Reference.τ).loc Cert.Reference.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Codes [hCodes : Cert.Codes.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1)
      ∧ r.2.mem ((c.tc : Thread Cert.Codes.nD Cert.Codes.τ).loc Cert.Codes.main_arg2) = m ((c.tc : Thread Cert.Codes.nD Cert.Codes.τ).loc Cert.Codes.main_arg2)
      ∧ r.2.mem ((c.tc : Thread Cert.Codes.nD Cert.Codes.τ).loc Cert.Codes.main_arg3) = m ((c.tc : Thread Cert.Codes.nD Cert.Codes.τ).loc Cert.Codes.main_arg3)
      ∧ r.2.mem ((c.tc : Thread Cert.Codes.nD Cert.Codes.τ).loc Cert.Codes.main_arg4) = m ((c.tc : Thread Cert.Codes.nD Cert.Codes.τ).loc Cert.Codes.main_arg4)
      ∧ r.2.mem ((c.tc : Thread Cert.Codes.nD Cert.Codes.τ).loc Cert.Codes.main_arg5) = m ((c.tc : Thread Cert.Codes.nD Cert.Codes.τ).loc Cert.Codes.main_arg5)
      ∧ r.2.mem ((c.tc : Thread Cert.Codes.nD Cert.Codes.τ).loc Cert.Codes.main_arg6) = m ((c.tc : Thread Cert.Codes.nD Cert.Codes.τ).loc Cert.Codes.main_arg6)
      ∧ r.2.mem ((c.tc : Thread Cert.Codes.nD Cert.Codes.τ).loc Cert.Codes.main_arg7) = m ((c.tc : Thread Cert.Codes.nD Cert.Codes.τ).loc Cert.Codes.main_arg7))
      ∧ r.2.sem = fun _ => 0)

def quiescent_CodesIdeal [hCodesIdeal : Cert.CodesIdeal.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
      ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
      ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3)
      ∧ r.2.mem ((c.tc : Thread Cert.CodesIdeal.nD Cert.CodesIdeal.τ).loc Cert.CodesIdeal.main_arg4) = m ((c.tc : Thread Cert.CodesIdeal.nD Cert.CodesIdeal.τ).loc Cert.CodesIdeal.main_arg4)
      ∧ r.2.mem ((c.tc : Thread Cert.CodesIdeal.nD Cert.CodesIdeal.τ).loc Cert.CodesIdeal.main_arg5) = m ((c.tc : Thread Cert.CodesIdeal.nD Cert.CodesIdeal.τ).loc Cert.CodesIdeal.main_arg5)
      ∧ r.2.mem ((c.tc : Thread Cert.CodesIdeal.nD Cert.CodesIdeal.τ).loc Cert.CodesIdeal.main_arg6) = m ((c.tc : Thread Cert.CodesIdeal.nD Cert.CodesIdeal.τ).loc Cert.CodesIdeal.main_arg6)
      ∧ r.2.mem ((c.tc : Thread Cert.CodesIdeal.nD Cert.CodesIdeal.τ).loc Cert.CodesIdeal.main_arg7) = m ((c.tc : Thread Cert.CodesIdeal.nD Cert.CodesIdeal.τ).loc Cert.CodesIdeal.main_arg7))
      ∧ r.2.sem = fun _ => 0)

def quiescent_CodesReferenceIdeal [hCodesReferenceIdeal : Cert.CodesReferenceIdeal.Facts] : Prop :=
  ∀ (m : (ℓ : Loc Cert.CodesReferenceIdeal.nD Cert.CodesReferenceIdeal.τ Cert.CodesReferenceIdeal.sig) → Buf (Elt Ideal) ℓ) (g : Dev Cert.CodesReferenceIdeal.nD → PrngReg), Pre_CodesReferenceIdeal m →
    θ_run (Cert.CodesReferenceIdeal.defs (F := Ideal)) (onTc (τ := Cert.CodesReferenceIdeal.τ) (Cert.CodesReferenceIdeal.main (F := Ideal))) ⟨m, fun _ => 0, g⟩ (fun r => (∀ c : Dev Cert.CodesReferenceIdeal.nD,
      r.2.mem ((c.tc : Thread Cert.CodesReferenceIdeal.nD Cert.CodesReferenceIdeal.τ).loc Cert.CodesReferenceIdeal.main_arg0) = m ((c.tc : Thread Cert.CodesReferenceIdeal.nD Cert.CodesReferenceIdeal.τ).loc Cert.CodesReferenceIdeal.main_arg0)
      ∧ r.2.mem ((c.tc : Thread Cert.CodesReferenceIdeal.nD Cert.CodesReferenceIdeal.τ).loc Cert.CodesReferenceIdeal.main_arg1) = m ((c.tc : Thread Cert.CodesReferenceIdeal.nD Cert.CodesReferenceIdeal.τ).loc Cert.CodesReferenceIdeal.main_arg1)
      ∧ r.2.mem ((c.tc : Thread Cert.CodesReferenceIdeal.nD Cert.CodesReferenceIdeal.τ).loc Cert.CodesReferenceIdeal.main_arg2) = m ((c.tc : Thread Cert.CodesReferenceIdeal.nD Cert.CodesReferenceIdeal.τ).loc Cert.CodesReferenceIdeal.main_arg2)
      ∧ r.2.mem ((c.tc : Thread Cert.CodesReferenceIdeal.nD Cert.CodesReferenceIdeal.τ).loc Cert.CodesReferenceIdeal.main_arg3) = m ((c.tc : Thread Cert.CodesReferenceIdeal.nD Cert.CodesReferenceIdeal.τ).loc Cert.CodesReferenceIdeal.main_arg3)
      ∧ r.2.mem ((c.tc : Thread Cert.CodesReferenceIdeal.nD Cert.CodesReferenceIdeal.τ).loc Cert.CodesReferenceIdeal.main_arg4) = m ((c.tc : Thread Cert.CodesReferenceIdeal.nD Cert.CodesReferenceIdeal.τ).loc Cert.CodesReferenceIdeal.main_arg4)
      ∧ r.2.mem ((c.tc : Thread Cert.CodesReferenceIdeal.nD Cert.CodesReferenceIdeal.τ).loc Cert.CodesReferenceIdeal.main_arg5) = m ((c.tc : Thread Cert.CodesReferenceIdeal.nD Cert.CodesReferenceIdeal.τ).loc Cert.CodesReferenceIdeal.main_arg5)
      ∧ r.2.mem ((c.tc : Thread Cert.CodesReferenceIdeal.nD Cert.CodesReferenceIdeal.τ).loc Cert.CodesReferenceIdeal.main_arg6) = m ((c.tc : Thread Cert.CodesReferenceIdeal.nD Cert.CodesReferenceIdeal.τ).loc Cert.CodesReferenceIdeal.main_arg6)
      ∧ r.2.mem ((c.tc : Thread Cert.CodesReferenceIdeal.nD Cert.CodesReferenceIdeal.τ).loc Cert.CodesReferenceIdeal.main_arg7) = m ((c.tc : Thread Cert.CodesReferenceIdeal.nD Cert.CodesReferenceIdeal.τ).loc Cert.CodesReferenceIdeal.main_arg7))
      ∧ r.2.sem = fun _ => 0)

def quiescent_Rebuild [hRebuild : Cert.Rebuild.Facts] [hPre_idx_in_codebook : Cert.Pre_idx_in_codebook.Facts] : Prop :=
  ∀ (m : (ℓ : Loc Cert.Rebuild.nD Cert.Rebuild.τ Cert.Rebuild.sig) → Buf (Elt Bits) ℓ) (g : Dev Cert.Rebuild.nD → PrngReg), Pre_Rebuild m →
    θ_run (Cert.Rebuild.defs (F := Bits)) (Cert.Rebuild.threads (F := Bits)) ⟨m, fun _ => 0, g⟩ (fun r => (∀ c : Dev Cert.Rebuild.nD,
      r.2.mem ((c.tc : Thread Cert.Rebuild.nD Cert.Rebuild.τ).loc Cert.Rebuild.main_arg0) = m ((c.tc : Thread Cert.Rebuild.nD Cert.Rebuild.τ).loc Cert.Rebuild.main_arg0)
      ∧ r.2.mem ((c.tc : Thread Cert.Rebuild.nD Cert.Rebuild.τ).loc Cert.Rebuild.main_arg1) = m ((c.tc : Thread Cert.Rebuild.nD Cert.Rebuild.τ).loc Cert.Rebuild.main_arg1)
      ∧ r.2.mem ((c.tc : Thread Cert.Rebuild.nD Cert.Rebuild.τ).loc Cert.Rebuild.main_arg2) = m ((c.tc : Thread Cert.Rebuild.nD Cert.Rebuild.τ).loc Cert.Rebuild.main_arg2)
      ∧ r.2.mem ((c.tc : Thread Cert.Rebuild.nD Cert.Rebuild.τ).loc Cert.Rebuild.main_arg3) = m ((c.tc : Thread Cert.Rebuild.nD Cert.Rebuild.τ).loc Cert.Rebuild.main_arg3)
      ∧ r.2.mem ((c.tc : Thread Cert.Rebuild.nD Cert.Rebuild.τ).loc Cert.Rebuild.main_arg4) = m ((c.tc : Thread Cert.Rebuild.nD Cert.Rebuild.τ).loc Cert.Rebuild.main_arg4)
      ∧ r.2.mem ((c.tc : Thread Cert.Rebuild.nD Cert.Rebuild.τ).loc Cert.Rebuild.main_arg5) = m ((c.tc : Thread Cert.Rebuild.nD Cert.Rebuild.τ).loc Cert.Rebuild.main_arg5)
      ∧ r.2.mem ((c.tc : Thread Cert.Rebuild.nD Cert.Rebuild.τ).loc Cert.Rebuild.main_arg6) = m ((c.tc : Thread Cert.Rebuild.nD Cert.Rebuild.τ).loc Cert.Rebuild.main_arg6)
      ∧ r.2.mem ((c.tc : Thread Cert.Rebuild.nD Cert.Rebuild.τ).loc Cert.Rebuild.main_arg7) = m ((c.tc : Thread Cert.Rebuild.nD Cert.Rebuild.τ).loc Cert.Rebuild.main_arg7)
      ∧ r.2.mem ((c.tc : Thread Cert.Rebuild.nD Cert.Rebuild.τ).loc Cert.Rebuild.main_arg8) = m ((c.tc : Thread Cert.Rebuild.nD Cert.Rebuild.τ).loc Cert.Rebuild.main_arg8))
      ∧ r.2.sem = fun _ => 0)

def quiescent_RebuildIdeal [hRebuildIdeal : Cert.RebuildIdeal.Facts] [hPre_idx_in_codebook : Cert.Pre_idx_in_codebook.Facts] : Prop :=
  ∀ (m : (ℓ : Loc Cert.RebuildIdeal.nD Cert.RebuildIdeal.τ Cert.RebuildIdeal.sig) → Buf (Elt Ideal) ℓ) (g : Dev Cert.RebuildIdeal.nD → PrngReg), Pre_RebuildIdeal m →
    θ_run (Cert.RebuildIdeal.defs (F := Ideal)) (Cert.RebuildIdeal.threads (F := Ideal)) ⟨m, fun _ => 0, g⟩ (fun r => (∀ c : Dev Cert.RebuildIdeal.nD,
      r.2.mem ((c.tc : Thread Cert.RebuildIdeal.nD Cert.RebuildIdeal.τ).loc Cert.RebuildIdeal.main_arg0) = m ((c.tc : Thread Cert.RebuildIdeal.nD Cert.RebuildIdeal.τ).loc Cert.RebuildIdeal.main_arg0)
      ∧ r.2.mem ((c.tc : Thread Cert.RebuildIdeal.nD Cert.RebuildIdeal.τ).loc Cert.RebuildIdeal.main_arg1) = m ((c.tc : Thread Cert.RebuildIdeal.nD Cert.RebuildIdeal.τ).loc Cert.RebuildIdeal.main_arg1)
      ∧ r.2.mem ((c.tc : Thread Cert.RebuildIdeal.nD Cert.RebuildIdeal.τ).loc Cert.RebuildIdeal.main_arg2) = m ((c.tc : Thread Cert.RebuildIdeal.nD Cert.RebuildIdeal.τ).loc Cert.RebuildIdeal.main_arg2)
      ∧ r.2.mem ((c.tc : Thread Cert.RebuildIdeal.nD Cert.RebuildIdeal.τ).loc Cert.RebuildIdeal.main_arg3) = m ((c.tc : Thread Cert.RebuildIdeal.nD Cert.RebuildIdeal.τ).loc Cert.RebuildIdeal.main_arg3)
      ∧ r.2.mem ((c.tc : Thread Cert.RebuildIdeal.nD Cert.RebuildIdeal.τ).loc Cert.RebuildIdeal.main_arg4) = m ((c.tc : Thread Cert.RebuildIdeal.nD Cert.RebuildIdeal.τ).loc Cert.RebuildIdeal.main_arg4)
      ∧ r.2.mem ((c.tc : Thread Cert.RebuildIdeal.nD Cert.RebuildIdeal.τ).loc Cert.RebuildIdeal.main_arg5) = m ((c.tc : Thread Cert.RebuildIdeal.nD Cert.RebuildIdeal.τ).loc Cert.RebuildIdeal.main_arg5)
      ∧ r.2.mem ((c.tc : Thread Cert.RebuildIdeal.nD Cert.RebuildIdeal.τ).loc Cert.RebuildIdeal.main_arg6) = m ((c.tc : Thread Cert.RebuildIdeal.nD Cert.RebuildIdeal.τ).loc Cert.RebuildIdeal.main_arg6)
      ∧ r.2.mem ((c.tc : Thread Cert.RebuildIdeal.nD Cert.RebuildIdeal.τ).loc Cert.RebuildIdeal.main_arg7) = m ((c.tc : Thread Cert.RebuildIdeal.nD Cert.RebuildIdeal.τ).loc Cert.RebuildIdeal.main_arg7)
      ∧ r.2.mem ((c.tc : Thread Cert.RebuildIdeal.nD Cert.RebuildIdeal.τ).loc Cert.RebuildIdeal.main_arg8) = m ((c.tc : Thread Cert.RebuildIdeal.nD Cert.RebuildIdeal.τ).loc Cert.RebuildIdeal.main_arg8))
      ∧ r.2.sem = fun _ => 0)

def quiescent_RebuildReferenceIdeal [hRebuildReferenceIdeal : Cert.RebuildReferenceIdeal.Facts] [hPre_idx_in_codebook : Cert.Pre_idx_in_codebook.Facts] : Prop :=
  ∀ (m : (ℓ : Loc Cert.RebuildReferenceIdeal.nD Cert.RebuildReferenceIdeal.τ Cert.RebuildReferenceIdeal.sig) → Buf (Elt Ideal) ℓ) (g : Dev Cert.RebuildReferenceIdeal.nD → PrngReg), Pre_RebuildReferenceIdeal m →
    θ_run (Cert.RebuildReferenceIdeal.defs (F := Ideal)) (onTc (τ := Cert.RebuildReferenceIdeal.τ) (Cert.RebuildReferenceIdeal.main (F := Ideal))) ⟨m, fun _ => 0, g⟩ (fun r => (∀ c : Dev Cert.RebuildReferenceIdeal.nD,
      r.2.mem ((c.tc : Thread Cert.RebuildReferenceIdeal.nD Cert.RebuildReferenceIdeal.τ).loc Cert.RebuildReferenceIdeal.main_arg0) = m ((c.tc : Thread Cert.RebuildReferenceIdeal.nD Cert.RebuildReferenceIdeal.τ).loc Cert.RebuildReferenceIdeal.main_arg0)
      ∧ r.2.mem ((c.tc : Thread Cert.RebuildReferenceIdeal.nD Cert.RebuildReferenceIdeal.τ).loc Cert.RebuildReferenceIdeal.main_arg1) = m ((c.tc : Thread Cert.RebuildReferenceIdeal.nD Cert.RebuildReferenceIdeal.τ).loc Cert.RebuildReferenceIdeal.main_arg1)
      ∧ r.2.mem ((c.tc : Thread Cert.RebuildReferenceIdeal.nD Cert.RebuildReferenceIdeal.τ).loc Cert.RebuildReferenceIdeal.main_arg2) = m ((c.tc : Thread Cert.RebuildReferenceIdeal.nD Cert.RebuildReferenceIdeal.τ).loc Cert.RebuildReferenceIdeal.main_arg2)
      ∧ r.2.mem ((c.tc : Thread Cert.RebuildReferenceIdeal.nD Cert.RebuildReferenceIdeal.τ).loc Cert.RebuildReferenceIdeal.main_arg3) = m ((c.tc : Thread Cert.RebuildReferenceIdeal.nD Cert.RebuildReferenceIdeal.τ).loc Cert.RebuildReferenceIdeal.main_arg3)
      ∧ r.2.mem ((c.tc : Thread Cert.RebuildReferenceIdeal.nD Cert.RebuildReferenceIdeal.τ).loc Cert.RebuildReferenceIdeal.main_arg4) = m ((c.tc : Thread Cert.RebuildReferenceIdeal.nD Cert.RebuildReferenceIdeal.τ).loc Cert.RebuildReferenceIdeal.main_arg4)
      ∧ r.2.mem ((c.tc : Thread Cert.RebuildReferenceIdeal.nD Cert.RebuildReferenceIdeal.τ).loc Cert.RebuildReferenceIdeal.main_arg5) = m ((c.tc : Thread Cert.RebuildReferenceIdeal.nD Cert.RebuildReferenceIdeal.τ).loc Cert.RebuildReferenceIdeal.main_arg5)
      ∧ r.2.mem ((c.tc : Thread Cert.RebuildReferenceIdeal.nD Cert.RebuildReferenceIdeal.τ).loc Cert.RebuildReferenceIdeal.main_arg6) = m ((c.tc : Thread Cert.RebuildReferenceIdeal.nD Cert.RebuildReferenceIdeal.τ).loc Cert.RebuildReferenceIdeal.main_arg6)
      ∧ r.2.mem ((c.tc : Thread Cert.RebuildReferenceIdeal.nD Cert.RebuildReferenceIdeal.τ).loc Cert.RebuildReferenceIdeal.main_arg7) = m ((c.tc : Thread Cert.RebuildReferenceIdeal.nD Cert.RebuildReferenceIdeal.τ).loc Cert.RebuildReferenceIdeal.main_arg7)
      ∧ r.2.mem ((c.tc : Thread Cert.RebuildReferenceIdeal.nD Cert.RebuildReferenceIdeal.τ).loc Cert.RebuildReferenceIdeal.main_arg8) = m ((c.tc : Thread Cert.RebuildReferenceIdeal.nD Cert.RebuildReferenceIdeal.τ).loc Cert.RebuildReferenceIdeal.main_arg8))
      ∧ r.2.sem = fun _ => 0)

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_c) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_c) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Codes_CodesIdeal : Prop :=
  True

def algebraic_CodesIdeal_CodesReferenceIdeal [hCodesIdeal : Cert.CodesIdeal.Facts] [hCodesReferenceIdeal : Cert.CodesReferenceIdeal.Facts] : Prop :=
  ∀ (m : (ℓ : Loc Cert.CodesIdeal.nD Cert.CodesIdeal.τ Cert.CodesIdeal.sig) → Buf (Elt Ideal) ℓ) (g : Dev Cert.CodesIdeal.nD → PrngReg)
    (m' : (ℓ : Loc Cert.CodesReferenceIdeal.nD Cert.CodesReferenceIdeal.τ Cert.CodesReferenceIdeal.sig) → Buf (Elt Ideal) ℓ) (g' : Dev Cert.CodesReferenceIdeal.nD → PrngReg), Pre_CodesIdeal m →
    (∀ c : Dev Cert.CodesIdeal.nD,
      m' ((c.tc : Thread Cert.CodesReferenceIdeal.nD Cert.CodesReferenceIdeal.τ).loc Cert.CodesReferenceIdeal.main_arg0) = m ((c.tc : Thread Cert.CodesIdeal.nD Cert.CodesIdeal.τ).loc Cert.CodesIdeal.main_arg0)
      ∧ m' ((c.tc : Thread Cert.CodesReferenceIdeal.nD Cert.CodesReferenceIdeal.τ).loc Cert.CodesReferenceIdeal.main_arg1) = m ((c.tc : Thread Cert.CodesIdeal.nD Cert.CodesIdeal.τ).loc Cert.CodesIdeal.main_arg1)
      ∧ m' ((c.tc : Thread Cert.CodesReferenceIdeal.nD Cert.CodesReferenceIdeal.τ).loc Cert.CodesReferenceIdeal.main_arg2) = m ((c.tc : Thread Cert.CodesIdeal.nD Cert.CodesIdeal.τ).loc Cert.CodesIdeal.main_arg2)
      ∧ m' ((c.tc : Thread Cert.CodesReferenceIdeal.nD Cert.CodesReferenceIdeal.τ).loc Cert.CodesReferenceIdeal.main_arg3) = m ((c.tc : Thread Cert.CodesIdeal.nD Cert.CodesIdeal.τ).loc Cert.CodesIdeal.main_arg3)
      ∧ m' ((c.tc : Thread Cert.CodesReferenceIdeal.nD Cert.CodesReferenceIdeal.τ).loc Cert.CodesReferenceIdeal.main_arg4) = m ((c.tc : Thread Cert.CodesIdeal.nD Cert.CodesIdeal.τ).loc Cert.CodesIdeal.main_arg4)
      ∧ m' ((c.tc : Thread Cert.CodesReferenceIdeal.nD Cert.CodesReferenceIdeal.τ).loc Cert.CodesReferenceIdeal.main_arg5) = m ((c.tc : Thread Cert.CodesIdeal.nD Cert.CodesIdeal.τ).loc Cert.CodesIdeal.main_arg5)
      ∧ m' ((c.tc : Thread Cert.CodesReferenceIdeal.nD Cert.CodesReferenceIdeal.τ).loc Cert.CodesReferenceIdeal.main_arg6) = m ((c.tc : Thread Cert.CodesIdeal.nD Cert.CodesIdeal.τ).loc Cert.CodesIdeal.main_arg6)
      ∧ m' ((c.tc : Thread Cert.CodesReferenceIdeal.nD Cert.CodesReferenceIdeal.τ).loc Cert.CodesReferenceIdeal.main_arg7) = m ((c.tc : Thread Cert.CodesIdeal.nD Cert.CodesIdeal.τ).loc Cert.CodesIdeal.main_arg7)) →
    ∃ (v0 : (c : Dev Cert.CodesIdeal.nD) → Buf (Elt Ideal) ((c.tc : Thread Cert.CodesIdeal.nD Cert.CodesIdeal.τ).loc Cert.CodesIdeal.main_v3)) (v1 : (c : Dev Cert.CodesIdeal.nD) → Buf (Elt Ideal) ((c.tc : Thread Cert.CodesIdeal.nD Cert.CodesIdeal.τ).loc Cert.CodesIdeal.main_v11)),
      θ_run (Cert.CodesIdeal.defs (F := Ideal)) (onTc (τ := Cert.CodesIdeal.τ) (Cert.CodesIdeal.main (F := Ideal))) ⟨m, fun _ => 0, g⟩ (fun r => ∀ c : Dev Cert.CodesIdeal.nD,
          r.2.mem ((c.tc : Thread Cert.CodesIdeal.nD Cert.CodesIdeal.τ).loc Cert.CodesIdeal.main_v3) = v0 c
          ∧ r.2.mem ((c.tc : Thread Cert.CodesIdeal.nD Cert.CodesIdeal.τ).loc Cert.CodesIdeal.main_v11) = v1 c
          ∧ r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
          ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
          ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
          ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3)
          ∧ r.2.mem ((c.tc : Thread Cert.CodesIdeal.nD Cert.CodesIdeal.τ).loc Cert.CodesIdeal.main_arg4) = m ((c.tc : Thread Cert.CodesIdeal.nD Cert.CodesIdeal.τ).loc Cert.CodesIdeal.main_arg4)
          ∧ r.2.mem ((c.tc : Thread Cert.CodesIdeal.nD Cert.CodesIdeal.τ).loc Cert.CodesIdeal.main_arg5) = m ((c.tc : Thread Cert.CodesIdeal.nD Cert.CodesIdeal.τ).loc Cert.CodesIdeal.main_arg5)
          ∧ r.2.mem ((c.tc : Thread Cert.CodesIdeal.nD Cert.CodesIdeal.τ).loc Cert.CodesIdeal.main_arg6) = m ((c.tc : Thread Cert.CodesIdeal.nD Cert.CodesIdeal.τ).loc Cert.CodesIdeal.main_arg6)
          ∧ r.2.mem ((c.tc : Thread Cert.CodesIdeal.nD Cert.CodesIdeal.τ).loc Cert.CodesIdeal.main_arg7) = m ((c.tc : Thread Cert.CodesIdeal.nD Cert.CodesIdeal.τ).loc Cert.CodesIdeal.main_arg7))
      ∧ θ_run (Cert.CodesReferenceIdeal.defs (F := Ideal)) (onTc (τ := Cert.CodesReferenceIdeal.τ) (Cert.CodesReferenceIdeal.main (F := Ideal))) ⟨m', fun _ => 0, g'⟩ (fun r => ∀ c : Dev Cert.CodesReferenceIdeal.nD,
          r.2.mem ((c.tc : Thread Cert.CodesReferenceIdeal.nD Cert.CodesReferenceIdeal.τ).loc Cert.CodesReferenceIdeal.main_v25) = v0 c
          ∧ r.2.mem ((c.tc : Thread Cert.CodesReferenceIdeal.nD Cert.CodesReferenceIdeal.τ).loc Cert.CodesReferenceIdeal.main_v40) = v1 c
          ∧ r.2.mem ((c.tc : Thread Cert.CodesReferenceIdeal.nD Cert.CodesReferenceIdeal.τ).loc Cert.CodesReferenceIdeal.main_arg0) = m' ((c.tc : Thread Cert.CodesReferenceIdeal.nD Cert.CodesReferenceIdeal.τ).loc Cert.CodesReferenceIdeal.main_arg0)
          ∧ r.2.mem ((c.tc : Thread Cert.CodesReferenceIdeal.nD Cert.CodesReferenceIdeal.τ).loc Cert.CodesReferenceIdeal.main_arg1) = m' ((c.tc : Thread Cert.CodesReferenceIdeal.nD Cert.CodesReferenceIdeal.τ).loc Cert.CodesReferenceIdeal.main_arg1)
          ∧ r.2.mem ((c.tc : Thread Cert.CodesReferenceIdeal.nD Cert.CodesReferenceIdeal.τ).loc Cert.CodesReferenceIdeal.main_arg2) = m' ((c.tc : Thread Cert.CodesReferenceIdeal.nD Cert.CodesReferenceIdeal.τ).loc Cert.CodesReferenceIdeal.main_arg2)
          ∧ r.2.mem ((c.tc : Thread Cert.CodesReferenceIdeal.nD Cert.CodesReferenceIdeal.τ).loc Cert.CodesReferenceIdeal.main_arg3) = m' ((c.tc : Thread Cert.CodesReferenceIdeal.nD Cert.CodesReferenceIdeal.τ).loc Cert.CodesReferenceIdeal.main_arg3)
          ∧ r.2.mem ((c.tc : Thread Cert.CodesReferenceIdeal.nD Cert.CodesReferenceIdeal.τ).loc Cert.CodesReferenceIdeal.main_arg4) = m' ((c.tc : Thread Cert.CodesReferenceIdeal.nD Cert.CodesReferenceIdeal.τ).loc Cert.CodesReferenceIdeal.main_arg4)
          ∧ r.2.mem ((c.tc : Thread Cert.CodesReferenceIdeal.nD Cert.CodesReferenceIdeal.τ).loc Cert.CodesReferenceIdeal.main_arg5) = m' ((c.tc : Thread Cert.CodesReferenceIdeal.nD Cert.CodesReferenceIdeal.τ).loc Cert.CodesReferenceIdeal.main_arg5)
          ∧ r.2.mem ((c.tc : Thread Cert.CodesReferenceIdeal.nD Cert.CodesReferenceIdeal.τ).loc Cert.CodesReferenceIdeal.main_arg6) = m' ((c.tc : Thread Cert.CodesReferenceIdeal.nD Cert.CodesReferenceIdeal.τ).loc Cert.CodesReferenceIdeal.main_arg6)
          ∧ r.2.mem ((c.tc : Thread Cert.CodesReferenceIdeal.nD Cert.CodesReferenceIdeal.τ).loc Cert.CodesReferenceIdeal.main_arg7) = m' ((c.tc : Thread Cert.CodesReferenceIdeal.nD Cert.CodesReferenceIdeal.τ).loc Cert.CodesReferenceIdeal.main_arg7))

def preserves_Rebuild_RebuildIdeal : Prop :=
  True

def algebraic_RebuildIdeal_RebuildReferenceIdeal [hRebuildIdeal : Cert.RebuildIdeal.Facts] [hRebuildReferenceIdeal : Cert.RebuildReferenceIdeal.Facts] [hPre_idx_in_codebook : Cert.Pre_idx_in_codebook.Facts] : Prop :=
  ∀ (m : (ℓ : Loc Cert.RebuildIdeal.nD Cert.RebuildIdeal.τ Cert.RebuildIdeal.sig) → Buf (Elt Ideal) ℓ) (g : Dev Cert.RebuildIdeal.nD → PrngReg)
    (m' : (ℓ : Loc Cert.RebuildReferenceIdeal.nD Cert.RebuildReferenceIdeal.τ Cert.RebuildReferenceIdeal.sig) → Buf (Elt Ideal) ℓ) (g' : Dev Cert.RebuildReferenceIdeal.nD → PrngReg), Pre_RebuildIdeal m →
    (∀ c : Dev Cert.RebuildIdeal.nD,
      m' ((c.tc : Thread Cert.RebuildReferenceIdeal.nD Cert.RebuildReferenceIdeal.τ).loc Cert.RebuildReferenceIdeal.main_arg0) = m ((c.tc : Thread Cert.RebuildIdeal.nD Cert.RebuildIdeal.τ).loc Cert.RebuildIdeal.main_arg0)
      ∧ m' ((c.tc : Thread Cert.RebuildReferenceIdeal.nD Cert.RebuildReferenceIdeal.τ).loc Cert.RebuildReferenceIdeal.main_arg1) = m ((c.tc : Thread Cert.RebuildIdeal.nD Cert.RebuildIdeal.τ).loc Cert.RebuildIdeal.main_arg1)
      ∧ m' ((c.tc : Thread Cert.RebuildReferenceIdeal.nD Cert.RebuildReferenceIdeal.τ).loc Cert.RebuildReferenceIdeal.main_arg2) = m ((c.tc : Thread Cert.RebuildIdeal.nD Cert.RebuildIdeal.τ).loc Cert.RebuildIdeal.main_arg2)
      ∧ m' ((c.tc : Thread Cert.RebuildReferenceIdeal.nD Cert.RebuildReferenceIdeal.τ).loc Cert.RebuildReferenceIdeal.main_arg3) = m ((c.tc : Thread Cert.RebuildIdeal.nD Cert.RebuildIdeal.τ).loc Cert.RebuildIdeal.main_arg3)
      ∧ m' ((c.tc : Thread Cert.RebuildReferenceIdeal.nD Cert.RebuildReferenceIdeal.τ).loc Cert.RebuildReferenceIdeal.main_arg4) = m ((c.tc : Thread Cert.RebuildIdeal.nD Cert.RebuildIdeal.τ).loc Cert.RebuildIdeal.main_arg4)
      ∧ m' ((c.tc : Thread Cert.RebuildReferenceIdeal.nD Cert.RebuildReferenceIdeal.τ).loc Cert.RebuildReferenceIdeal.main_arg5) = m ((c.tc : Thread Cert.RebuildIdeal.nD Cert.RebuildIdeal.τ).loc Cert.RebuildIdeal.main_arg5)
      ∧ m' ((c.tc : Thread Cert.RebuildReferenceIdeal.nD Cert.RebuildReferenceIdeal.τ).loc Cert.RebuildReferenceIdeal.main_arg6) = m ((c.tc : Thread Cert.RebuildIdeal.nD Cert.RebuildIdeal.τ).loc Cert.RebuildIdeal.main_arg6)
      ∧ m' ((c.tc : Thread Cert.RebuildReferenceIdeal.nD Cert.RebuildReferenceIdeal.τ).loc Cert.RebuildReferenceIdeal.main_arg7) = m ((c.tc : Thread Cert.RebuildIdeal.nD Cert.RebuildIdeal.τ).loc Cert.RebuildIdeal.main_arg7)
      ∧ m' ((c.tc : Thread Cert.RebuildReferenceIdeal.nD Cert.RebuildReferenceIdeal.τ).loc Cert.RebuildReferenceIdeal.main_arg8) = m ((c.tc : Thread Cert.RebuildIdeal.nD Cert.RebuildIdeal.τ).loc Cert.RebuildIdeal.main_arg8)) →
    ∃ (v0 : (c : Dev Cert.RebuildIdeal.nD) → Buf (Elt Ideal) ((c.tc : Thread Cert.RebuildIdeal.nD Cert.RebuildIdeal.τ).loc Cert.RebuildIdeal.main_v7)) (v1 : (c : Dev Cert.RebuildIdeal.nD) → Buf (Elt Ideal) ((c.tc : Thread Cert.RebuildIdeal.nD Cert.RebuildIdeal.τ).loc Cert.RebuildIdeal.main_v8)),
      θ_run (Cert.RebuildIdeal.defs (F := Ideal)) (Cert.RebuildIdeal.threads (F := Ideal)) ⟨m, fun _ => 0, g⟩ (fun r => ∀ c : Dev Cert.RebuildIdeal.nD,
          r.2.mem ((c.tc : Thread Cert.RebuildIdeal.nD Cert.RebuildIdeal.τ).loc Cert.RebuildIdeal.main_v7) = v0 c
          ∧ r.2.mem ((c.tc : Thread Cert.RebuildIdeal.nD Cert.RebuildIdeal.τ).loc Cert.RebuildIdeal.main_v8) = v1 c
          ∧ r.2.mem ((c.tc : Thread Cert.RebuildIdeal.nD Cert.RebuildIdeal.τ).loc Cert.RebuildIdeal.main_arg0) = m ((c.tc : Thread Cert.RebuildIdeal.nD Cert.RebuildIdeal.τ).loc Cert.RebuildIdeal.main_arg0)
          ∧ r.2.mem ((c.tc : Thread Cert.RebuildIdeal.nD Cert.RebuildIdeal.τ).loc Cert.RebuildIdeal.main_arg1) = m ((c.tc : Thread Cert.RebuildIdeal.nD Cert.RebuildIdeal.τ).loc Cert.RebuildIdeal.main_arg1)
          ∧ r.2.mem ((c.tc : Thread Cert.RebuildIdeal.nD Cert.RebuildIdeal.τ).loc Cert.RebuildIdeal.main_arg2) = m ((c.tc : Thread Cert.RebuildIdeal.nD Cert.RebuildIdeal.τ).loc Cert.RebuildIdeal.main_arg2)
          ∧ r.2.mem ((c.tc : Thread Cert.RebuildIdeal.nD Cert.RebuildIdeal.τ).loc Cert.RebuildIdeal.main_arg3) = m ((c.tc : Thread Cert.RebuildIdeal.nD Cert.RebuildIdeal.τ).loc Cert.RebuildIdeal.main_arg3)
          ∧ r.2.mem ((c.tc : Thread Cert.RebuildIdeal.nD Cert.RebuildIdeal.τ).loc Cert.RebuildIdeal.main_arg4) = m ((c.tc : Thread Cert.RebuildIdeal.nD Cert.RebuildIdeal.τ).loc Cert.RebuildIdeal.main_arg4)
          ∧ r.2.mem ((c.tc : Thread Cert.RebuildIdeal.nD Cert.RebuildIdeal.τ).loc Cert.RebuildIdeal.main_arg5) = m ((c.tc : Thread Cert.RebuildIdeal.nD Cert.RebuildIdeal.τ).loc Cert.RebuildIdeal.main_arg5)
          ∧ r.2.mem ((c.tc : Thread Cert.RebuildIdeal.nD Cert.RebuildIdeal.τ).loc Cert.RebuildIdeal.main_arg6) = m ((c.tc : Thread Cert.RebuildIdeal.nD Cert.RebuildIdeal.τ).loc Cert.RebuildIdeal.main_arg6)
          ∧ r.2.mem ((c.tc : Thread Cert.RebuildIdeal.nD Cert.RebuildIdeal.τ).loc Cert.RebuildIdeal.main_arg7) = m ((c.tc : Thread Cert.RebuildIdeal.nD Cert.RebuildIdeal.τ).loc Cert.RebuildIdeal.main_arg7)
          ∧ r.2.mem ((c.tc : Thread Cert.RebuildIdeal.nD Cert.RebuildIdeal.τ).loc Cert.RebuildIdeal.main_arg8) = m ((c.tc : Thread Cert.RebuildIdeal.nD Cert.RebuildIdeal.τ).loc Cert.RebuildIdeal.main_arg8))
      ∧ θ_run (Cert.RebuildReferenceIdeal.defs (F := Ideal)) (onTc (τ := Cert.RebuildReferenceIdeal.τ) (Cert.RebuildReferenceIdeal.main (F := Ideal))) ⟨m', fun _ => 0, g'⟩ (fun r => ∀ c : Dev Cert.RebuildReferenceIdeal.nD,
          r.2.mem ((c.tc : Thread Cert.RebuildReferenceIdeal.nD Cert.RebuildReferenceIdeal.τ).loc Cert.RebuildReferenceIdeal.main_v38) = v0 c
          ∧ r.2.mem ((c.tc : Thread Cert.RebuildReferenceIdeal.nD Cert.RebuildReferenceIdeal.τ).loc Cert.RebuildReferenceIdeal.main_v10) = v1 c
          ∧ r.2.mem ((c.tc : Thread Cert.RebuildReferenceIdeal.nD Cert.RebuildReferenceIdeal.τ).loc Cert.RebuildReferenceIdeal.main_arg0) = m' ((c.tc : Thread Cert.RebuildReferenceIdeal.nD Cert.RebuildReferenceIdeal.τ).loc Cert.RebuildReferenceIdeal.main_arg0)
          ∧ r.2.mem ((c.tc : Thread Cert.RebuildReferenceIdeal.nD Cert.RebuildReferenceIdeal.τ).loc Cert.RebuildReferenceIdeal.main_arg1) = m' ((c.tc : Thread Cert.RebuildReferenceIdeal.nD Cert.RebuildReferenceIdeal.τ).loc Cert.RebuildReferenceIdeal.main_arg1)
          ∧ r.2.mem ((c.tc : Thread Cert.RebuildReferenceIdeal.nD Cert.RebuildReferenceIdeal.τ).loc Cert.RebuildReferenceIdeal.main_arg2) = m' ((c.tc : Thread Cert.RebuildReferenceIdeal.nD Cert.RebuildReferenceIdeal.τ).loc Cert.RebuildReferenceIdeal.main_arg2)
          ∧ r.2.mem ((c.tc : Thread Cert.RebuildReferenceIdeal.nD Cert.RebuildReferenceIdeal.τ).loc Cert.RebuildReferenceIdeal.main_arg3) = m' ((c.tc : Thread Cert.RebuildReferenceIdeal.nD Cert.RebuildReferenceIdeal.τ).loc Cert.RebuildReferenceIdeal.main_arg3)
          ∧ r.2.mem ((c.tc : Thread Cert.RebuildReferenceIdeal.nD Cert.RebuildReferenceIdeal.τ).loc Cert.RebuildReferenceIdeal.main_arg4) = m' ((c.tc : Thread Cert.RebuildReferenceIdeal.nD Cert.RebuildReferenceIdeal.τ).loc Cert.RebuildReferenceIdeal.main_arg4)
          ∧ r.2.mem ((c.tc : Thread Cert.RebuildReferenceIdeal.nD Cert.RebuildReferenceIdeal.τ).loc Cert.RebuildReferenceIdeal.main_arg5) = m' ((c.tc : Thread Cert.RebuildReferenceIdeal.nD Cert.RebuildReferenceIdeal.τ).loc Cert.RebuildReferenceIdeal.main_arg5)
          ∧ r.2.mem ((c.tc : Thread Cert.RebuildReferenceIdeal.nD Cert.RebuildReferenceIdeal.τ).loc Cert.RebuildReferenceIdeal.main_arg6) = m' ((c.tc : Thread Cert.RebuildReferenceIdeal.nD Cert.RebuildReferenceIdeal.τ).loc Cert.RebuildReferenceIdeal.main_arg6)
          ∧ r.2.mem ((c.tc : Thread Cert.RebuildReferenceIdeal.nD Cert.RebuildReferenceIdeal.τ).loc Cert.RebuildReferenceIdeal.main_arg7) = m' ((c.tc : Thread Cert.RebuildReferenceIdeal.nD Cert.RebuildReferenceIdeal.τ).loc Cert.RebuildReferenceIdeal.main_arg7)
          ∧ r.2.mem ((c.tc : Thread Cert.RebuildReferenceIdeal.nD Cert.RebuildReferenceIdeal.τ).loc Cert.RebuildReferenceIdeal.main_arg8) = m' ((c.tc : Thread Cert.RebuildReferenceIdeal.nD Cert.RebuildReferenceIdeal.τ).loc Cert.RebuildReferenceIdeal.main_arg8))

def Claim : Prop :=
  ∃ (hKernel : Cert.Kernel.Facts) (hReference : Cert.Reference.Facts) (hKernelIdeal : Cert.KernelIdeal.Facts) (hReferenceIdeal : Cert.ReferenceIdeal.Facts) (hCodes : Cert.Codes.Facts) (hCodesIdeal : Cert.CodesIdeal.Facts) (hCodesReferenceIdeal : Cert.CodesReferenceIdeal.Facts) (hRebuild : Cert.Rebuild.Facts) (hRebuildIdeal : Cert.RebuildIdeal.Facts) (hRebuildReferenceIdeal : Cert.RebuildReferenceIdeal.Facts) (hPre_idx_in_codebook : Cert.Pre_idx_in_codebook.Facts),
    quiescent_Reference (hReference := hReference)
    ∧ quiescent_KernelIdeal (hKernelIdeal := hKernelIdeal)
    ∧ quiescent_ReferenceIdeal (hReferenceIdeal := hReferenceIdeal)
    ∧ quiescent_Codes (hCodes := hCodes)
    ∧ quiescent_CodesIdeal (hCodesIdeal := hCodesIdeal)
    ∧ quiescent_CodesReferenceIdeal (hCodesReferenceIdeal := hCodesReferenceIdeal)
    ∧ quiescent_Rebuild (hRebuild := hRebuild) (hPre_idx_in_codebook := hPre_idx_in_codebook)
    ∧ quiescent_RebuildIdeal (hRebuildIdeal := hRebuildIdeal) (hPre_idx_in_codebook := hPre_idx_in_codebook)
    ∧ quiescent_RebuildReferenceIdeal (hRebuildReferenceIdeal := hRebuildReferenceIdeal) (hPre_idx_in_codebook := hPre_idx_in_codebook)
    ∧ preserves_Reference_ReferenceIdeal
    ∧ algebraic_KernelIdeal_ReferenceIdeal (hKernelIdeal := hKernelIdeal) (hReferenceIdeal := hReferenceIdeal)
    ∧ preserves_Codes_CodesIdeal
    ∧ algebraic_CodesIdeal_CodesReferenceIdeal (hCodesIdeal := hCodesIdeal) (hCodesReferenceIdeal := hCodesReferenceIdeal)
    ∧ preserves_Rebuild_RebuildIdeal
    ∧ algebraic_RebuildIdeal_RebuildReferenceIdeal (hRebuildIdeal := hRebuildIdeal) (hRebuildReferenceIdeal := hRebuildReferenceIdeal) (hPre_idx_in_codebook := hPre_idx_in_codebook)
-- ==== Pre_idx_in_codebook.lean ====
abbrev S1024x64 : Shape := ⟨2, ![1024, 64]⟩
abbrev S1024 : Shape := ⟨1, ![1024]⟩
abbrev S8192x64 : Shape := ⟨2, ![8192, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x64 .f32) (main_arg1 : IVec S1024 32) (main_arg2 : FVec F S8192x64 .f32) (main_arg3 : FVec F S64x128 .f32) (main_arg4 : FVec F S128 .f32) (main_arg5 : FVec F S128x64 .f32) (main_arg6 : FVec F S64 .f32) (main_arg7 : FVec F S64x128 .f32) (main_arg8 : FVec F S128 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 8192#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x128x256 : Shape := ⟨3, ![1024, 128, 256]⟩
abbrev S64x128 : Shape := ⟨2, ![64, 128]⟩
abbrev S64 : Shape := ⟨1, ![64]⟩
abbrev S128x64 : Shape := ⟨2, ![128, 64]⟩
abbrev S128 : Shape := ⟨1, ![128]⟩
abbrev S8192x64 : Shape := ⟨2, ![8192, 64]⟩
abbrev S1x64 : Shape := ⟨2, ![1, 64]⟩
abbrev S1x128 : Shape := ⟨2, ![1, 128]⟩
abbrev S1024x64 : Shape := ⟨2, ![1024, 64]⟩
abbrev S32x128x256 : Shape := ⟨3, ![32, 128, 256]⟩
abbrev S32x64 : Shape := ⟨2, ![32, 64]⟩
abbrev S32x256x128 : Shape := ⟨3, ![32, 256, 128]⟩
abbrev S8192x128 : Shape := ⟨2, ![8192, 128]⟩
abbrev S32x256x64 : Shape := ⟨3, ![32, 256, 64]⟩
abbrev S_ : Shape := ⟨0, ![]⟩
abbrev S1024 : Shape := ⟨1, ![1024]⟩
abbrev S1024x1 : Shape := ⟨2, ![1024, 1]⟩
abbrev S8192 : Shape := ⟨1, ![8192]⟩
abbrev S1x8192 : Shape := ⟨2, ![1, 8192]⟩
abbrev S8x1x128 : Shape := ⟨3, ![8, 1, 128]⟩
abbrev S128x1 : Shape := ⟨2, ![128, 1]⟩
abbrev S1x1x128 : Shape := ⟨3, ![1, 1, 128]⟩
abbrev S128x8192 : Shape := ⟨2, ![128, 8192]⟩
abbrev S1024x128 : Shape := ⟨2, ![1024, 128]⟩
abbrev S32 : Shape := ⟨1, ![32]⟩
abbrev S32x128 : Shape := ⟨2, ![32, 128]⟩
abbrev S1x1 : Shape := ⟨2, ![1, 1]⟩
abbrev S1x1024x64 : Shape := ⟨3, ![1, 1024, 64]⟩
abbrev S1 : Shape := ⟨1, ![1]⟩
abbrev S1x1x1 : Shape := ⟨3, ![1, 1, 1]⟩
abbrev S1024x128x1 : Shape := ⟨3, ![1024, 128, 1]⟩

abbrev nBuf : Table → Nat
  | .hbm => 40
  | .local .tc .vmem => 28
  | .local .scVector .vmem => 2
  | _ => 0

abbrev bufTy : (tb : Table) → Fin (nBuf tb) → BufTy
  | .hbm, ⟨0, _⟩ => ⟨S1024x128x256, .f32⟩
  | .hbm, ⟨1, _⟩ => ⟨S64x128, .f32⟩
  | .hbm, ⟨2, _⟩ => ⟨S64, .f32⟩
  | .hbm, ⟨3, _⟩ => ⟨S128x64, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S8192x64, .f32⟩
  | .hbm, ⟨8, _⟩ => ⟨S64x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x128, .f32⟩
  | .hbm, ⟨13, _⟩ => ⟨S128, .f32⟩
  | .hbm, ⟨14, _⟩ => ⟨S1x64, .f32⟩
  | .hbm, ⟨15, _⟩ => ⟨S1x128, .f32⟩
  | .hbm, ⟨16, _⟩ => ⟨S1x64, .f32⟩
  | .hbm, ⟨17, _⟩ => ⟨S1024x64, .f32⟩
  | .hbm, ⟨18, _⟩ => ⟨S1024x64, .f32⟩
  | .hbm, ⟨19, _⟩ => ⟨S_, .f32⟩
  | .hbm, ⟨20, _⟩ => ⟨S1024, .f32⟩
  | .hbm, ⟨21, _⟩ => ⟨S1024x1, .f32⟩
  | .hbm, ⟨22, _⟩ => ⟨S8192x64, .f32⟩
  | .hbm, ⟨23, _⟩ => ⟨S_, .f32⟩
  | .hbm, ⟨24, _⟩ => ⟨S8192, .f32⟩
  | .hbm, ⟨25, _⟩ => ⟨S1x8192, .f32⟩
  | .hbm, ⟨26, _⟩ => ⟨S8x1x128, .i32⟩
  | .hbm, ⟨27, _⟩ => ⟨S1024, .i32⟩
  | .hbm, ⟨28, _⟩ => ⟨S_, .f32⟩
  | .hbm, ⟨29, _⟩ => ⟨S8192x64, .f32⟩
  | .hbm, ⟨30, _⟩ => ⟨S8192x128, .f32⟩
  | .hbm, ⟨31, _⟩ => ⟨S1024x128, .f32⟩
  | .hbm, ⟨32, _⟩ => ⟨S1x128, .f32⟩
  | .hbm, ⟨33, _⟩ => ⟨S1x64, .f32⟩
  | .hbm, ⟨34, _⟩ => ⟨S1x128, .f32⟩
  | .hbm, ⟨35, _⟩ => ⟨S1024x128, .f32⟩
  | .hbm, ⟨36, _⟩ => ⟨S1x1, .f32⟩
  | .hbm, ⟨37, _⟩ => ⟨S1024x128x1, .f32⟩
  | .hbm, ⟨38, _⟩ => ⟨S_, .f32⟩
  | .hbm, ⟨39, _⟩ => ⟨S_, .i32⟩
  | .local .tc .vmem, ⟨0, _⟩ => ⟨S32x128x256, .f32⟩
  | .local .tc .vmem, ⟨1, _⟩ => ⟨S32x128x256, .f32⟩
  | .local .tc .vmem, ⟨2, _⟩ => ⟨S64x128, .f32⟩
  | .local .tc .vmem, ⟨3, _⟩ => ⟨S1x64, .f32⟩
  | .local .tc .vmem, ⟨4, _⟩ => ⟨S128x64, .f32⟩
  | .local .tc .vmem, ⟨5, _⟩ => ⟨S1x128, .f32⟩
  | .local .tc .vmem, ⟨6, _⟩ => ⟨S64x128, .f32⟩
  | .local .tc .vmem, ⟨7, _⟩ => ⟨S1x64, .f32⟩
  | .local .tc .vmem, ⟨8, _⟩ => ⟨S32x64, .f32⟩
  | .local .tc .vmem, ⟨9, _⟩ => ⟨S32x64, .f32⟩
  | .local .tc .vmem, ⟨10, _⟩ => ⟨S128x64, .f32⟩
  | .local .tc .vmem, ⟨11, _⟩ => ⟨S128x64, .f32⟩
  | .local .tc .vmem, ⟨12, _⟩ => ⟨S128x1, .f32⟩
  | .local .tc .vmem, ⟨13, _⟩ => ⟨S128x1, .f32⟩
  | .local .tc .vmem, ⟨14, _⟩ => ⟨S1x8192, .f32⟩
  | .local .tc .vmem, ⟨15, _⟩ => ⟨S8192x64, .f32⟩
  | .local .tc .vmem, ⟨16, _⟩ => ⟨S1x1x128, .i32⟩
  | .local .tc .vmem, ⟨17, _⟩ => ⟨S1x1x128, .i32⟩
  | .local .tc .vmem, ⟨18, _⟩ => ⟨S1024x64, .f32⟩
  | .local .tc .vmem, ⟨19, _⟩ => ⟨S1024x128, .f32⟩
  | .local .tc .vmem, ⟨20, _⟩ => ⟨S64x128, .f32⟩
  | .local .tc .vmem, ⟨21, _⟩ => ⟨S1x128, .f32⟩
  | .local .tc .vmem, ⟨22, _⟩ => ⟨S128x64, .f32⟩
  | .local .tc .vmem, ⟨23, _⟩ => ⟨S1x64, .f32⟩
  | .local .tc .vmem, ⟨24, _⟩ => ⟨S64x128, .f32⟩
  | .local .tc .vmem, ⟨25, _⟩ => ⟨S1x128, .f32⟩
  | .local .tc .vmem, ⟨26, _⟩ => ⟨S1024x128, .f32⟩
  | .local .tc .vmem, ⟨27, _⟩ => ⟨S1x1, .f32⟩
  | .local .scVector .vmem, ⟨0, _⟩ => ⟨S32, .i32⟩
  | .local .scVector .vmem, ⟨1, _⟩ => ⟨S32x128, .f32⟩
  | _, _ => ⟨S1024x128x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_v13_scv : Ref sig .scVector := ⟨.hbm, 30, rfl⟩
abbrev main_v11_scv : Ref sig .scVector := ⟨.hbm, 27, rfl⟩
abbrev main_v14_scv : Ref sig .scVector := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg7_0 : Ref sig .tc := ⟨.vmem, 25, rfl⟩
abbrev cc3_stg8_0 : Ref sig .tc := ⟨.vmem, 26, rfl⟩
abbrev cc3_stg9_0 : Ref sig .tc := ⟨.vmem, 27, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem7_0 : DmaSem sig := 28
abbrev cc3_sem8_0 : DmaSem sig := 29
abbrev cc3_sem9_0 : DmaSem sig := 30
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1024x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1024x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1024x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S1024x128x256 : Shape := ⟨3, ![1024, 128, 256]⟩
abbrev S64x128 : Shape := ⟨2, ![64, 128]⟩
abbrev S64 : Shape := ⟨1, ![64]⟩
abbrev S128x64 : Shape := ⟨2, ![128, 64]⟩
abbrev S128 : Shape := ⟨1, ![128]⟩
abbrev S8192x64 : Shape := ⟨2, ![8192, 64]⟩
abbrev S64x1024x256 : Shape := ⟨3, ![64, 1024, 256]⟩
abbrev S1024x64x256 : Shape := ⟨3, ![1024, 64, 256]⟩
abbrev S1x64x1 : Shape := ⟨3, ![1, 64, 1]⟩
abbrev S_ : Shape := ⟨0, ![]⟩
abbrev S128x1024x256 : Shape := ⟨3, ![128, 1024, 256]⟩
abbrev S1x128x1 : Shape := ⟨3, ![1, 128, 1]⟩
abbrev S1024x64 : Shape := ⟨2, ![1024, 64]⟩
abbrev S1024 : Shape := ⟨1, ![1024]⟩
abbrev S1024x1 : Shape := ⟨2, ![1024, 1]⟩
abbrev S8192 : Shape := ⟨1, ![8192]⟩
abbrev S1x8192 : Shape := ⟨2, ![1, 8192]⟩
abbrev S1024x8192 : Shape := ⟨2, ![1024, 8192]⟩
abbrev S64x8192 : Shape := ⟨2, ![64, 8192]⟩
abbrev S1 : Shape := ⟨1, ![1]⟩
abbrev S1x1 : Shape := ⟨2, ![1, 1]⟩
abbrev S1024x64x1 : Shape := ⟨3, ![1024, 64, 1]⟩
abbrev S128x1024x1 : Shape := ⟨3, ![128, 1024, 1]⟩
abbrev S1024x128x1 : Shape := ⟨3, ![1024, 128, 1]⟩
abbrev S64x1024x1 : Shape := ⟨3, ![64, 1024, 1]⟩

abbrev nBuf : Space → Nat
  | .hbm => 138
  | .vmem => 0
  | .smem => 0
  | _ => 0

abbrev hbmTy0_0 (i : Nat) : BufTy := match i % 128 with
  | 0 => ⟨S1024x128x256, .f32⟩
  | 1 => ⟨S64x128, .f32⟩
  | 2 => ⟨S64, .f32⟩
  | 3 => ⟨S128x64, .f32⟩
  | 4 => ⟨S128, .f32⟩
  | 5 => ⟨S64x128, .f32⟩
  | 6 => ⟨S64, .f32⟩
  | 7 => ⟨S8192x64, .f32⟩
  | 8 => ⟨S64x128, .f32⟩
  | 9 => ⟨S128, .f32⟩
  | 10 => ⟨S128x64, .f32⟩
  | 11 => ⟨S64, .f32⟩
  | 12 => ⟨S64x128, .f32⟩
  | 13 => ⟨S128, .f32⟩
  | 14 => ⟨S64x1024x256, .f32⟩
  | 15 => ⟨S1024x64x256, .f32⟩
  | 16 => ⟨S1x64x1, .f32⟩
  | 17 => ⟨S1024x64x256, .f32⟩
  | 18 => ⟨S1024x64x256, .f32⟩
  | 19 => ⟨S_, .f32⟩
  | 20 => ⟨S1024x64x256, .f32⟩
  | 21 => ⟨S1024x64x256, .i1⟩
  | 22 => ⟨S_, .f32⟩
  | 23 => ⟨S1024x64x256, .f32⟩
  | 24 => ⟨S1024x64x256, .f32⟩
  | 25 => ⟨S1024x64x256, .f32⟩
  | 26 => ⟨S128x1024x256, .f32⟩
  | 27 => ⟨S1024x128x256, .f32⟩
  | 28 => ⟨S1x128x1, .f32⟩
  | 29 => ⟨S1024x128x256, .f32⟩
  | 30 => ⟨S1024x128x256, .f32⟩
  | 31 => ⟨S_, .f32⟩
  | 32 => ⟨S1024x128x256, .f32⟩
  | 33 => ⟨S1024x128x256, .i1⟩
  | 34 => ⟨S_, .f32⟩
  | 35 => ⟨S1024x128x256, .f32⟩
  | 36 => ⟨S1024x128x256, .f32⟩
  | 37 => ⟨S1024x128x256, .f32⟩
  | 38 => ⟨S64x1024x256, .f32⟩
  | 39 => ⟨S1024x64x256, .f32⟩
  | 40 => ⟨S1x64x1, .f32⟩
  | 41 => ⟨S1024x64x256, .f32⟩
  | 42 => ⟨S1024x64x256, .f32⟩
  | 43 => ⟨S_, .f32⟩
  | 44 => ⟨S1024x64, .f32⟩
  | 45 => ⟨S1024x64, .f32⟩
  | 46 => ⟨S_, .f32⟩
  | 47 => ⟨S1024, .f32⟩
  | 48 => ⟨S1024x1, .f32⟩
  | 49 => ⟨S8192x64, .f32⟩
  | 50 => ⟨S_, .f32⟩
  | 51 => ⟨S8192, .f32⟩
  | 52 => ⟨S1x8192, .f32⟩
  | 53 => ⟨S1024x8192, .f32⟩
  | 54 => ⟨S1024x8192, .f32⟩
  | 55 => ⟨S1024x8192, .f32⟩
  | 56 => ⟨S64x8192, .f32⟩
  | 57 => ⟨S1024x8192, .f32⟩
  | 58 => ⟨S_, .f32⟩
  | 59 => ⟨S1024x8192, .f32⟩
  | 60 => ⟨S1024x8192, .f32⟩
  | 61 => ⟨S1024x8192, .f32⟩
  | 62 => ⟨S1024x8192, .i32⟩
  | 63 => ⟨S_, .f32⟩
  | 64 => ⟨S_, .i32⟩
  | 65 => ⟨S1024, .f32⟩
  | 66 => ⟨S1024, .i32⟩
  | 67 => ⟨S_, .i32⟩
  | 68 => ⟨S1024, .i32⟩
  | 69 => ⟨S1024, .i1⟩
  | 70 => ⟨S_, .i32⟩
  | 71 => ⟨S1024, .i32⟩
  | 72 => ⟨S1024, .i32⟩
  | 73 => ⟨S1024, .i32⟩
  | 74 => ⟨S1024x1, .i32⟩
  | 75 => ⟨S1, .i32⟩
  | 76 => ⟨S_, .i32⟩
  | 77 => ⟨S1024x1, .i32⟩
  | 78 => ⟨S1024x1, .i1⟩
  | 79 => ⟨S1x1, .i32⟩
  | 80 => ⟨S1024x1, .i32⟩
  | 81 => ⟨S1024x1, .i1⟩
  | 82 => ⟨S1024x1, .i1⟩
  | 83 => ⟨S_, .i1⟩
  | 84 => ⟨S1024, .i1⟩
  | 85 => ⟨S1024x64, .f32⟩
  | 86 => ⟨S1024x64, .i1⟩
  | 87 => ⟨S_, .f32⟩
  | 88 => ⟨S1024x64, .f32⟩
  | 89 => ⟨S1024x64, .f32⟩
  | 90 => ⟨S1024x64, .f32⟩
  | 91 => ⟨S1024x64, .f32⟩
  | 92 => ⟨S_, .f32⟩
  | 93 => ⟨S_, .f32⟩
  | 94 => ⟨S_, .f32⟩
  | 95 => ⟨S_, .f32⟩
  | 96 => ⟨S1024x64, .f32⟩
  | 97 => ⟨S1024x64, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S1024x64, .f32⟩
  | 106 => ⟨S1024x64, .f32⟩
  | 107 => ⟨S1024x64x1, .f32⟩
  | 108 => ⟨S128x1024x1, .f32⟩
  | 109 => ⟨S1024x128x1, .f32⟩
  | 110 => ⟨S1x128x1, .f32⟩
  | 111 => ⟨S1024x128x1, .f32⟩
  | 112 => ⟨S1024x128x1, .f32⟩
  | 113 => ⟨S_, .f32⟩
  | 114 => ⟨S1024x128x1, .f32⟩
  | 115 => ⟨S1024x128x1, .i1⟩
  | 116 => ⟨S_, .f32⟩
  | 117 => ⟨S1024x128x1, .f32⟩
  | 118 => ⟨S1024x128x1, .f32⟩
  | 119 => ⟨S1024x128x1, .f32⟩
  | 120 => ⟨S64x1024x1, .f32⟩
  | 121 => ⟨S1024x64x1, .f32⟩
  | 122 => ⟨S1x64x1, .f32⟩
  | 123 => ⟨S1024x64x1, .f32⟩
  | 124 => ⟨S1024x64x1, .f32⟩
  | 125 => ⟨S_, .f32⟩
  | 126 => ⟨S1024x64x1, .f32⟩
  | 127 => ⟨S1024x64x1, .i1⟩
  | _ => ⟨S1024x128x256, .f32⟩

abbrev hbmTy0_1 (i : Nat) : BufTy := match i % 128 with
  | 0 => ⟨S_, .f32⟩
  | 1 => ⟨S1024x64x1, .f32⟩
  | 2 => ⟨S1024x64x1, .f32⟩
  | 3 => ⟨S1024x64x1, .f32⟩
  | 4 => ⟨S128x1024x1, .f32⟩
  | 5 => ⟨S1024x128x1, .f32⟩
  | 6 => ⟨S1x128x1, .f32⟩
  | 7 => ⟨S1024x128x1, .f32⟩
  | 8 => ⟨S1024x128x1, .f32⟩
  | 9 => ⟨S_, .i32⟩
  | _ => ⟨S1024x128x256, .f32⟩

abbrev hbmTy (i : Nat) : BufTy := match i / 128 with
  | 0 => hbmTy0_0 i
  | 1 => hbmTy0_1 i
  | _ => ⟨S1024x128x256, .f32⟩

abbrev bufTy : (tb : Table) → Fin (tcTables nBuf tb) → BufTy
  | .hbm, ⟨i, _⟩ => hbmTy i
  | _, _ => ⟨S1024x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call2_v0 : Ref sig .tc := ⟨.hbm, 62, rfl⟩
abbrev main_call2_cst : Ref sig .tc := ⟨.hbm, 63, rfl⟩
abbrev main_call2_c : Ref sig .tc := ⟨.hbm, 64, rfl⟩
abbrev main_call2_v1_0 : Ref sig .tc := ⟨.hbm, 65, rfl⟩
abbrev main_v40 : Ref sig .tc := ⟨.hbm, 66, rfl⟩
abbrev main_call3_c : Ref sig .tc := ⟨.hbm, 67, rfl⟩
abbrev main_call3_v0 : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_c_1 : Ref sig .tc := ⟨.hbm, 75, rfl⟩
abbrev main_call3_c_2 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_3 : Ref sig .tc := ⟨.hbm, 83, rfl⟩
abbrev main_call3_v12 : Ref sig .tc := ⟨.hbm, 84, rfl⟩
abbrev main_call3_v13 : Ref sig .tc := ⟨.hbm, 85, rfl⟩
abbrev main_call3_v14 : Ref sig .tc := ⟨.hbm, 86, rfl⟩
abbrev main_call3_cst : Ref sig .tc := ⟨.hbm, 87, rfl⟩
abbrev main_call3_v15 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_cst_7 : Ref sig .tc := ⟨.hbm, 92, rfl⟩
abbrev main_v44 : Ref sig .tc := ⟨.hbm, 93, rfl⟩
abbrev main_cst_8 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_cst_9 : Ref sig .tc := ⟨.hbm, 98, rfl⟩
abbrev main_v48 : Ref sig .tc := ⟨.hbm, 99, rfl⟩
abbrev main_cst_10 : Ref sig .tc := ⟨.hbm, 100, rfl⟩
abbrev main_v49 : Ref sig .tc := ⟨.hbm, 101, rfl⟩
abbrev main_cst_11 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_cst_12 : Ref sig .tc := ⟨.hbm, 113, rfl⟩
abbrev main_v60 : Ref sig .tc := ⟨.hbm, 114, rfl⟩
abbrev main_v61 : Ref sig .tc := ⟨.hbm, 115, rfl⟩
abbrev main_cst_13 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_cst_14 : Ref sig .tc := ⟨.hbm, 125, rfl⟩
abbrev main_v70 : Ref sig .tc := ⟨.hbm, 126, rfl⟩
abbrev main_v71 : Ref sig .tc := ⟨.hbm, 127, rfl⟩
abbrev main_cst_15 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_c : Ref sig .tc := ⟨.hbm, 137, rfl⟩

abbrev nD : Nat := 1
abbrev τ : Topo := Topo.v7x

variable {F : FTy → Type} [FloatOps F]
-- ==== Codes.lean ====
abbrev S1024x128x256 : Shape := ⟨3, ![1024, 128, 256]⟩
abbrev S64x128 : Shape := ⟨2, ![64, 128]⟩
abbrev S64 : Shape := ⟨1, ![64]⟩
abbrev S128x64 : Shape := ⟨2, ![128, 64]⟩
abbrev S128 : Shape := ⟨1, ![128]⟩
abbrev S8192x64 : Shape := ⟨2, ![8192, 64]⟩
abbrev S1x64 : Shape := ⟨2, ![1, 64]⟩
abbrev S1x128 : Shape := ⟨2, ![1, 128]⟩
abbrev S1024x64 : Shape := ⟨2, ![1024, 64]⟩
abbrev S32x128x256 : Shape := ⟨3, ![32, 128, 256]⟩
abbrev S32x64 : Shape := ⟨2, ![32, 64]⟩
abbrev S32x256x128 : Shape := ⟨3, ![32, 256, 128]⟩
abbrev S8192x128 : Shape := ⟨2, ![8192, 128]⟩
abbrev S32x256x64 : Shape := ⟨3, ![32, 256, 64]⟩
abbrev S_ : Shape := ⟨0, ![]⟩
abbrev S1024 : Shape := ⟨1, ![1024]⟩
abbrev S1024x1 : Shape := ⟨2, ![1024, 1]⟩
abbrev S8192 : Shape := ⟨1, ![8192]⟩
abbrev S1x8192 : Shape := ⟨2, ![1, 8192]⟩
abbrev S8x1x128 : Shape := ⟨3, ![8, 1, 128]⟩
abbrev S128x1 : Shape := ⟨2, ![128, 1]⟩
abbrev S1x1x128 : Shape := ⟨3, ![1, 1, 128]⟩
abbrev S128x8192 : Shape := ⟨2, ![128, 8192]⟩

abbrev nBuf : Space → Nat
  | .hbm => 22
  | .vmem => 18
  | .smem => 0
  | _ => 0

abbrev bufTy : (tb : Table) → Fin (tcTables nBuf tb) → BufTy
  | .hbm, ⟨0, _⟩ => ⟨S1024x128x256, .f32⟩
  | .hbm, ⟨1, _⟩ => ⟨S64x128, .f32⟩
  | .hbm, ⟨2, _⟩ => ⟨S64, .f32⟩
  | .hbm, ⟨3, _⟩ => ⟨S128x64, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S8192x64, .f32⟩
  | .hbm, ⟨8, _⟩ => ⟨S1x64, .f32⟩
  | .hbm, ⟨9, _⟩ => ⟨S1x128, .f32⟩
  | .hbm, ⟨10, _⟩ => ⟨S1x64, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S8192x64, .f32⟩
  | .hbm, ⟨17, _⟩ => ⟨S_, .f32⟩
  | .hbm, ⟨18, _⟩ => ⟨S8192, .f32⟩
  | .hbm, ⟨19, _⟩ => ⟨S1x8192, .f32⟩
  | .hbm, ⟨20, _⟩ => ⟨S8x1x128, .i32⟩
  | .hbm, ⟨21, _⟩ => ⟨S1024, .i32⟩
  | .local _ .vmem, ⟨0, _⟩ => ⟨S32x128x256, .f32⟩
  | .local _ .vmem, ⟨1, _⟩ => ⟨S32x128x256, .f32⟩
  | .local _ .vmem, ⟨2, _⟩ => ⟨S64x128, .f32⟩
  | .local _ .vmem, ⟨3, _⟩ => ⟨S1x64, .f32⟩
  | .local _ .vmem, ⟨4, _⟩ => ⟨S128x64, .f32⟩
  | .local _ .vmem, ⟨5, _⟩ => ⟨S1x128, .f32⟩
  | .local _ .vmem, ⟨6, _⟩ => ⟨S64x128, .f32⟩
  | .local _ .vmem, ⟨7, _⟩ => ⟨S1x64, .f32⟩
  | .local _ .vmem, ⟨8, _⟩ => ⟨S32x64, .f32⟩
  | .local _ .vmem, ⟨9, _⟩ => ⟨S32x64, .f32⟩
  | .local _ .vmem, ⟨10, _⟩ => ⟨S128x64, .f32⟩
  | .local _ .vmem, ⟨11, _⟩ => ⟨S128x64, .f32⟩
  | .local _ .vmem, ⟨12, _⟩ => ⟨S128x1, .f32⟩
  | .local _ .vmem, ⟨13, _⟩ => ⟨S128x1, .f32⟩
  | .local _ .vmem, ⟨14, _⟩ => ⟨S1x8192, .f32⟩
  | .local _ .vmem, ⟨15, _⟩ => ⟨S8192x64, .f32⟩
  | .local _ .vmem, ⟨16, _⟩ => ⟨S1x1x128, .i32⟩
  | .local _ .vmem, ⟨17, _⟩ => ⟨S1x1x128, .i32⟩
  | _, _ => ⟨S1024x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== CodesReferenceIdeal.lean ====
abbrev S1024x128x256 : Shape := ⟨3, ![1024, 128, 256]⟩
abbrev S64x128 : Shape := ⟨2, ![64, 128]⟩
abbrev S64 : Shape := ⟨1, ![64]⟩
abbrev S128x64 : Shape := ⟨2, ![128, 64]⟩
abbrev S128 : Shape := ⟨1, ![128]⟩
abbrev S8192x64 : Shape := ⟨2, ![8192, 64]⟩
abbrev S64x1024x256 : Shape := ⟨3, ![64, 1024, 256]⟩
abbrev S1024x64x256 : Shape := ⟨3, ![1024, 64, 256]⟩
abbrev S1x64x1 : Shape := ⟨3, ![1, 64, 1]⟩
abbrev S_ : Shape := ⟨0, ![]⟩
abbrev S128x1024x256 : Shape := ⟨3, ![128, 1024, 256]⟩
abbrev S1x128x1 : Shape := ⟨3, ![1, 128, 1]⟩
abbrev S1024x64 : Shape := ⟨2, ![1024, 64]⟩
abbrev S1024 : Shape := ⟨1, ![1024]⟩
abbrev S1024x1 : Shape := ⟨2, ![1024, 1]⟩
abbrev S8192 : Shape := ⟨1, ![8192]⟩
abbrev S1x8192 : Shape := ⟨2, ![1, 8192]⟩
abbrev S1024x8192 : Shape := ⟨2, ![1024, 8192]⟩
abbrev S64x8192 : Shape := ⟨2, ![64, 8192]⟩

abbrev nBuf : Space → Nat
  | .hbm => 61
  | .vmem => 0
  | .smem => 0
  | _ => 0

abbrev bufTy : (tb : Table) → Fin (tcTables nBuf tb) → BufTy
  | .hbm, ⟨0, _⟩ => ⟨S1024x128x256, .f32⟩
  | .hbm, ⟨1, _⟩ => ⟨S64x128, .f32⟩
  | .hbm, ⟨2, _⟩ => ⟨S64, .f32⟩
  | .hbm, ⟨3, _⟩ => ⟨S128x64, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S8192x64, .f32⟩
  | .hbm, ⟨8, _⟩ => ⟨S64x1024x256, .f32⟩
  | .hbm, ⟨9, _⟩ => ⟨S1024x64x256, .f32⟩
  | .hbm, ⟨10, _⟩ => ⟨S1x64x1, .f32⟩
  | .hbm, ⟨11, _⟩ => ⟨S1024x64x256, .f32⟩
  | .hbm, ⟨12, _⟩ => ⟨S1024x64x256, .f32⟩
  | .hbm, ⟨13, _⟩ => ⟨S_, .f32⟩
  | .hbm, ⟨14, _⟩ => ⟨S1024x64x256, .f32⟩
  | .hbm, ⟨15, _⟩ => ⟨S1024x64x256, .i1⟩
  | .hbm, ⟨16, _⟩ => ⟨S_, .f32⟩
  | .hbm, ⟨17, _⟩ => ⟨S1024x64x256, .f32⟩
  | .hbm, ⟨18, _⟩ => ⟨S1024x64x256, .f32⟩
  | .hbm, ⟨19, _⟩ => ⟨S1024x64x256, .f32⟩
  | .hbm, ⟨20, _⟩ => ⟨S128x1024x256, .f32⟩
  | .hbm, ⟨21, _⟩ => ⟨S1024x128x256, .f32⟩
  | .hbm, ⟨22, _⟩ => ⟨S1x128x1, .f32⟩
  | .hbm, ⟨23, _⟩ => ⟨S1024x128x256, .f32⟩
  | .hbm, ⟨24, _⟩ => ⟨S1024x128x256, .f32⟩
  | .hbm, ⟨25, _⟩ => ⟨S_, .f32⟩
  | .hbm, ⟨26, _⟩ => ⟨S1024x128x256, .f32⟩
  | .hbm, ⟨27, _⟩ => ⟨S1024x128x256, .i1⟩
  | .hbm, ⟨28, _⟩ => ⟨S_, .f32⟩
  | .hbm, ⟨29, _⟩ => ⟨S1024x128x256, .f32⟩
  | .hbm, ⟨30, _⟩ => ⟨S1024x128x256, .f32⟩
  | .hbm, ⟨31, _⟩ => ⟨S1024x128x256, .f32⟩
  | .hbm, ⟨32, _⟩ => ⟨S64x1024x256, .f32⟩
  | .hbm, ⟨33, _⟩ => ⟨S1024x64x256, .f32⟩
  | .hbm, ⟨34, _⟩ => ⟨S1x64x1, .f32⟩
  | .hbm, ⟨35, _⟩ => ⟨S1024x64x256, .f32⟩
  | .hbm, ⟨36, _⟩ => ⟨S1024x64x256, .f32⟩
  | .hbm, ⟨37, _⟩ => ⟨S_, .f32⟩
  | .hbm, ⟨38, _⟩ => ⟨S1024x64, .f32⟩
  | .hbm, ⟨39, _⟩ => ⟨S1024x64, .f32⟩
  | .hbm, ⟨40, _⟩ => ⟨S_, .f32⟩
  | .hbm, ⟨41, _⟩ => ⟨S1024, .f32⟩
  | .hbm, ⟨42, _⟩ => ⟨S1024x1, .f32⟩
  | .hbm, ⟨43, _⟩ => ⟨S8192x64, .f32⟩
  | .hbm, ⟨44, _⟩ => ⟨S_, .f32⟩
  | .hbm, ⟨45, _⟩ => ⟨S8192, .f32⟩
  | .hbm, ⟨46, _⟩ => ⟨S1x8192, .f32⟩
  | .hbm, ⟨47, _⟩ => ⟨S1024x8192, .f32⟩
  | .hbm, ⟨48, _⟩ => ⟨S1024x8192, .f32⟩
  | .hbm, ⟨49, _⟩ => ⟨S1024x8192, .f32⟩
  | .hbm, ⟨50, _⟩ => ⟨S64x8192, .f32⟩
  | .hbm, ⟨51, _⟩ => ⟨S1024x8192, .f32⟩
  | .hbm, ⟨52, _⟩ => ⟨S_, .f32⟩
  | .hbm, ⟨53, _⟩ => ⟨S1024x8192, .f32⟩
  | .hbm, ⟨54, _⟩ => ⟨S1024x8192, .f32⟩
  | .hbm, ⟨55, _⟩ => ⟨S1024x8192, .f32⟩
  | .hbm, ⟨56, _⟩ => ⟨S1024x8192, .i32⟩
  | .hbm, ⟨57, _⟩ => ⟨S_, .f32⟩
  | .hbm, ⟨58, _⟩ => ⟨S_, .i32⟩
  | .hbm, ⟨59, _⟩ => ⟨S1024, .f32⟩
  | .hbm, ⟨60, _⟩ => ⟨S1024, .i32⟩
  | _, _ => ⟨S1024x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call2_v0 : Ref sig .tc := ⟨.hbm, 56, rfl⟩
abbrev main_call2_cst : Ref sig .tc := ⟨.hbm, 57, rfl⟩
abbrev main_call2_c : Ref sig .tc := ⟨.hbm, 58, rfl⟩
abbrev main_call2_v1_0 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Rebuild.lean ====
abbrev S1024x64 : Shape := ⟨2, ![1024, 64]⟩
abbrev S1024 : Shape := ⟨1, ![1024]⟩
abbrev S8192x64 : Shape := ⟨2, ![8192, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S8192x128 : Shape := ⟨2, ![8192, 128]⟩
abbrev S1024x128 : Shape := ⟨2, ![1024, 128]⟩
abbrev S32 : Shape := ⟨1, ![32]⟩
abbrev S32x128 : Shape := ⟨2, ![32, 128]⟩
abbrev S1x128 : Shape := ⟨2, ![1, 128]⟩
abbrev S1x64 : Shape := ⟨2, ![1, 64]⟩
abbrev S1x1 : Shape := ⟨2, ![1, 1]⟩
abbrev S1x1024x64 : Shape := ⟨3, ![1, 1024, 64]⟩
abbrev S1 : Shape := ⟨1, ![1]⟩
abbrev S1x1x1 : Shape := ⟨3, ![1, 1, 1]⟩
abbrev S1024x128x1 : Shape := ⟨3, ![1024, 128, 1]⟩

abbrev nBuf : Table → Nat
  | .hbm => 20
  | .local .tc .vmem => 10
  | .local .scVector .vmem => 2
  | _ => 0

abbrev bufTy : (tb : Table) → Fin (nBuf tb) → BufTy
  | .hbm, ⟨0, _⟩ => ⟨S1024x64, .f32⟩
  | .hbm, ⟨1, _⟩ => ⟨S1024, .i32⟩
  | .hbm, ⟨2, _⟩ => ⟨S8192x64, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S_, .f32⟩
  | .hbm, ⟨10, _⟩ => ⟨S8192x64, .f32⟩
  | .hbm, ⟨11, _⟩ => ⟨S8192x128, .f32⟩
  | .hbm, ⟨12, _⟩ => ⟨S1024x128, .f32⟩
  | .hbm, ⟨13, _⟩ => ⟨S1x128, .f32⟩
  | .hbm, ⟨14, _⟩ => ⟨S1x64, .f32⟩
  | .hbm, ⟨15, _⟩ => ⟨S1x128, .f32⟩
  | .hbm, ⟨16, _⟩ => ⟨S1024x128, .f32⟩
  | .hbm, ⟨17, _⟩ => ⟨S1x1, .f32⟩
  | .hbm, ⟨18, _⟩ => ⟨S1024x128x1, .f32⟩
  | .hbm, ⟨19, _⟩ => ⟨S_, .f32⟩
  | .local .tc .vmem, ⟨0, _⟩ => ⟨S1024x64, .f32⟩
  | .local .tc .vmem, ⟨1, _⟩ => ⟨S1024x128, .f32⟩
  | .local .tc .vmem, ⟨2, _⟩ => ⟨S64x128, .f32⟩
  | .local .tc .vmem, ⟨3, _⟩ => ⟨S1x128, .f32⟩
  | .local .tc .vmem, ⟨4, _⟩ => ⟨S128x64, .f32⟩
  | .local .tc .vmem, ⟨5, _⟩ => ⟨S1x64, .f32⟩
  | .local .tc .vmem, ⟨6, _⟩ => ⟨S64x128, .f32⟩
  | .local .tc .vmem, ⟨7, _⟩ => ⟨S1x128, .f32⟩
  | .local .tc .vmem, ⟨8, _⟩ => ⟨S1024x128, .f32⟩
  | .local .tc .vmem, ⟨9, _⟩ => ⟨S1x1, .f32⟩
  | .local .scVector .vmem, ⟨0, _⟩ => ⟨S32, .i32⟩
  | .local .scVector .vmem, ⟨1, _⟩ => ⟨S32x128, .f32⟩
  | _, _ => ⟨S1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8 : Ref sig .tc := ⟨.hbm, 19, rfl⟩
abbrev main_v1_scv : Ref sig .scVector := ⟨.hbm, 11, rfl⟩
abbrev main_arg1_scv : Ref sig .scVector := ⟨.hbm, 1, rfl⟩
abbrev main_v2_scv : Ref sig .scVector := ⟨.hbm, 12, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem9_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== RebuildReferenceIdeal.lean ====
abbrev S1024x64 : Shape := ⟨2, ![1024, 64]⟩
abbrev S1024 : Shape := ⟨1, ![1024]⟩
abbrev S8192x64 : Shape := ⟨2, ![8192, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x64x1 : Shape := ⟨3, ![1024, 64, 1]⟩
abbrev S128x1024x1 : Shape := ⟨3, ![128, 1024, 1]⟩
abbrev S1024x128x1 : Shape := ⟨3, ![1024, 128, 1]⟩
abbrev S1x128x1 : Shape := ⟨3, ![1, 128, 1]⟩
abbrev S64x1024x1 : Shape := ⟨3, ![64, 1024, 1]⟩
abbrev S1x64x1 : Shape := ⟨3, ![1, 64, 1]⟩

abbrev nBuf : Space → Nat
  | .hbm => 79
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S8192x64, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1, .i32⟩
  | .hbm, ⟨18, _⟩ => ⟨S_, .i32⟩
  | .hbm, ⟨19, _⟩ => ⟨S1024x1, .i32⟩
  | .hbm, ⟨20, _⟩ => ⟨S1024x1, .i1⟩
  | .hbm, ⟨21, _⟩ => ⟨S1x1, .i32⟩
  | .hbm, ⟨22, _⟩ => ⟨S1024x1, .i32⟩
  | .hbm, ⟨23, _⟩ => ⟨S1024x1, .i1⟩
  | .hbm, ⟨24, _⟩ => ⟨S1024x1, .i1⟩
  | .hbm, ⟨25, _⟩ => ⟨S_, .i1⟩
  | .hbm, ⟨26, _⟩ => ⟨S1024, .i1⟩
  | .hbm, ⟨27, _⟩ => ⟨S1024x64, .f32⟩
  | .hbm, ⟨28, _⟩ => ⟨S1024x64, .i1⟩
  | .hbm, ⟨29, _⟩ => ⟨S_, .f32⟩
  | .hbm, ⟨30, _⟩ => ⟨S1024x64, .f32⟩
  | .hbm, ⟨31, _⟩ => ⟨S1024x64, .f32⟩
  | .hbm, ⟨32, _⟩ => ⟨S1024x64, .f32⟩
  | .hbm, ⟨33, _⟩ => ⟨S1024x64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1024x64, .f32⟩
  | .hbm, ⟨39, _⟩ => ⟨S1024x64, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1024x64, .f32⟩
  | .hbm, ⟨48, _⟩ => ⟨S1024x64, .f32⟩
  | .hbm, ⟨49, _⟩ => ⟨S1024x64x1, .f32⟩
  | .hbm, ⟨50, _⟩ => ⟨S128x1024x1, .f32⟩
  | .hbm, ⟨51, _⟩ => ⟨S1024x128x1, .f32⟩
  | .hbm, ⟨52, _⟩ => ⟨S1x128x1, .f32⟩
  | .hbm, ⟨53, _⟩ => ⟨S1024x128x1, .f32⟩
  | .hbm, ⟨54, _⟩ => ⟨S1024x128x1, .f32⟩
  | .hbm, ⟨55, _⟩ => ⟨S_, .f32⟩
  | .hbm, ⟨56, _⟩ => ⟨S1024x128x1, .f32⟩
  | .hbm, ⟨57, _⟩ => ⟨S1024x128x1, .i1⟩
  | .hbm, ⟨58, _⟩ => ⟨S_, .f32⟩
  | .hbm, ⟨59, _⟩ => ⟨S1024x128x1, .f32⟩
  | .hbm, ⟨60, _⟩ => ⟨S1024x128x1, .f32⟩
  | .hbm, ⟨61, _⟩ => ⟨S1024x128x1, .f32⟩
  | .hbm, ⟨62, _⟩ => ⟨S64x1024x1, .f32⟩
  | .hbm, ⟨63, _⟩ => ⟨S1024x64x1, .f32⟩
  | .hbm, ⟨64, _⟩ => ⟨S1x64x1, .f32⟩
  | .hbm, ⟨65, _⟩ => ⟨S1024x64x1, .f32⟩
  | .hbm, ⟨66, _⟩ => ⟨S1024x64x1, .f32⟩
  | .hbm, ⟨67, _⟩ => ⟨S_, .f32⟩
  | .hbm, ⟨68, _⟩ => ⟨S1024x64x1, .f32⟩
  | .hbm, ⟨69, _⟩ => ⟨S1024x64x1, .i1⟩
  | .hbm, ⟨70, _⟩ => ⟨S_, .f32⟩
  | .hbm, ⟨71, _⟩ => ⟨S1024x64x1, .f32⟩
  | .hbm, ⟨72, _⟩ => ⟨S1024x64x1, .f32⟩
  | .hbm, ⟨73, _⟩ => ⟨S1024x64x1, .f32⟩
  | .hbm, ⟨74, _⟩ => ⟨S128x1024x1, .f32⟩
  | .hbm, ⟨75, _⟩ => ⟨S1024x128x1, .f32⟩
  | .hbm, ⟨76, _⟩ => ⟨S1x128x1, .f32⟩
  | .hbm, ⟨77, _⟩ => ⟨S1024x128x1, .f32⟩
  | .hbm, ⟨78, _⟩ => ⟨S1024x128x1, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_cst : Ref sig .tc := ⟨.hbm, 34, rfl⟩
abbrev main_v3 : Ref sig .tc := ⟨.hbm, 35, rfl⟩
abbrev main_cst_0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst_1 : Ref sig .tc := ⟨.hbm, 40, rfl⟩
abbrev main_v7 : Ref sig .tc := ⟨.hbm, 41, rfl⟩
abbrev main_cst_2 : Ref sig .tc := ⟨.hbm, 42, rfl⟩
abbrev main_v8 : Ref sig .tc := ⟨.hbm, 43, rfl⟩
abbrev main_cst_3 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_cst_4 : Ref sig .tc := ⟨.hbm, 55, rfl⟩
abbrev main_v19 : Ref sig .tc := ⟨.hbm, 56, rfl⟩
abbrev main_v20 : Ref sig .tc := ⟨.hbm, 57, rfl⟩
abbrev main_cst_5 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_6 : Ref sig .tc := ⟨.hbm, 67, rfl⟩
abbrev main_v29 : Ref sig .tc := ⟨.hbm, 68, rfl⟩
abbrev main_v30 : Ref sig .tc := ⟨.hbm, 69, rfl⟩
abbrev main_cst_7 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩

abbrev nD : Nat := 1
abbrev τ : Topo := Topo.v7x

variable {F : FTy → Type} [FloatOps F]
-- ==== Proof.KRegions.lean ====
/- The three TensorCore regions of the kernel, each at a parameter `V` — the TensorCore's buffer contents when the region is
   entered —, at a parameter `O` — the signals the core owes the SparseCores meanwhile — and at a bound `B` on the waits it
   has recorded: each window's block at a point (`iblkK`), what the body leaves in each output's buffer (`outK_W`), the
   body's triple (`sound_kernelK`), the region's proof data (`datK`) and its obligation (`body_obligationK`). The three are
   the encoder (0), the nearest-row search (1) and the decoder (3). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.SparseCore.Quiescent
public import Idealize.ShloMosaic.Lib.SparseCore.Ops
public import Idealize.ShloMosaic.Lib.Ring
public import Idealize.ShloMosaic.Lib.Tactic
public import Idealize.ShloMosaic.Lib.WordCmp

@[expose] public section

-- a rectangle of these extents is looked through once per coordinate of its long axes
set_option maxRecDepth 16384

noncomputable section

namespace Cert.Proof.K

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources: the handshakes with the SparseCores, the pipelines' rounds, the transfers' counters. -/
abbrev UH : Type := URounds (GSem nD τ sig) ℕ
abbrev UU : Type := UH × (UR sig nD τ × Counters)

local notation "𝕄" => MT nD τ sig (HIx 1) (Elt F) ℕ UU ℕ

/-- A region's invariant: what it scopes beyond its windows' buffers, and the generator register at some state. -/
def ΦR {gr W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

section Regions
-- the TensorCore's buffer contents when a region is entered: the parameter every region's half is stated at, which
-- the run instantiates per region
variable (V : (c : Dev nD) → (b : Ref sig .tc) → Buf (Elt F) ((c : Thread nD τ).loc b))
-- what the core owes the SparseCores while the region runs, and a bound on the waits it has recorded
variable (O : (c : Dev nD) → CellTallies nD τ sig (HIx 1)) (B : (c : Dev nD) → Set (SemLoc sig × HIx 1))

/-! # REGION 0 of @main: custom_call 0, `cc0__encoder_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) (HIx 1) ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) (HIx 1) ℕ UU ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) (HIx 1) ℕ UU ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) (HIx 1) ℕ UU ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) (HIx 1) ℕ UU ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S32x128x256 := Rect.unit (s := S32x128x256) ![0, 0, 0] S32x128x256.size inb_S32x128x256_S32x128x256_0_0_0
abbrev r0_1 : Rect S64x128 := Rect.unit (s := S64x128) ![0, 0] S64x128.size inb_S64x128_S64x128_0_0
abbrev r0_2 : Rect S1x64 := Rect.unit (s := S1x64) ![0, 0] S1x64.size inb_S1x64_S1x64_0_0
abbrev r0_3 : Rect S128x64 := Rect.unit (s := S128x64) ![0, 0] S128x64.size inb_S128x64_S128x64_0_0
abbrev r0_4 : Rect S1x128 := Rect.unit (s := S1x128) ![0, 0] S1x128.size inb_S1x128_S1x128_0_0
abbrev r0_5 : Rect S32x64 := Rect.unit (s := S32x64) ![0, 0] S32x64.size inb_S32x64_S32x64_0_0

/-! ## What the body leaves in each output window's buffer -/

/-- Window 7's staging buffer after the body, from the input windows' blocks: its 1 store as pieces, LAST
    FIRST (Lib/Pipeline/FrameBody.lean `View.canon`; the payloads are the skeleton's). -/
def out0_7 (x0 : Vec F S32x128x256 .f32) (x1 : Vec F S64x128 .f32) (x2 : Vec F S1x64 .f32) (x3 : Vec F S128x64 .f32) (x4 : Vec F S1x128 .f32) (x5 : Vec F S64x128 .f32) (x6 : Vec F S1x64 .f32) : Vec F S32x64 .f32 :=
  View.canon [⟨r0_5, k0_pay1 (View.ld x0 r0_0) (View.ld x1 r0_1) (View.ld x2 r0_2) (View.ld x3 r0_3) (View.ld x4 r0_4) (View.ld x5 r0_1) (View.ld x6 r0_2)⟩]

/-- Its stores tile the buffer, so they cover it. -/
theorem cover0_7 (p0 : Vec F S32x64 .f32) (y : S32x64.Idx) :
    ∃ pc ∈ ([⟨r0_5, p0⟩] : List (View.Piece (Elt F) S32x64 .f32)), y ∈ pc.1.set :=
  View.cover_of_tiled [⟨r0_5, p0⟩] S32x64.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S32x128x256 .f32) (harg1 : arg1.IsWhole) (arg2 : Memref sig .tc .vmem S64x128 .f32) (harg2 : arg2.IsWhole) (arg3 : Memref sig .tc .vmem S1x64 .f32) (harg3 : arg3.IsWhole) (arg4 : Memref sig .tc .vmem S128x64 .f32) (harg4 : arg4.IsWhole) (arg5 : Memref sig .tc .vmem S1x128 .f32) (harg5 : arg5.IsWhole) (arg6 : Memref sig .tc .vmem S64x128 .f32) (harg6 : arg6.IsWhole) (arg7 : Memref sig .tc .vmem S1x64 .f32) (harg7 : arg7.IsWhole) (arg8 : Memref sig .tc .vmem S32x64 .f32) (harg8 : arg8.IsWhole)
    (x0 : Vec F S32x128x256 .f32) (x1 : Vec F S64x128 .f32) (x2 : Vec F S1x64 .f32) (x3 : Vec F S128x64 .f32) (x4 : Vec F S1x128 .f32) (x5 : Vec F S64x128 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__encoder_kernel i arg1 harg1 arg2 harg2 arg3 harg3 arg4 harg4 arg5 harg5 arg6 harg6 arg7 harg7 arg8 harg8) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them (`V`); after the body at
    point `t` each input's buffer at its block and each output's at `out0_W` of the input blocks; the invariant the
    class's (`ΦR`: the scoped rest and the generator register, untouched); `O c` owed;
    full shares. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := ΦR spec0 c
  q _ := fullShare
  owed _ := O c
  recorded _ := B c

/-- The proof data's arrays are the region-entry contents, by projecting the definition (`dsimp`): a region record cites
    this for its arrays rather than have Lean unfold `V`, the fold through @main up to the region's entry. -/
theorem A_eq0 (c : Dev nD) (w : Fin cfg0.W) : (dat0 V O B c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = iblk0 V c 2 t := by dsimp only [dat0]
theorem after0_3 (c : Dev nD) (t : Fin cfg0.N) : (dat0 V O B c).after 3 t = iblk0 V c 3 t := by dsimp only [dat0]
theorem after0_4 (c : Dev nD) (t : Fin cfg0.N) : (dat0 V O B c).after 4 t = iblk0 V c 4 t := by dsimp only [dat0]
theorem after0_5 (c : Dev nD) (t : Fin cfg0.N) : (dat0 V O B c).after 5 t = iblk0 V c 5 t := by dsimp only [dat0]
theorem after0_6 (c : Dev nD) (t : Fin cfg0.N) : (dat0 V O B c).after 6 t = iblk0 V c 6 t := by dsimp only [dat0]
theorem after0_7 (c : Dev nD) (t : Fin cfg0.N) : (dat0 V O B c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not (`beforeK_W_of`). -/
theorem before0_0 (c : Dev nD) (t : Fin cfg0.N) (d) : (dat0 V O B c).before 0 t d = iblk0 V c 0 t :=
  before0_0_of V (dat0 V O B c) (A_eq0 V O B c 0) (after0_0 V O B c) t d
theorem before0_1 (c : Dev nD) (t : Fin cfg0.N) (d) : (dat0 V O B c).before 1 t d = iblk0 V c 1 t :=
  before0_1_of V (dat0 V O B c) (A_eq0 V O B c 1) (after0_1 V O B c) t d
theorem before0_2 (c : Dev nD) (t : Fin cfg0.N) (d) : (dat0 V O B c).before 2 t d = iblk0 V c 2 t :=
  before0_2_of V (dat0 V O B c) (A_eq0 V O B c 2) (after0_2 V O B c) t d
theorem before0_3 (c : Dev nD) (t : Fin cfg0.N) (d) : (dat0 V O B c).before 3 t d = iblk0 V c 3 t :=
  before0_3_of V (dat0 V O B c) (A_eq0 V O B c 3) (after0_3 V O B c) t d
theorem before0_4 (c : Dev nD) (t : Fin cfg0.N) (d) : (dat0 V O B c).before 4 t d = iblk0 V c 4 t :=
  before0_4_of V (dat0 V O B c) (A_eq0 V O B c 4) (after0_4 V O B c) t d
theorem before0_5 (c : Dev nD) (t : Fin cfg0.N) (d) : (dat0 V O B c).before 5 t d = iblk0 V c 5 t :=
  before0_5_of V (dat0 V O B c) (A_eq0 V O B c 5) (after0_5 V O B c) t d
theorem before0_6 (c : Dev nD) (t : Fin cfg0.N) (d) : (dat0 V O B c).before 6 t d = iblk0 V c 6 t :=
  before0_6_of V (dat0 V O B c) (A_eq0 V O B c 6) (after0_6 V O B c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V O B c).Φ t.castSucc ∗ (dat0 V O B c).owesAt none t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d))
    ∗ (∃ d, owns (c : Thread nD τ) (st0_3 t) fullShare ((dat0 V O B c).before 3 t d))
    ∗ (∃ d, owns (c : Thread nD τ) (st0_4 t) fullShare ((dat0 V O B c).before 4 t d))
    ∗ (∃ d, owns (c : Thread nD τ) (st0_5 t) fullShare ((dat0 V O B c).before 5 t d))
    ∗ (∃ d, owns (c : Thread nD τ) (st0_6 t) fullShare ((dat0 V O B c).before 6 t d))
    ∗ (∃ d, owns (c : Thread nD τ) (st0_7 t) fullShare ((dat0 V O B c).before 7 t d)))

/-- and what it returns. -/
def bodyPost0 (c : Dev nD) (t : Fin cfg0.N) : sProp 𝕄 :=
  iprop((dat0 V O B c).Φ t.succ ∗ (dat0 V O B c).owesAt none t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t)
    ∗ owns (c : Thread nD τ) (st0_3 t) fullShare ((dat0 V O B c).after 3 t)
    ∗ owns (c : Thread nD τ) (st0_4 t) fullShare ((dat0 V O B c).after 4 t)
    ∗ owns (c : Thread nD τ) (st0_5 t) fullShare ((dat0 V O B c).after 5 t)
    ∗ owns (c : Thread nD τ) (st0_6 t) fullShare ((dat0 V O B c).after 6 t)
    ∗ owns (c : Thread nD τ) (st0_7 t) fullShare ((dat0 V O B c).after 7 t))

/-- The body at any point: the inputs' memrefs hold their blocks (`before0_W`), so `sound_kernel0` applies; the invariant and
    the core's `owes` pass through unread. -/
theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1, before0_2, before0_3, before0_4, before0_5, before0_6]
  rw [show (dat0 V O B c).Φ t.succ = (dat0 V O B c).Φ t.castSucc from rfl,
    show (dat0 V O B c).owesAt none t.succ = (dat0 V O B c).owesAt none t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rfl

/-- The library's body obligation, at every point: the body's triple restated (Lib/Pipeline/FrameBody.lean `triple_restated`). -/
theorem body_obligation0 (c : Dev nD) : BodyObligation (dat0 (F := F) V O B c) (defs₀ (F := F)) Variants.none none Set.univ := fun t => by
  rw [bigSep_W0, bigSep_W0, defs₀_row0]
  exact triple_restated (sound_body0 V O B c t) rfl .rfl fun _ => .rfl

/-! # REGION 1 of @main: custom_call 1, `cc1__vq_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) (HIx 1) ℕ UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) (HIx 1) ℕ UU ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S128x64 := Rect.unit (s := S128x64) ![0, 0] S128x64.size inb_S128x64_S128x64_0_0
abbrev r1_1 : Rect S8192x64 := Rect.unit (s := S8192x64) ![0, 0] S8192x64.size inb_S8192x64_S8192x64_0_0
abbrev r1_2 : Rect S128x1 := Rect.unit (s := S128x1) ![0, 0] S128x1.size inb_S128x1_S128x1_0_0
abbrev r1_3 : Rect S1x8192 := Rect.unit (s := S1x8192) ![0, 0] S1x8192.size inb_S1x8192_S1x8192_0_0
abbrev r1_4 : Rect S1x1x128 := Rect.unit (s := S1x1x128) ![0, 0, 0] S1x1x128.size inb_S1x1x128_S1x1x128_0_0_0

/-! ## What the body leaves in each output window's buffer -/

/-- Window 4's staging buffer after the body, from the input windows' blocks: its 1 store as pieces, LAST
    FIRST (Lib/Pipeline/FrameBody.lean `View.canon`; the payloads are the skeleton's). -/
def out1_4 (x0 : Vec F S128x64 .f32) (x1 : Vec F S128x1 .f32) (x2 : Vec F S1x8192 .f32) (x3 : Vec F S8192x64 .f32) : Vec F S1x1x128 .i32 :=
  View.canon [⟨r1_4, k1_pay1 (View.ld x0 r1_0) (View.ld x3 r1_1) (View.ld x1 r1_2) (View.ld x2 r1_3)⟩]

/-- Its stores tile the buffer, so they cover it. -/
theorem cover1_4 (p0 : Vec F S1x1x128 .i32) (y : S1x1x128.Idx) :
    ∃ pc ∈ ([⟨r1_4, p0⟩] : List (View.Piece (Elt F) S1x1x128 .i32)), y ∈ pc.1.set :=
  View.cover_of_tiled [⟨r1_4, p0⟩] S1x1x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S128x64 .f32) (harg1 : arg1.IsWhole) (arg2 : Memref sig .tc .vmem S128x1 .f32) (harg2 : arg2.IsWhole) (arg3 : Memref sig .tc .vmem S1x8192 .f32) (harg3 : arg3.IsWhole) (arg4 : Memref sig .tc .vmem S8192x64 .f32) (harg4 : arg4.IsWhole) (arg5 : Memref sig .tc .vmem S1x1x128 .i32) (harg5 : arg5.IsWhole)
    (x0 : Vec F S128x64 .f32) (x1 : Vec F S128x1 .f32) (x2 : Vec F S1x8192 .f32) (x3 : Vec F S8192x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__vq_kernel i arg1 harg1 arg2 harg2 arg3 harg3 arg4 harg4 arg5 harg5) K := by
  simp only [cc1__vq_kernel_eq_skeleton]; unfold cc1__vq_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant the
    class's (`ΦR`: the scoped rest and the generator register, untouched); `O c` owed;
    full shares. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := ΦR spec1 c
  q _ := fullShare
  owed _ := O c
  recorded _ := B c

/-- The proof data's arrays are the region-entry contents, by projecting the definition (`dsimp`): a region record cites
    this for its arrays rather than have Lean unfold `V`, the fold through @main up to the region's entry. -/
theorem A_eq1 (c : Dev nD) (w : Fin cfg1.W) : (dat1 V O B c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V O B c).after 0 t = iblk1 V c 0 t := by dsimp only [dat1]
theorem after1_1 (c : Dev nD) (t : Fin cfg1.N) : (dat1 V O B c).after 1 t = iblk1 V c 1 t := by dsimp only [dat1]
theorem after1_2 (c : Dev nD) (t : Fin cfg1.N) : (dat1 V O B c).after 2 t = iblk1 V c 2 t := by dsimp only [dat1]
theorem after1_3 (c : Dev nD) (t : Fin cfg1.N) : (dat1 V O B c).after 3 t = iblk1 V c 3 t := by dsimp only [dat1]
theorem after1_4 (c : Dev nD) (t : Fin cfg1.N) : (dat1 V O B c).after 4 t = out1_4 (iblk1 V c 0 t) (iblk1 V c 1 t) (iblk1 V c 2 t) (iblk1 V c 3 t) := by dsimp only [dat1]

/-- Each input's current staging buffer holds its block at every point, fetched there or not (`beforeK_W_of`). -/
theorem before1_0 (c : Dev nD) (t : Fin cfg1.N) (d) : (dat1 V O B c).before 0 t d = iblk1 V c 0 t :=
  before1_0_of V (dat1 V O B c) (A_eq1 V O B c 0) (after1_0 V O B c) t d
theorem before1_1 (c : Dev nD) (t : Fin cfg1.N) (d) : (dat1 V O B c).before 1 t d = iblk1 V c 1 t :=
  before1_1_of V (dat1 V O B c) (A_eq1 V O B c 1) (after1_1 V O B c) t d
theorem before1_2 (c : Dev nD) (t : Fin cfg1.N) (d) : (dat1 V O B c).before 2 t d = iblk1 V c 2 t :=
  before1_2_of V (dat1 V O B c) (A_eq1 V O B c 2) (after1_2 V O B c) t d
theorem before1_3 (c : Dev nD) (t : Fin cfg1.N) (d) : (dat1 V O B c).before 3 t d = iblk1 V c 3 t :=
  before1_3_of V (dat1 V O B c) (A_eq1 V O B c 3) (after1_3 V O B c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V O B c).Φ t.castSucc ∗ (dat1 V O B c).owesAt none t.castSucc
    ∗ (∃ d, owns (c : Thread nD τ) (st1_0 t) fullShare ((dat1 V O B c).before 0 t d))
    ∗ (∃ d, owns (c : Thread nD τ) (st1_1 t) fullShare ((dat1 V O B c).before 1 t d))
    ∗ (∃ d, owns (c : Thread nD τ) (st1_2 t) fullShare ((dat1 V O B c).before 2 t d))
    ∗ (∃ d, owns (c : Thread nD τ) (st1_3 t) fullShare ((dat1 V O B c).before 3 t d))
    ∗ (∃ d, owns (c : Thread nD τ) (st1_4 t) fullShare ((dat1 V O B c).before 4 t d)))

/-- and what it returns. -/
def bodyPost1 (c : Dev nD) (t : Fin cfg1.N) : sProp 𝕄 :=
  iprop((dat1 V O B c).Φ t.succ ∗ (dat1 V O B c).owesAt none t.succ
    ∗ owns (c : Thread nD τ) (st1_0 t) fullShare ((dat1 V O B c).after 0 t)
    ∗ owns (c : Thread nD τ) (st1_1 t) fullShare ((dat1 V O B c).after 1 t)
    ∗ owns (c : Thread nD τ) (st1_2 t) fullShare ((dat1 V O B c).after 2 t)
    ∗ owns (c : Thread nD τ) (st1_3 t) fullShare ((dat1 V O B c).after 3 t)
    ∗ owns (c : Thread nD τ) (st1_4 t) fullShare ((dat1 V O B c).after 4 t))

/-- The body at any point: the inputs' memrefs hold their blocks (`before1_W`), so `sound_kernel1` applies; the invariant and
    the core's `owes` pass through unread. -/
theorem sound_body1 (c : Dev nD) (t : Fin cfg1.N) :
    bodyPre1 V O B c t ⊢ wp frame (wpE (defs₀ (F := F)) Variants.none c none) Set.univ (bodyAt1 t) (fun _ => bodyPost1 V O B c t) := by
  unfold bodyPre1 bodyPost1 bodyAt1
  simp only [before1_0, before1_1, before1_2, before1_3]
  rw [show (dat1 V O B c).Φ t.succ = (dat1 V O B c).Φ t.castSucc from rfl,
    show (dat1 V O B c).owesAt none t.succ = (dat1 V O B c).owesAt none t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rfl

/-- The library's body obligation, at every point: the body's triple restated (Lib/Pipeline/FrameBody.lean `triple_restated`). -/
theorem body_obligation1 (c : Dev nD) : BodyObligation (dat1 (F := F) V O B c) (defs₀ (F := F)) Variants.none none Set.univ := fun t => by
  rw [bigSep_W1, bigSep_W1, defs₀_row1]
  exact triple_restated (sound_body1 V O B c t) rfl .rfl fun _ => .rfl

/-! # REGION 2 of @main: `cc3__decoder_kernel` (pipeline 2), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) (HIx 1) ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) (HIx 1) ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) (HIx 1) ℕ UU ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) (HIx 1) ℕ UU ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) (HIx 1) ℕ UU ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_5_of {c : Dev nD} (dat : Dat τ (Elt F) (HIx 1) ℕ UU ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_6_of {c : Dev nD} (dat : Dat τ (Elt F) (HIx 1) ℕ UU ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_7_of {c : Dev nD} (dat : Dat τ (Elt F) (HIx 1) ℕ UU ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1024x64 := Rect.unit (s := S1024x64) ![0, 0] S1024x64.size inb_S1024x64_S1024x64_0_0
abbrev r3_1 : Rect S1024x128 := Rect.unit (s := S1024x128) ![0, 0] S1024x64.size inb_S1024x128_S1024x64_0_0
abbrev r3_2 : Rect S1x1 := Rect.unit (s := S1x1) ![0, 0] S1x1.size inb_S1x1_S1x1_0_0
abbrev r3_3 : Rect S64x128 := Rect.unit (s := S64x128) ![0, 0] S64x128.size inb_S64x128_S64x128_0_0
abbrev r3_4 : Rect S1x128 := Rect.unit (s := S1x128) ![0, 0] S1x128.size inb_S1x128_S1x128_0_0
abbrev r3_5 : Rect S128x64 := Rect.unit (s := S128x64) ![0, 0] S128x64.size inb_S128x64_S128x64_0_0
abbrev r3_6 : Rect S1x64 := Rect.unit (s := S1x64) ![0, 0] S1x64.size inb_S1x64_S1x64_0_0
abbrev r3_7 : Rect S1024x128 := Rect.unit (s := S1024x128) ![0, 0] S1024x128.size inb_S1024x128_S1024x128_0_0

/-! ## What the body leaves in each output window's buffer -/

/-- Window 8's staging buffer after the body, from the input windows' blocks: its 1 store as pieces, LAST
    FIRST (Lib/Pipeline/FrameBody.lean `View.canon`; the payloads are the skeleton's). -/
def out3_8 (x0 : Vec F S1024x64 .f32) (x1 : Vec F S1024x128 .f32) (x2 : Vec F S64x128 .f32) (x3 : Vec F S1x128 .f32) (x4 : Vec F S128x64 .f32) (x5 : Vec F S1x64 .f32) (x6 : Vec F S64x128 .f32) (x7 : Vec F S1x128 .f32) : Vec F S1024x128 .f32 :=
  View.canon [⟨r3_7, k3_pay1 (k3_pay5 (View.ld x0 r3_0) (View.ld x1 r3_1) (View.ld x2 r3_3) (View.ld x3 r3_4) (View.ld x4 r3_5) (View.ld x5 r3_6)) (View.ld x6 r3_3) (View.ld x7 r3_4)⟩]

/-- Its stores tile the buffer, so they cover it. -/
theorem cover3_8 (p0 : Vec F S1024x128 .f32) (y : S1024x128.Idx) :
    ∃ pc ∈ ([⟨r3_7, p0⟩] : List (View.Piece (Elt F) S1024x128 .f32)), y ∈ pc.1.set :=
  View.cover_of_tiled [⟨r3_7, p0⟩] S1024x128.size (by rfl) y

/-- Window 9's staging buffer after the body, from the input windows' blocks: its 1 store as pieces, LAST
    FIRST (Lib/Pipeline/FrameBody.lean `View.canon`; the payloads are the skeleton's). -/
def out3_9 (x0 : Vec F S1024x64 .f32) (x1 : Vec F S1024x128 .f32) (x2 : Vec F S64x128 .f32) (x3 : Vec F S1x128 .f32) (x4 : Vec F S128x64 .f32) (x5 : Vec F S1x64 .f32) (x6 : Vec F S64x128 .f32) (x7 : Vec F S1x128 .f32) : Vec F S1x1 .f32 :=
  View.canon [⟨r3_2, k3_pay4 (View.ld x0 r3_0) (View.ld x1 r3_1)⟩]

/-- Its stores tile the buffer, so they cover it. -/
theorem cover3_9 (p0 : Vec F S1x1 .f32) (y : S1x1.Idx) :
    ∃ pc ∈ ([⟨r3_2, p0⟩] : List (View.Piece (Elt F) S1x1 .f32)), y ∈ pc.1.set :=
  View.cover_of_tiled [⟨r3_2, p0⟩] S1x1.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg1 : Memref sig .tc .vmem S1024x64 .f32) (harg1 : arg1.IsWhole) (arg2 : Memref sig .tc .vmem S1024x128 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1x1 .f32) (harg10 : arg10.IsWhole)
    (x0 : Vec F S1024x64 .f32) (x1 : Vec F S1024x128 .f32) (x2 : Vec F S64x128 .f32) (x3 : Vec F S1x128 .f32) (x4 : Vec F S128x64 .f32) (x5 : Vec F S1x64 .f32) (x6 : Vec F S64x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7) ∗ owns (c : Thread nD τ) arg10 fullShare (out3_9 x0 x1 x2 x3 x4 x5 x6 x7)) -∗ K ⟨⟩))
      ⊢ wp frame (wpE (defs₀ (F := F)) Variants.none c none) E (cc3__decoder_kernel i arg1 harg1 arg2 harg2 arg3 harg3 arg4 harg4 arg5 harg5 arg6 harg6 arg7 harg7 arg8 harg8 arg9 harg9 arg10 harg10) K := by
  simp only [cc3__decoder_kernel_eq_skeleton]; unfold cc3__decoder_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover3_8 _)
  iexists _; isplitr
  swap; · iexact H9
  ipureintro
  exact View.read_writes_eq_canon _ _ _ (cover3_9 _)

/-! ## The pipeline's proof data -/

/-- The proof data of pipeline 2 on core `c`: the arrays as the region finds them (`V`); after the body at
    point `t` each input's buffer at its block and each output's at `out3_W` of the input blocks; the invariant the
    class's (`ΦR`: the scoped rest and the generator register, untouched); `O c` owed;
    full shares. -/
def dat3 (c : Dev nD) : Dat τ (Elt F) (HIx 1) ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
    | ⟨9, _⟩ => out3_9 (iblk3 V c 0 t) (iblk3 V c 1 t) (iblk3 V c 2 t) (iblk3 V c 3 t) (iblk3 V c 4 t) (iblk3 V c 5 t) (iblk3 V c 6 t) (iblk3 V c 7 t)
  Φ _ := ΦR spec3 c
  q _ := fullShare
  owed _ := O c
  recorded _ := B c

/-- The proof data's arrays are the region-entry contents, by projecting the definition (`dsimp`): a region record cites
    this for its arrays rather than have Lean unfold `V`, the fold through @main up to the region's entry. -/
theorem A_eq3 (c : Dev nD) (w : Fin cfg3.W) : (dat3 V O B c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V O B c).after 0 t = iblk3 V c 0 t := by dsimp only [dat3]
theorem after3_1 (c : Dev nD) (t : Fin cfg3.N) : (dat3 V O B c).after 1 t = iblk3 V c 1 t := by dsimp only [dat3]
theorem after3_2 (c : Dev nD) (t : Fin cfg3.N) : (dat3 V O B c).after 2 t = iblk3 V c 2 t := by dsimp only [dat3]
theorem after3_3 (c : Dev nD) (t : Fin cfg3.N) : (dat3 V O B c).after 3 t = iblk3 V c 3 t := by dsimp only [dat3]
theorem after3_4 (c : Dev nD) (t : Fin cfg3.N) : (dat3 V O B c).after 4 t = iblk3 V c 4 t := by dsimp only [dat3]
theorem after3_5 (c : Dev nD) (t : Fin cfg3.N) : (dat3 V O B c).after 5 t = iblk3 V c 5 t := by dsimp only [dat3]
theorem after3_6 (c : Dev nD) (t : Fin cfg3.N) : (dat3 V O B c).after 6 t = iblk3 V c 6 t := by dsimp only [dat3]
theorem after3_7 (c : Dev nD) (t : Fin cfg3.N) : (dat3 V O B c).after 7 t = iblk3 V c 7 t := by dsimp only [dat3]
theorem after3_8 (c : Dev nD) (t : Fin cfg3.N) : (dat3 V O B c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]
theorem after3_9 (c : Dev nD) (t : Fin cfg3.N) : (dat3 V O B c).after 9 t = out3_9 (iblk3 V c 0 t) (iblk3 V c 1 t) (iblk3 V c 2 t) (iblk3 V c 3 t) (iblk3 V c 4 t) (iblk3 V c 5 t) (iblk3 V c 6 t) (iblk3 V c 7 t) := by dsimp only [dat3]

/-- Each input's current staging buffer holds its block at every point, fetched there or not (`beforeK_W_of`). -/
theorem before3_0 (c : Dev nD) (t : Fin cfg3.N) (d) : (dat3 V O B c).before 0 t d = iblk3 V c 0 t :=
  before3_0_of V (dat3 V O B c) (A_eq3 V O B c 0) (after3_0 V O B c) t d
theorem before3_1 (c : Dev nD) (t : Fin cfg3.N) (d) : (dat3 V O B c).before 1 t d = iblk3 V c 1 t :=
  before3_1_of V (dat3 V O B c) (A_eq3 V O B c 1) (after3_1 V O B c) t d
theorem before3_2 (c : Dev nD) (t : Fin cfg3.N) (d) : (dat3 V O B c).before 2 t d = iblk3 V c 2 t :=
  before3_2_of V (dat3 V O B c) (A_eq3 V O B c 2) (after3_2 V O B c) t d
theorem before3_3 (c : Dev nD) (t : Fin cfg3.N) (d) : (dat3 V O B c).before 3 t d = iblk3 V c 3 t :=
  before3_3_of V (dat3 V O B c) (A_eq3 V O B c 3) (after3_3 V O B c) t d
theorem before3_4 (c : Dev nD) (t : Fin cfg3.N) (d) : (dat3 V O B c).before 4 t d = iblk3 V c 4 t :=
  before3_4_of V (dat3 V O B c) (A_eq3 V O B c 4) (after3_4 V O B c) t d
theorem before3_5 (c : Dev nD) (t : Fin cfg3.N) (d) : (dat3 V O B c).before 5 t d = iblk3 V c 5 t :=
  before3_5_of V (dat3 V O B c) (A_eq3 V O B c 5) (after3_5 V O B c) t d
theorem before3_6 (c : Dev nD) (t : Fin cfg3.N) (d) : (dat3 V O B c).before 6 t d = iblk3 V c 6 t :=
  before3_6_of V (dat3 V O B c) (A_eq3 V O B c 6) (after3_6 V O B c) t d
theorem before3_7 (c : Dev nD) (t : Fin cfg3.N) (d) : (dat3 V O B c).before 7 t d = iblk3 V c 7 t :=
  before3_7_of V (dat3 V O B c) (A_eq3 V O B c 7) (after3_7 V O B c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V O B c).Φ t.castSucc ∗ (dat3 V O B c).owesAt none t.castSucc
    ∗ (∃ d, owns (c : Thread nD τ) (st3_0 t) fullShare ((dat3 V O B c).before 0 t d))
    ∗ (∃ d, owns (c : Thread nD τ) (st3_1 t) fullShare ((dat3 V O B c).before 1 t d))
    ∗ (∃ d, owns (c : Thread nD τ) (st3_2 t) fullShare ((dat3 V O B c).before 2 t d))
    ∗ (∃ d, owns (c : Thread nD τ) (st3_3 t) fullShare ((dat3 V O B c).before 3 t d))
    ∗ (∃ d, owns (c : Thread nD τ) (st3_4 t) fullShare ((dat3 V O B c).before 4 t d))
    ∗ (∃ d, owns (c : Thread nD τ) (st3_5 t) fullShare ((dat3 V O B c).before 5 t d))
    ∗ (∃ d, owns (c : Thread nD τ) (st3_6 t) fullShare ((dat3 V O B c).before 6 t d))
    ∗ (∃ d, owns (c : Thread nD τ) (st3_7 t) fullShare ((dat3 V O B c).before 7 t d))
    ∗ (∃ d, owns (c : Thread nD τ) (st3_8 t) fullShare ((dat3 V O B c).before 8 t d))
    ∗ (∃ d, owns (c : Thread nD τ) (st3_9 t) fullShare ((dat3 V O B c).before 9 t d)))

/-- and what it returns. -/
def bodyPost3 (c : Dev nD) (t : Fin cfg3.N) : sProp 𝕄 :=
  iprop((dat3 V O B c).Φ t.succ ∗ (dat3 V O B c).owesAt none t.succ
    ∗ owns (c : Thread nD τ) (st3_0 t) fullShare ((dat3 V O B c).after 0 t)
    ∗ owns (c : Thread nD τ) (st3_1 t) fullShare ((dat3 V O B c).after 1 t)
    ∗ owns (c : Thread nD τ) (st3_2 t) fullShare ((dat3 V O B c).after 2 t)
    ∗ owns (c : Thread nD τ) (st3_3 t) fullShare ((dat3 V O B c).after 3 t)
    ∗ owns (c : Thread nD τ) (st3_4 t) fullShare ((dat3 V O B c).after 4 t)
    ∗ owns (c : Thread nD τ) (st3_5 t) fullShare ((dat3 V O B c).after 5 t)
    ∗ owns (c : Thread nD τ) (st3_6 t) fullShare ((dat3 V O B c).after 6 t)
    ∗ owns (c : Thread nD τ) (st3_7 t) fullShare ((dat3 V O B c).after 7 t)
    ∗ owns (c : Thread nD τ) (st3_8 t) fullShare ((dat3 V O B c).after 8 t)
    ∗ owns (c : Thread nD τ) (st3_9 t) fullShare ((dat3 V O B c).after 9 t))

/-- The body at any point: the inputs' memrefs hold their blocks (`before3_W`), so `sound_kernel3` applies; the invariant and
    the core's `owes` pass through unread. -/
theorem sound_body3 (c : Dev nD) (t : Fin cfg3.N) :
    bodyPre3 V O B c t ⊢ wp frame (wpE (defs₀ (F := F)) Variants.none c none) Set.univ (bodyAt3 t) (fun _ => bodyPost3 V O B c t) := by
  unfold bodyPre3 bodyPost3 bodyAt3
  simp only [before3_0, before3_1, before3_2, before3_3, before3_4, before3_5, before3_6, before3_7]
  rw [show (dat3 V O B c).Φ t.succ = (dat3 V O B c).Φ t.castSucc from rfl,
    show (dat3 V O B c).owesAt none t.succ = (dat3 V O B c).owesAt none t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rfl

/-- The library's body obligation, at every point: the body's triple restated (Lib/Pipeline/FrameBody.lean `triple_restated`). -/
theorem body_obligation3 (c : Dev nD) : BodyObligation (dat3 (F := F) V O B c) (defs₀ (F := F)) Variants.none none Set.univ := fun t => by
  rw [bigSep_W3, bigSep_W3, defs₀_row3]
  exact triple_restated (sound_body3 V O B c t) rfl .rfl fun _ => .rfl

end Regions

end Cert.Proof.K

end
-- ==== Proof.KTile.lean ====
/- The SparseCore call of the kernel: 2 SparseCores × 16 tiles, each tile fetching its 32 row numbers, gathering those rows of
   the table and writing them out to its 32 rows of the result. The tile's body is run once, at a symbolic tile; the table and
   the list of row numbers are read by every tile under a share, the result is split by rows. What a tile leaves in its rows is
   stated as one function of the table and the list (`gath`). -/
module

public import proofs.«01_k».proof.Proof.KRegions
public import Idealize.ShloMosaic.Lib.SparseCore.Stream
public import Idealize.ShloMosaic.Lib.SparseCore.FromWhole
public import Idealize.ShloMosaic.Lib.StableHlo.Run
public import Idealize.ShloMosaic.Lib.Pipeline.Kit

@[expose] public section

noncomputable section

namespace Cert.Proof.K

open Cert.KernelIdeal Cert.KernelIdeal.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The program as the launch sees it -/

abbrev ΛP : Labels := Pipeline.Sig Λ₀ (Fin 3) fun p => (pcfgs (F := F) p).Adm
abbrev KK : SparseCore.Cfg τ sig (ΛP (F := F)) 1 := sc (F := F)
abbrev DD [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (KK (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The three arrays of the call and how they are cut -/

abbrev tLoc (d : Dev nD) : Loc nD τ sig := (SparseCore.T d).loc main_v13
abbrev iLoc (d : Dev nD) : Loc nD τ sig := (SparseCore.T d).loc main_v11
abbrev oLoc (d : Dev nD) : Loc nD τ sig := (SparseCore.T d).loc main_v14

local notation "tV" => (Memref.whole Cert.KernelIdeal.main_v13_scv : Memref Cert.KernelIdeal.sig Kind.scVector Space.hbm Cert.KernelIdeal.S8192x128 EltTy.f32)
local notation "iV" => (Memref.whole Cert.KernelIdeal.main_v11_scv : Memref Cert.KernelIdeal.sig Kind.scVector Space.hbm Cert.KernelIdeal.S1024 EltTy.i32)
local notation "oV" => (Memref.whole Cert.KernelIdeal.main_v14_scv : Memref Cert.KernelIdeal.sig Kind.scVector Space.hbm Cert.KernelIdeal.S1024x128 EltTy.f32)
local notation "sV" => (Memref.whole Cert.KernelIdeal.cc2_scratch0 : Memref Cert.KernelIdeal.sig Kind.scVector Space.vmem Cert.KernelIdeal.S32 EltTy.i32)
local notation "rV" => (Memref.whole Cert.KernelIdeal.cc2_scratch1 : Memref Cert.KernelIdeal.sig Kind.scVector Space.vmem Cert.KernelIdeal.S32x128 EltTy.f32)

/-- The coordinates of tile `s` of SparseCore `c`. -/
def coordsV (c : Fin (grid2.bound 0)) (s : Fin (grid2.bound 1)) : grid2.Coords :=
  fun | 0 => c | 1 => s | ⟨_ + 2, h⟩ => absurd h (Nat.not_lt.2 (Nat.le_add_left _ _))

abbrev orowK (L : grid2.Coords) : Rect S1024x128 := Rect.unit (s := S1024x128) (k2_off2 L) S32x128.size (k2_off2_inb L)
abbrev irowK (L : grid2.Coords) : Rect S1024 := Rect.unit (s := S1024) (k2_off1 L) S32.size (k2_off1_inb L)
/-- The rows of the result a tile writes. -/
abbrev oSet (L : grid2.Coords) : Finset S1024x128.Idx := ((oV).view.slice (orowK L)).set

theorem oSet_eq (L : grid2.Coords) : oSet L = (orowK L).set := by
  show ((View.whole (main_v14_scv : Ref sig .scVector)).slice (orowK L)).set = _
  rw [View.set_slice]; exact Finset.map_refl

theorem mem_oSet (L : grid2.Coords) (y : S1024x128.Idx) :
    y ∈ oSet L ↔ 64 * (L 1).val + 32 * (L 0).val ≤ (y 0).val ∧ (y 0).val < 64 * (L 1).val + 32 * (L 0).val + 32 := by
  rw [oSet_eq, Rect.mem_set_unit, k2_off2_eq]
  constructor
  · intro h; exact h 0
  · intro h a
    match a with
    | ⟨0, _⟩ => exact h
    | ⟨1, _⟩ => exact ⟨Nat.zero_le _, by simpa using (y 1).isLt⟩

/-- A tile's share of the table and of the list. -/
def sh (p : Fin 2 × Fin 16) : PosShare TreeShare := pieceOf fullShare (2 * 16) (by decide) (finProdFinEquiv p)

theorem pts_shares {ℓ : Loc nD τ sig} (f : Buf (Elt F) ℓ) :
    (ℓ ↦{fullShare} f : sProp 𝕄) = bigSep Finset.univ fun p : Fin 2 × Fin 16 => ℓ ↦{sh p} f := by
  rw [pointsTo_piecesOf Finset.univ f (o := 2 * 16) (by decide) fullShare,
    bigSep_univ_equiv finProdFinEquiv (fun j : Fin (2 * 16) => (ℓ ↦{pieceOf fullShare (2 * 16) (by decide) j} f : sProp 𝕄))]
  rfl

theorem pts_rows (d : Dev nD) (f : Buf (Elt F) (oLoc d)) :
    (oLoc d ↦{fullShare} f : sProp 𝕄) = bigSep Finset.univ fun p : Fin 2 × Fin 16 => oLoc d ↦[oSet (coordsV p.1 p.2)]{fullShare} f := by
  have hd : ∀ p ∈ (Finset.univ : Finset (Fin 2 × Fin 16)), ∀ p' ∈ (Finset.univ : Finset (Fin 2 × Fin 16)), p ≠ p' →
      Disjoint (oSet (coordsV p.1 p.2)) (oSet (coordsV p'.1 p'.2)) := by
    intro p _ p' _ hne
    rw [Finset.disjoint_left]
    intro y h h'
    rw [mem_oSet] at h h'
    apply hne
    have e0 : ∀ q : Fin 2 × Fin 16, ((coordsV q.1 q.2) 0).val = q.1.val := fun _ => rfl
    have e1 : ∀ q : Fin 2 × Fin 16, ((coordsV q.1 q.2) 1).val = q.2.val := fun _ => rfl
    rw [e0, e1] at h h'
    have := p.1.isLt; have := p'.1.isLt; have := p.2.isLt; have := p'.2.isLt
    refine Prod.ext (Fin.ext ?_) (Fin.ext ?_) <;> omega
  have hc : (Finset.univ : Finset (Fin 2 × Fin 16)).biUnion (fun p => oSet (coordsV p.1 p.2)) = Finset.univ := by
    ext y
    simp only [Finset.mem_biUnion, Finset.mem_univ, true_and, iff_true]
    have hy : (y 0).val < 1024 := (y 0).isLt
    refine ⟨(⟨(y 0).val / 32 % 2, by omega⟩, ⟨(y 0).val / 64, by omega⟩), ?_⟩
    rw [mem_oSet]
    show 64 * ((y 0).val / 64) + 32 * ((y 0).val / 32 % 2) ≤ _ ∧ _ < 64 * ((y 0).val / 64) + 32 * ((y 0).val / 32 % 2) + 32
    omega
  rw [← pointsTo_biUnion Finset.univ (ℓ := oLoc d) (fun p : Fin 2 × Fin 16 => oSet (coordsV p.1 p.2)) hd, hc]; try rfl

/-! ## What the call computes -/

/-- Row `k`, column `l` of the table; entry `k` of the list. -/
abbrev tix (k : Fin 8192) (l : Fin 128) : S8192x128.Idx := fun | 0 => k | 1 => l
abbrev lix (k : Fin 1024) : S1024.Idx := fun | 0 => k

/-- The gathered rows: row `y 0` of the result is the row of the table that entry `y 0` of the list names. -/
def gath (tab : S8192x128.Idx → Elt F .f32) (ixs : S1024.Idx → BitVec 32) : S1024x128.Idx → Elt F .f32 := fun y =>
  tab (tix ⟨(ixs (lix (y 0))).toNat % 8192, Nat.mod_lt _ (by decide)⟩ (y 1))

variable (tab : (d : Dev nD) → Buf (Elt F) (tLoc d)) (ixs : (d : Dev nD) → Buf (Elt F) (iLoc d)) (old : (d : Dev nD) → Buf (Elt F) (oLoc d))

abbrev goR (d : Dev nD) (p : Fin 2 × Fin 16) : sProp 𝕄 :=
  iprop((tLoc d ↦{sh p} tab d) ∗ (iLoc d ↦{sh p} ixs d) ∗ (oLoc d ↦[oSet (coordsV p.1 p.2)]{fullShare} old d))
abbrev tdR (d : Dev nD) (p : Fin 2 × Fin 16) : sProp 𝕄 :=
  iprop((tLoc d ↦{sh p} tab d) ∗ (iLoc d ↦{sh p} ixs d) ∗ (oLoc d ↦[oSet (coordsV p.1 p.2)]{fullShare} (gath (tab d) (ixs d) : Buf (Elt F) (oLoc d))))

theorem go_all (d : Dev nD) :
    (iprop((tLoc d ↦{fullShare} tab d) ∗ (iLoc d ↦{fullShare} ixs d) ∗ (oLoc d ↦{fullShare} old d)) : sProp 𝕄)
      = bigSep Finset.univ fun c : Fin 2 => bigSep Finset.univ fun i : Fin 16 => goR tab ixs old d (c, i) := by
  rw [← bigSep_univ_prod (fun p : Fin 2 × Fin 16 => goR tab ixs old d p), bigSep_sep', bigSep_sep', ← pts_shares, ← pts_shares, ← pts_rows]
theorem td_all (d : Dev nD) :
    (iprop((tLoc d ↦{fullShare} tab d) ∗ (iLoc d ↦{fullShare} ixs d) ∗ (oLoc d ↦{fullShare} (gath (tab d) (ixs d) : Buf (Elt F) (oLoc d)))) : sProp 𝕄)
      = bigSep Finset.univ fun c : Fin 2 => bigSep Finset.univ fun i : Fin 16 => tdR tab ixs d (c, i) := by
  rw [← bigSep_univ_prod (fun p : Fin 2 × Fin 16 => tdR tab ixs d p), bigSep_sep', bigSep_sep', ← pts_shares, ← pts_shares, ← pts_rows]

theorem nSub_zero : (KK (F := F)).nSub 0 = 16 := rfl
theorem nCore_zero : (KK (F := F)).nCore 0 = 2 := rfl

variable [FloatOps F]

/-- What the handshakes carry: a SparseCore gets its tiles' parts and brings them back written. -/
def PP : (KK (F := F)).Pay (nD := nD) (Val := Elt F) (Name := ℕ) (U := UU) where
  st := fun q d c => match q with | 0 => bigSep Finset.univ fun i : Fin 16 => goR tab ixs old d (Fin.cast nCore_zero c, i)
  dn := fun q d c => match q with | 0 => bigSep Finset.univ fun i : Fin 16 => tdR tab ixs d (Fin.cast nCore_zero c, i)
  go := fun q d c i => match q with | 0 => goR tab ixs old d (Fin.cast nCore_zero c, Fin.cast nSub_zero i)
  td := fun q d c i => match q with | 0 => tdR tab ixs d (Fin.cast nCore_zero c, Fin.cast nSub_zero i)
  x := fun _ _ => iprop(emp)

instance PP_storable : (PP (F := F) tab ixs old).IsStorable where
  st q d c := match q with
    | 0 => (inferInstance : BI.Storable (upEmb : UEmb _ 𝕄) (bigSep Finset.univ fun i : Fin 16 => goR tab ixs old d (Fin.cast nCore_zero c, i)))
  dn q d c := match q with
    | 0 => (inferInstance : BI.Storable (upEmb : UEmb _ 𝕄) (bigSep Finset.univ fun i : Fin 16 => tdR tab ixs d (Fin.cast nCore_zero c, i)))
  go q d c i := match q with
    | 0 => (inferInstance : BI.Storable (upEmb : UEmb _ 𝕄) (goR tab ixs old d (Fin.cast nCore_zero c, Fin.cast nSub_zero i)))
  td q d c i := match q with
    | 0 => (inferInstance : BI.Storable (upEmb : UEmb _ 𝕄) (tdR tab ixs d (Fin.cast nCore_zero c, Fin.cast nSub_zero i)))

theorem vecSplit : (KK (F := F)).VecSplit' (PP tab ixs old) 0 := by
  intro d c
  show (bigSep Finset.univ fun i : Fin 16 => goR tab ixs old d (Fin.cast nCore_zero c, i)) ⊢ |={Set.univ}=> iprop(
      (bigSep Finset.univ fun i : Fin 16 => goR tab ixs old d (Fin.cast nCore_zero c, i))
      ∗ ((bigSep Finset.univ fun i : Fin 16 => tdR tab ixs d (Fin.cast nCore_zero c, i))
          -∗ (bigSep Finset.univ fun i : Fin 16 => tdR tab ixs d (Fin.cast nCore_zero c, i))))
  iintro H; imodintro
  isplitl [H]; · iexact H
  iintro H; iexact H

theorem st_eq (d : Dev nD) : (bigSep Finset.univ fun c : Fin ((KK (F := F)).nCore 0) => (PP tab ixs old).st 0 d c)
    = (iprop((tLoc d ↦{fullShare} tab d) ∗ (iLoc d ↦{fullShare} ixs d) ∗ (oLoc d ↦{fullShare} old d)) : sProp 𝕄) :=
  (go_all tab ixs old d).symm
theorem dn_eq (d : Dev nD) : (bigSep Finset.univ fun c : Fin ((KK (F := F)).nCore 0) => (PP tab ixs old).dn 0 d c)
    = (iprop((tLoc d ↦{fullShare} tab d) ∗ (iLoc d ↦{fullShare} ixs d) ∗ (oLoc d ↦{fullShare} (gath (tab d) (ixs d) : Buf (Elt F) (oLoc d)))) : sProp 𝕄) :=
  (td_all tab ixs d).symm

/-! ## The tile's own scratch and semaphores -/

section Tile

variable (d : Dev nD) (L : grid2.Coords)

abbrev cV (L : grid2.Coords) : Fin τ.nSC := (L 0).castLE hcore2
abbrev jV (L : grid2.Coords) : Fin τ.nSub := (L 1).castLE hsub2

abbrev iRowK (L : grid2.Coords) : Memref sig .scVector .hbm S32 .i32 := (iV).slice (irowK L) (fun _ => rfl)
abbrev oRowK (L : grid2.Coords) : Memref sig .scVector .hbm S32x128 .f32 := (oV).slice (orowK L) (fun _ => rfl)
abbrev tAllK : Memref sig .scVector .hbm S8192x128 .f32 := (tV).slice (Rect.unit (s := S8192x128) ![0, 0] S8192x128.size inb_S8192x128_S8192x128_0_0) (fun _ => rfl)

abbrev cAcell (d : Dev nD) (c : Fin τ.nSC) (i : Fin τ.nSub) : GSem nD τ sig := (V d c i, .dma cc2_scoped0.sem)
abbrev cBcell (d : Dev nD) (c : Fin τ.nSC) (i : Fin τ.nSub) : GSem nD τ sig := (V d c i, .dma cc2_scratch2.sem)
abbrev cCcell (d : Dev nD) (c : Fin τ.nSC) (i : Fin τ.nSub) : GSem nD τ sig := (V d c i, .dma cc2_scoped1.sem)

omit [FloatOps F] in
/-- The three semaphores of the body are among the tile's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc2_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc2_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc2_scoped1.sem : SemLoc sig).isScoped .scVector = true; decide⟩⟩⟩)]

omit [FloatOps F] in
/-- The two scratch buffers are among the tile's own. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

end Tile

end Cert.Proof.K

end
-- ==== Proof.KBody.lean ====
/- The body of one tile of the SparseCore call, at a symbolic tile, and the obligation the launch asks of it. -/
module

public import proofs.«01_k».proof.Proof.KTile

@[expose] public section

noncomputable section

namespace Cert.Proof.K

open Cert.KernelIdeal Cert.KernelIdeal.Gen
open Idealize.ShloMosaic Idealize.ShloMosaic.Tactic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ
local notation "tV" => (Memref.whole Cert.KernelIdeal.main_v13_scv : Memref Cert.KernelIdeal.sig Kind.scVector Space.hbm Cert.KernelIdeal.S8192x128 EltTy.f32)
local notation "iV" => (Memref.whole Cert.KernelIdeal.main_v11_scv : Memref Cert.KernelIdeal.sig Kind.scVector Space.hbm Cert.KernelIdeal.S1024 EltTy.i32)
local notation "oV" => (Memref.whole Cert.KernelIdeal.main_v14_scv : Memref Cert.KernelIdeal.sig Kind.scVector Space.hbm Cert.KernelIdeal.S1024x128 EltTy.f32)
local notation "sV" => (Memref.whole Cert.KernelIdeal.cc2_scratch0 : Memref Cert.KernelIdeal.sig Kind.scVector Space.vmem Cert.KernelIdeal.S32 EltTy.i32)
local notation "rV" => (Memref.whole Cert.KernelIdeal.cc2_scratch1 : Memref Cert.KernelIdeal.sig Kind.scVector Space.vmem Cert.KernelIdeal.S32x128 EltTy.f32)

section Tile

variable (d : Dev nD) (L : grid2.Coords)

/-- The row numbers a tile has fetched, entry by entry of the list. -/
theorem read_list (ix : Buf (Elt F) (iLoc d)) (j : S32.Idx) :
    (iRowK L).view.read (Elt F) ix j = ix ((iRowK L).view.emb j) :=
  (View.read_apply _ _).trans (cast_eq _ _)

theorem inb_of (ix : Buf (Elt F) (iLoc d)) (hin : ∀ j, (ix j : BitVec 32).toNat < 8192)
    (fs : Buf (Elt F) ((V d (cV L) (jV L)).loc cc2_scratch0)) (pay : S32.Idx → Elt F .i32)
    (hpay : pay = (iRowK L).view.read (Elt F) ix) :
    ∀ x, ((sV).view.read (Elt F) (View.write (Elt F) (sV).view fs pay Finset.univ) x).toNat < S8192x128.size gathers_S8192x128_S32x128.axis := by
  subst hpay; intro x
  rw [View.write_whole_univ]
  simp only [Memref.view_whole, View.read_whole]
  rw [read_list]
  exact hin _

theorem emb_orow (x : S32x128.Idx) (a : Fin 2) : (((oRowK L).view.emb x) a).val = ![64 * (L 1).val + 32 * (L 0).val, 0] a + (x a).val := by
  have h : (((oRowK L).view.emb x) a).val = (k2_off2 L) a + (x a).val := by
    exact (Rect.emb_apply (orowK L) x a).trans (congrArg ((k2_off2 L) a + ·) (one_mul (x a).val))
  rw [h, k2_off2_eq]
theorem emb_irow (x : S32.Idx) (a : Fin 1) : (((iRowK L).view.emb x) a).val = ![64 * (L 1).val + 32 * (L 0).val] a + (x a).val := by
  have h : (((iRowK L).view.emb x) a).val = (k2_off1 L) a + (x a).val := by
    exact (Rect.emb_apply (irowK L) x a).trans (congrArg ((k2_off1 L) a + ·) (one_mul (x a).val))
  rw [h, k2_off1_eq]
theorem emb_tall (x : S8192x128.Idx) : tAllK.view.emb x = x := by
  funext a; apply Fin.ext
  show (((Rect.unit (s := S8192x128) ![0, 0] S8192x128.size inb_S8192x128_S8192x128_0_0).emb x) a).val = _
  rw [Rect.emb_apply]
  match a with
  | ⟨0, _⟩ => show 0 + 1 * _ = _; omega
  | ⟨1, _⟩ => show 0 + 1 * _ = _; omega

/-- Entry `k` of a tile's part of the list. -/
abbrev wix (k : Fin 32) : S32.Idx := fun | 0 => k

/-- The rows a tile has gathered are those its entries of the list name. -/
theorem row_value (tb : Buf (Elt F) (tLoc d)) (ix : Buf (Elt F) (iLoc d)) (hin : ∀ j, (ix j : BitVec 32).toNat < 8192)
    (fs : Buf (Elt F) ((V d (cV L) (jV L)).loc cc2_scratch0)) (h1) (h2) (x : S32x128.Idx) :
    gatherPayload gathers_S8192x128_S32x128 (View.read (Elt F) tAllK.view tb)
      (rows (View.read (Elt F) (sV).view (View.write (Elt F) (sV).view fs (View.read (Elt F) (iRowK L).view ix) Finset.univ)) h1 h2) x
      = gath tb ix ((oRowK L).view.emb x) := by
  unfold gatherPayload
  rw [View.read_apply]
  refine (cast_eq _ _).trans ?_
  rw [emb_tall]
  unfold gath
  refine congrArg tb ?_
  have hk : ∀ k : Fin 32, ((View.read (Elt F) (sV).view (View.write (Elt F) (sV).view fs (View.read (Elt F) (iRowK L).view ix) Finset.univ)) (wix k) : BitVec 32)
      = ix ((iRowK L).view.emb (wix k)) := by
    intro k
    rw [View.write_whole_univ]
    simp only [Memref.view_whole, View.read_whole]
    exact read_list d L ix _
  have hsym : ∀ k : Fin 32, S32.rowMajor.symm (k.cast h1.symm) = wix k := by
    intro k
    apply S32.rowMajor.injective
    rw [Equiv.apply_symm_apply]
    apply Fin.ext
    rw [Shape.rowMajor_val_one]; rfl
  funext b
  apply Fin.ext
  match b with
  | ⟨0, hb⟩ =>
    have e := congrArg Fin.val (Shape.Gathers.idx_axis gathers_S8192x128_S32x128 (rows (View.read (Elt F) (sV).view (View.write (Elt F) (sV).view fs (View.read (Elt F) (iRowK L).view ix) Finset.univ)) h1 h2) x)
    refine e.trans ?_
    refine ((congrArg BitVec.toNat ((congrArg _ (hsym (x 0))).trans (hk (x 0)))).trans ?_).trans (Nat.mod_eq_of_lt (hin (lix (((oRowK L).view.emb x) 0)))).symm
    refine congrArg (fun j => BitVec.toNat (ix j : BitVec 32)) ?_
    funext a; apply Fin.ext
    match a with
    | ⟨0, _⟩ => exact (emb_irow L _ 0).trans (emb_orow L x 0).symm
  | ⟨1, hb⟩ =>
    refine (Shape.Gathers.idx_of_ne gathers_S8192x128_S32x128 _ x ⟨1, hb⟩ Nat.one_ne_zero).trans ?_
    refine Eq.trans ?_ (emb_orow L x 1).symm
    show (x 1).val = 0 + (x 1).val
    omega

theorem row_out (tb : Buf (Elt F) (tLoc d)) (ix : Buf (Elt F) (iLoc d)) (ol : Buf (Elt F) (oLoc d)) (hin : ∀ j, (ix j : BitVec 32).toNat < 8192)
    (fs : Buf (Elt F) ((V d (cV L) (jV L)).loc cc2_scratch0)) (fr : Buf (Elt F) ((V d (cV L) (jV L)).loc cc2_scratch1)) {h1} {h2} (pay : S32x128.Idx → Elt F .f32)
    (hpay : pay = View.read (Elt F) (rV).view (View.write (Elt F) (rV).view fr (gatherPayload gathers_S8192x128_S32x128 (View.read (Elt F) tAllK.view tb)
      (rows (View.read (Elt F) (sV).view (View.write (Elt F) (sV).view fs (View.read (Elt F) (iRowK L).view ix) Finset.univ)) h1 h2)) Finset.univ)) :
    ((oRowK L).view.loc (V d (cV L) (jV L)) ↦[(oRowK L).view.set]{fullShare}
        ((oRowK L).view.writes (Elt F) ol [⟨Rect.whole S32x128, pay⟩] : Buf (Elt F) (oLoc d)) : sProp 𝕄)
      ⊢ (oLoc d ↦[oSet L]{fullShare} (gath tb ix : Buf (Elt F) (oLoc d))) := by
  refine Entails.of_eq (pointsTo_congr ?_)
  intro y hy
  obtain ⟨x, -, rfl⟩ := Finset.mem_map.mp hy
  have h := congrFun (View.read_writes_whole (Val := Elt F) (oRowK L).view ol pay) x
  rw [View.read_apply] at h
  refine ((cast_eq _ _).symm.trans h).trans ?_
  rw [hpay, View.write_whole_univ]
  simp only [Memref.view_whole, View.read_whole]
  exact row_value d L tb ix hin fs h1 h2 x

variable [FloatOps F]
variable (tab : (d : Dev nD) → Buf (Elt F) (tLoc d)) (ixs : (d : Dev nD) → Buf (Elt F) (iLoc d)) (old : (d : Dev nD) → Buf (Elt F) (oLoc d))

omit [FloatOps F] in
theorem hN : ∀ h : S8192x128.Gathers 0 S32x128, ∑ j, ((rV).slice (S32x128.rowRect h.axis' j) (S32x128.stride_rowRect h.axis' j)).view.dmaCredit
      = (rV).view.dmaCredit := by decide

set_option maxHeartbeats 4000000 in
/-- One tile's run: it leaves in its rows the rows of the table that its part of the list names. -/
theorem tile_body (q : PosShare TreeShare) (hin : ∀ d j, (ixs d j : BitVec 32).toNat < 8192) (O : CellTallies nD τ sig (HIx 1)) (W : Waits sig (HIx 1)) (hO : ∀ g, O g none = 0) :
    (iprop(levAts (KK (F := F)).L (KK (F := F)).lev ∗ emp
        ∗ ((tLoc d ↦{q} tab d) ∗ (iLoc d ↦{q} ixs d) ∗ (oLoc d ↦[oSet L]{fullShare} old d))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc2_gk L tV (Memref.isWhole_whole _) iV (Memref.isWhole_whole _) oV (Memref.isWhole_whole _)
            sV (Memref.isWhole_whole _) rV (Memref.isWhole_whole _) cc2_scratch2 cc2_scoped0 cc2_scoped1)
          fun _ => iprop(((tLoc d ↦{q} tab d) ∗ (iLoc d ↦{q} ixs d) ∗ (oLoc d ↦[oSet L]{fullShare} (gath (tab d) (ixs d) : Buf (Elt F) (oLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_gk_eq_skeleton]; unfold cc2_gk_skel
  rw [(KK (F := F)).scopedBufs_V facts d (cV L) (jV L), SparseCore.Cfg.scopedSems0_V (Val := Elt F) d (cV L) (jV L), ownSems0_V, ownBufs_V]
  iintro ⟨#Hlv, -, ⟨Hx, Hi, Ho⟩, ⟨⟨%fs, Hs⟩, ⟨%fr, Hr⟩, Hbufs⟩, ⟨HsemA, HsemB, HsemC, Hsems⟩, HO⟩
  ihave Hmw := (show levAts (KK (F := F)).L (KK (F := F)).lev ⊢ Transfers.MayWaits (V d (cV L) (jV L)) (default : HIx 1) O from
    (KK (F := F)).mayWaits_none (thr := V d (cV L) (jV L)) hO) $$ Hlv
  ihave His := (pointsTo_split_subset (q := q) (f := ixs d) (S := Finset.univ) (Finset.subset_univ (iRowK L).view.set)).1 $$ Hi
  icases His with ⟨Hi, Hir⟩
  ihave Hi' := (Entails.of_eq (show ((iLoc d ↦[(iRowK L).view.set]{q} ixs d) : sProp 𝕄)
      = (iRowK L).view.loc (V d (cV L) (jV L)) ↦[(iRowK L).view.set]{q} ixs d from rfl)) $$ Hi
  ihave Ho' := (Entails.of_eq (show ((oLoc d ↦[oSet L]{fullShare} old d) : sProp 𝕄)
      = (oRowK L).view.loc (V d (cV L) (jV L)) ↦[(oRowK L).view.set]{fullShare} old d from rfl)) $$ Ho
  ihave Hx' := (Entails.of_eq (show ((tLoc d ↦{q} tab d) : sProp 𝕄)
      = tAllK.view.loc (V d (cV L) (jV L)) ↦{q} tab d from rfl)) $$ Hx
  ihave Hs' := (Entails.of_eq (show (((V d (cV L) (jV L)).loc cc2_scratch0 ↦{fullShare} fs) : sProp 𝕄)
      = (sV).view.loc (V d (cV L) (jV L)) ↦{fullShare} fs from rfl)) $$ Hs
  ihave Hr' := (Entails.of_eq (show (((V d (cV L) (jV L)).loc cc2_scratch1 ↦{fullShare} fr) : sProp 𝕄)
      = (rV).view.loc (V d (cV L) (jV L)) ↦{fullShare} fr from rfl)) $$ Hr
  sl_exec
  iapply (SparseCore.wp_gatherFromWhole countersEmb 𝒱₀ (V d (cV L) (jV L)) none (hg := gathers_S8192x128_S32x128) (default : HIx 1)
      (rV).view.dmaCredit (hN _) (by decide) (inb_of d L (ixs d) (hin d) fs _ rfl)) $$ [Hx' Hr' Hs' HsemB]
  · isplitl [Hx']; · iexact Hx'
    isplitl [Hr']; · iexact Hr'
    isplitl [Hs']; · iexact Hs'
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc2_scratch2.sem)) $$ Hmw
  iintro ⟨⟨Hr', Hx', Hs'⟩, HsemB, HO⟩
  sl_exec
  sl_step
  isplitl [Hir Hx' Ho']
  · isplitl [Hx']; · iexact Hx'
    isplitl [Hir]; · iexact Hir
    iapply (row_out d L (tab d) (ixs d) (old d) (hin d) fs fr (tile_body.sl.dma0_1 d L tab ixs hin fs fr) rfl) $$ Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

theorem defs₀_vector (c : Fin τ.nSC) (s : Fin τ.nSub) :
    defs₀ (F := F) (.scVector c s) 2 ()
      = SparseCore.onTile hcore2 hsub2 (fun c s => cc2_gk (coordsV c s)
          tV (Memref.isWhole_whole _) iV (Memref.isWhole_whole _) oV (Memref.isWhole_whole _)
          sV (Memref.isWhole_whole _) rV (Memref.isWhole_whole _) cc2_scratch2 cc2_scoped0 cc2_scoped1) ⟨⟩ c s := rfl

omit [FloatOps F] in
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hin : ∀ d j, (ixs d j : BitVec 32).toNat < 8192) : (KK (F := F)).TileObl (DD (F := F)) 𝒱 (PP tab ixs old) v₀ 0 := by
  intro d c i O W hO _ _
  simp only [show (PP (F := F) tab ixs old).ox = fun _ _ => 0 from rfl, add_zero]
  have hci : ((KK (F := F)).core 0 c).val < grid2.bound 0 ∧ ((KK (F := F)).sub 0 i).val < grid2.bound 1 := ⟨c.isLt, i.isLt⟩
  change _ ⊢ wp _ _ _ (Pipeline.liftProg (defs₀ (F := F) (.scVector ((KK (F := F)).core 0 c) ((KK (F := F)).sub 0 i)) 2 ())) _
  refine BI.Entails.trans ?_ (Pipeline.wp_liftProg (DD (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) tab ixs old (sh (Fin.cast nCore_zero c, Fin.cast nSub_zero i)) hin O W hO).trans (wp_mono frame _ _ fun _ => weaken_waits)

end Tile

end Cert.Proof.K

end
-- ==== Proof.KChain.lean ====
/- The buffers' contents along the kernel's program, from the launch to the return: what each stretch of host operations, each
   TensorCore region and the SparseCore call makes of them, and that no argument array changes. Then the three regions as
   records over those contents, the core's debts to the SparseCores riding along. -/
module

public import proofs.«01_k».proof.Proof.KRegions
public import proofs.«01_k».proof.Proof.KBody

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## The stretches of host operations -/

/-- Stretch 1. -/
abbrev ops1 : List (HloOp τ sig (Elt F)) :=
  [ StableHlo.reshape main_arg2 main_v0 (rfl : (.f32 : EltTy) = .f32) shapeCasts_S64_S1x64,
    StableHlo.reshape main_arg4 main_v1 (rfl : (.f32 : EltTy) = .f32) shapeCasts_S128_S1x128,
    StableHlo.reshape main_arg6 main_v2 (rfl : (.f32 : EltTy) = .f32) shapeCasts_S64_S1x64 ]
theorem ops1_sub : (ops1 : List (HloOp τ sig (Elt F))).Forall fun op => op.bufs ⊆ StableHlo.tcRefs τ sig :=
  ⟨StableHlo.reshape_bufs_sub .., StableHlo.reshape_bufs_sub .., StableHlo.reshape_bufs_sub ..⟩
/-- Stretch 2. -/
abbrev ops2 : List (HloOp τ sig (Elt F)) :=
  [ StableHlo.binary main_v3 main_v3 main_v4 (mulf : (⟨S1024x64, .f32⟩ : BufTy).Contents (Elt F) → (⟨S1024x64, .f32⟩ : BufTy).Contents (Elt F) → (⟨S1024x64, .f32⟩ : BufTy).Contents (Elt F)),
    StableHlo.nullary main_cst (constant S_ .f32 0x00000000#32),
    StableHlo.binary main_v4 main_cst main_v5 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    StableHlo.unary main_v5 main_v6 (broadcastInDim S1024x1 ![0] bcast_S1024_S1024x1_0 : (⟨S1024, .f32⟩ : BufTy).Contents (Elt F) → (⟨S1024x1, .f32⟩ : BufTy).Contents (Elt F)),
    StableHlo.binary main_arg7 main_arg7 main_v7 (mulf : (⟨S8192x64, .f32⟩ : BufTy).Contents (Elt F) → (⟨S8192x64, .f32⟩ : BufTy).Contents (Elt F) → (⟨S8192x64, .f32⟩ : BufTy).Contents (Elt F)),
    StableHlo.nullary main_cst_0 (constant S_ .f32 0x00000000#32),
    StableHlo.binary main_v7 main_cst_0 main_v8 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.reshape main_v8 main_v9 (rfl : (.f32 : EltTy) = .f32) shapeCasts_S8192_S1x8192 ]
theorem ops2_sub : (ops2 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.reshape_bufs_sub ..⟩
/-- Stretch 3. -/
abbrev ops3 : List (HloOp τ sig (Elt F)) :=
  [ StableHlo.reshape main_v10 main_v11 (rfl : (.i32 : EltTy) = .i32) shapeCasts_S8x1x128_S1024,
    StableHlo.nullary main_cst_1 (constant S_ .f32 0x00000000#32),
    StableHlo.unary main_cst_1 main_v12 (broadcastInDim S8192x64 ![] bcast_S_S8192x64 : (⟨S_, .f32⟩ : BufTy).Contents (Elt F) → (⟨S8192x64, .f32⟩ : BufTy).Contents (Elt F)),
    StableHlo.binary main_arg7 main_v12 main_v13 ((fun a b => concatenate S8192x128 1 [⟨S8192x64, a⟩, ⟨S8192x64, b⟩] concatenates_S8192x64_S8192x64_S8192x128_d1) : (⟨S8192x64, .f32⟩ : BufTy).Contents (Elt F) → (⟨S8192x64, .f32⟩ : BufTy).Contents (Elt F) → (⟨S8192x128, .f32⟩ : BufTy).Contents (Elt F)) ]
theorem ops3_sub : (ops3 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub ..⟩
/-- Stretch 4. -/
abbrev ops4 : List (HloOp τ sig (Elt F)) :=
  [ StableHlo.reshape main_arg9 main_v15 (rfl : (.f32 : EltTy) = .f32) shapeCasts_S128_S1x128,
    StableHlo.reshape main_arg11 main_v16 (rfl : (.f32 : EltTy) = .f32) shapeCasts_S64_S1x64,
    StableHlo.reshape main_arg13 main_v17 (rfl : (.f32 : EltTy) = .f32) shapeCasts_S128_S1x128 ]
theorem ops4_sub : (ops4 : List (HloOp τ sig (Elt F))).Forall fun op => op.bufs ⊆ StableHlo.tcRefs τ sig :=
  ⟨StableHlo.reshape_bufs_sub .., StableHlo.reshape_bufs_sub .., StableHlo.reshape_bufs_sub ..⟩
/-- Stretch 5. -/
abbrev ops5 : List (HloOp τ sig (Elt F)) :=
  [ StableHlo.reshape main_v18_0 main_v19 (rfl : (.f32 : EltTy) = .f32) shapeCasts_S1024x128_S1024x128x1,
    StableHlo.reshape main_v18_1 main_v20 (rfl : (.f32 : EltTy) = .f32) shapeCasts_S1x1_S_,
    StableHlo.nullary main_c (constantI S_ 32 64#32) ]
theorem ops5_sub : (ops5 : List (HloOp τ sig (Elt F))).Forall fun op => op.bufs ⊆ StableHlo.tcRefs τ sig :=
  ⟨StableHlo.reshape_bufs_sub .., StableHlo.reshape_bufs_sub .., StableHlo.nullary_bufs_sub ..⟩

/-- The argument arrays. -/
abbrev argRefs : List (Ref sig .tc) := [main_arg0, main_arg1, main_arg2, main_arg3, main_arg4, main_arg5, main_arg6, main_arg7, main_arg8, main_arg9, main_arg10, main_arg11, main_arg12, main_arg13]

theorem ops1_fresh : (ops1 : List (HloOp τ sig (Elt F))).Forall fun op => op.fresh = ∅ := by
  simp only [List.Forall]; repeat' constructor
/-- What stretch 1 writes. -/
abbrev wr1 : List (Ref sig .tc) := [main_v0, main_v1, main_v2]
theorem ops1_writes : (ops1 : List (HloOp τ sig (Elt F))).Forall fun op => op.writes ⊆ (wr1.map (Proc.devRef (τ := τ) .tc)).toFinset :=
  StableHlo.forall_writes_sub_of_map rfl
theorem ops1_args : ∀ a ∈ argRefs, a ∉ wr1 := ListAll.forall_mem_of_all_decide (by decide +kernel)
theorem ops2_fresh : (ops2 : List (HloOp τ sig (Elt F))).Forall fun op => op.fresh = ∅ := by
  simp only [List.Forall]; repeat' constructor
/-- What stretch 2 writes. -/
abbrev wr2 : List (Ref sig .tc) := [main_v4, main_cst, main_v5, main_v6, main_v7, main_cst_0, main_v8, main_v9]
theorem ops2_writes : (ops2 : List (HloOp τ sig (Elt F))).Forall fun op => op.writes ⊆ (wr2.map (Proc.devRef (τ := τ) .tc)).toFinset :=
  StableHlo.forall_writes_sub_of_map rfl
theorem ops2_args : ∀ a ∈ argRefs, a ∉ wr2 := ListAll.forall_mem_of_all_decide (by decide +kernel)
theorem ops3_fresh : (ops3 : List (HloOp τ sig (Elt F))).Forall fun op => op.fresh = ∅ := by
  simp only [List.Forall]; repeat' constructor
/-- What stretch 3 writes. -/
abbrev wr3 : List (Ref sig .tc) := [main_v11, main_cst_1, main_v12, main_v13]
theorem ops3_writes : (ops3 : List (HloOp τ sig (Elt F))).Forall fun op => op.writes ⊆ (wr3.map (Proc.devRef (τ := τ) .tc)).toFinset :=
  StableHlo.forall_writes_sub_of_map rfl
theorem ops3_args : ∀ a ∈ argRefs, a ∉ wr3 := ListAll.forall_mem_of_all_decide (by decide +kernel)
theorem ops4_fresh : (ops4 : List (HloOp τ sig (Elt F))).Forall fun op => op.fresh = ∅ := by
  simp only [List.Forall]; repeat' constructor
/-- What stretch 4 writes. -/
abbrev wr4 : List (Ref sig .tc) := [main_v15, main_v16, main_v17]
theorem ops4_writes : (ops4 : List (HloOp τ sig (Elt F))).Forall fun op => op.writes ⊆ (wr4.map (Proc.devRef (τ := τ) .tc)).toFinset :=
  StableHlo.forall_writes_sub_of_map rfl
theorem ops4_args : ∀ a ∈ argRefs, a ∉ wr4 := ListAll.forall_mem_of_all_decide (by decide +kernel)
theorem ops5_fresh : (ops5 : List (HloOp τ sig (Elt F))).Forall fun op => op.fresh = ∅ := by
  simp only [List.Forall]; repeat' constructor
/-- What stretch 5 writes. -/
abbrev wr5 : List (Ref sig .tc) := [main_v19, main_v20, main_c]
theorem ops5_writes : (ops5 : List (HloOp τ sig (Elt F))).Forall fun op => op.writes ⊆ (wr5.map (Proc.devRef (τ := τ) .tc)).toFinset :=
  StableHlo.forall_writes_sub_of_map rfl
theorem ops5_args : ∀ a ∈ argRefs, a ∉ wr5 := ListAll.forall_mem_of_all_decide (by decide +kernel)

/-! ## The contents at each boundary -/

variable (m : (ℓ : Loc nD τ sig) → Buf (Elt F) ℓ)

/-- A device's buffers at launch. -/
abbrev W0 : Dev nD → Valuation τ sig (Elt F) := fun c b => m (c, b)
theorem W0_args (c : Dev nD) : ∀ a ∈ argRefs, W0 m c (Proc.devRef .tc a) = m ((c : Thread nD τ).loc a) := fun _ _ => rfl

/-- What the core owes the SparseCores before call `n`. -/
abbrev OO (n : ℕ) (c : Dev nD) : CellTallies nD τ sig (HIx 1) := (KK (F := F)).Otc c n
/-- The waits it may have recorded by then. -/
abbrev BB (n : ℕ) (c : Dev nD) : Set (SemLoc sig × HIx 1) := {p | (KK (F := F)).lev ((T c : Thread nD τ), p.1) p.2 ≤ 8 * SparseCore.Cfg.Blocks.fst 1 1 n}

theorem OO_none (n : ℕ) (c : Dev nD) (g : GSem nD τ sig) : OO (F := F) n c g none = 0 := by
  by_contra h
  have h := SparseCore.Cfg.lev_of_Otc_pos (K := KK (F := F)) (d := c) (n := n) (g := g) (ι := none) (Nat.pos_of_ne_zero h)
  rw [SparseCore.Cfg.lev_none] at h; omega

/-- After stretch 1. -/
abbrev W1 : Dev nD → Valuation τ sig (Elt F) := fun c => StableHlo.after ops1 (W0 m c)
theorem W1_of (c : Dev nD) (r : Ref sig .tc) (h : r ∉ wr1) : W1 m c (Proc.devRef .tc r) = W0 m c (Proc.devRef .tc r) :=
  StableHlo.after_of_writes_sub ops1 _ ops1_writes h
theorem W1_args (c : Dev nD) : ∀ a ∈ argRefs, W1 m c (Proc.devRef .tc a) = m ((c : Thread nD τ).loc a) :=
  fun a ha => (W1_of m c a (ops1_args a ha)).trans (W0_args m c a ha)

/-- The TensorCore's view of it, what region 0 is entered with. -/
abbrev V1 : (c : Dev nD) → (b : Ref sig .tc) → Buf (Elt F) ((c : Thread nD τ).loc b) := fun c b => W1 m c b
/-- After region 0: its arrays at what its write-backs leave, the rest as before. -/
def W2 (c : Dev nD) : Valuation τ sig (Elt F) :=
  Pipeline.withArrays spec0 c (W1 m c) fun w => (dat0 (V1 m) (OO (F := F) 0) (BB (F := F) 0) c).arrAt w cfg0.N
theorem W2_arr (c : Dev nD) (w : Fin cfg0.W) :
    W2 m c (Proc.devRef .tc (Pipeline.arrRef spec0 w)) = (dat0 (V1 m) (OO (F := F) 0) (BB (F := F) 0) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) (OO (F := F) 0) (BB (F := F) 0) c).arrAt_in w (h w rfl) _).trans (A_eq0 (V1 m) _ _ c w))
  · exact W2_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn0 a ha)).trans (W1_args m c a ha)
abbrev V2 : (c : Dev nD) → (b : Ref sig .tc) → Buf (Elt F) ((c : Thread nD τ).loc b) := fun c b => W2 m c b
theorem hF0 (c : Dev nD) (w : Fin cfg0.W) : (dat0 (V1 m) (OO (F := F) 0) (BB (F := F) 0) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After stretch 2. -/
abbrev W3 : Dev nD → Valuation τ sig (Elt F) := fun c => StableHlo.after ops2 (W2 m c)
theorem W3_of (c : Dev nD) (r : Ref sig .tc) (h : r ∉ wr2) : W3 m c (Proc.devRef .tc r) = W2 m c (Proc.devRef .tc r) :=
  StableHlo.after_of_writes_sub ops2 _ ops2_writes h
theorem W3_args (c : Dev nD) : ∀ a ∈ argRefs, W3 m c (Proc.devRef .tc a) = m ((c : Thread nD τ).loc a) :=
  fun a ha => (W3_of m c a (ops2_args a ha)).trans (W2_args m c a ha)

/-- The TensorCore's view of it, what region 1 is entered with. -/
abbrev V3 : (c : Dev nD) → (b : Ref sig .tc) → Buf (Elt F) ((c : Thread nD τ).loc b) := fun c b => W3 m c b
/-- After region 1: its arrays at what its write-backs leave, the rest as before. -/
def W4 (c : Dev nD) : Valuation τ sig (Elt F) :=
  Pipeline.withArrays spec1 c (W3 m c) fun w => (dat1 (V3 m) (OO (F := F) 0) (BB (F := F) 0) c).arrAt w cfg1.N
theorem W4_arr (c : Dev nD) (w : Fin cfg1.W) :
    W4 m c (Proc.devRef .tc (Pipeline.arrRef spec1 w)) = (dat1 (V3 m) (OO (F := F) 0) (BB (F := F) 0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (W4_arr m c w).trans (((dat1 (V3 m) (OO (F := F) 0) (BB (F := F) 0) c).arrAt_in w (h w rfl) _).trans (A_eq1 (V3 m) _ _ c w))
  · exact W4_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m c (Proc.devRef .tc a) = m ((c : Thread nD τ).loc a) :=
  fun a ha => (W4_of m c a (argsIn1 a ha)).trans (W3_args m c a ha)
abbrev V4 : (c : Dev nD) → (b : Ref sig .tc) → Buf (Elt F) ((c : Thread nD τ).loc b) := fun c b => W4 m c b
theorem hF1 (c : Dev nD) (w : Fin cfg1.W) : (dat1 (V3 m) (OO (F := F) 0) (BB (F := F) 0) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After stretch 3. -/
abbrev W5 : Dev nD → Valuation τ sig (Elt F) := fun c => StableHlo.after ops3 (W4 m c)
theorem W5_of (c : Dev nD) (r : Ref sig .tc) (h : r ∉ wr3) : W5 m c (Proc.devRef .tc r) = W4 m c (Proc.devRef .tc r) :=
  StableHlo.after_of_writes_sub ops3 _ ops3_writes h
theorem W5_args (c : Dev nD) : ∀ a ∈ argRefs, W5 m c (Proc.devRef .tc a) = m ((c : Thread nD τ).loc a) :=
  fun a ha => (W5_of m c a (ops3_args a ha)).trans (W4_args m c a ha)

/-- The table the SparseCores read, the rows they are asked for, and the array they write, before their call. -/
abbrev tabW (d : Dev nD) : Buf (Elt F) (tLoc d) := W5 m d (Proc.devRef .tc main_v13)
abbrev ixsW (d : Dev nD) : Buf (Elt F) (iLoc d) := W5 m d (Proc.devRef .tc main_v11)
abbrev oldW (d : Dev nD) : Buf (Elt F) (oLoc d) := W5 m d (Proc.devRef .tc main_v14)
/-- After the SparseCore call: the gathered rows in the array they write. -/
def W6 (c : Dev nD) : Valuation τ sig (Elt F) :=
  Function.update (W5 m c) (Proc.devRef .tc main_v14) (gath (tabW m c) (ixsW m c) : Buf (Elt F) (oLoc c))
theorem W6_out (c : Dev nD) : W6 m c (Proc.devRef .tc main_v14) = (gath (tabW m c) (ixsW m c) : Buf (Elt F) (oLoc c)) := by
  unfold W6; exact Function.update_self _ _ _
theorem W6_of' (c : Dev nD) (b : DevRef τ sig) (h : b ≠ Proc.devRef .tc main_v14) : W6 m c b = W5 m c b := by
  unfold W6; exact Function.update_of_ne h _ _
theorem W6_of (c : Dev nD) (r : Ref sig .tc) (h : r ≠ main_v14) : W6 m c (Proc.devRef .tc r) = W5 m c (Proc.devRef .tc r) :=
  W6_of' m c _ fun e => h (Proc.devRef_injective _ e)
theorem W6_args (c : Dev nD) : ∀ a ∈ argRefs, W6 m c (Proc.devRef .tc a) = m ((c : Thread nD τ).loc a) :=
  fun a ha => (W6_of m c a (by revert a; exact ListAll.forall_mem_of_all_decide (by decide +kernel))).trans (W5_args m c a ha)

/-- After stretch 4. -/
abbrev W7 : Dev nD → Valuation τ sig (Elt F) := fun c => StableHlo.after ops4 (W6 m c)
theorem W7_of (c : Dev nD) (r : Ref sig .tc) (h : r ∉ wr4) : W7 m c (Proc.devRef .tc r) = W6 m c (Proc.devRef .tc r) :=
  StableHlo.after_of_writes_sub ops4 _ ops4_writes h
theorem W7_args (c : Dev nD) : ∀ a ∈ argRefs, W7 m c (Proc.devRef .tc a) = m ((c : Thread nD τ).loc a) :=
  fun a ha => (W7_of m c a (ops4_args a ha)).trans (W6_args m c a ha)

/-- The TensorCore's view of it, what region 3 is entered with. -/
abbrev V7 : (c : Dev nD) → (b : Ref sig .tc) → Buf (Elt F) ((c : Thread nD τ).loc b) := fun c b => W7 m c b
/-- After region 3: its arrays at what its write-backs leave, the rest as before. -/
def W8 (c : Dev nD) : Valuation τ sig (Elt F) :=
  Pipeline.withArrays spec3 c (W7 m c) fun w => (dat3 (V7 m) (OO (F := F) 1) (BB (F := F) 1) c).arrAt w cfg3.N
theorem W8_arr (c : Dev nD) (w : Fin cfg3.W) :
    W8 m c (Proc.devRef .tc (Pipeline.arrRef spec3 w)) = (dat3 (V7 m) (OO (F := F) 1) (BB (F := F) 1) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem W8_of (c : Dev nD) (r : Ref sig .tc) (h : ∀ w : Fin cfg3.W, Pipeline.arrRef spec3 w = r → (cfg3.win w).isOut = false) :
    W8 m c (Proc.devRef .tc r) = W7 m c (Proc.devRef .tc r) := by
  by_cases hw : ∃ w : Fin cfg3.W, Pipeline.arrRef spec3 w = r
  · obtain ⟨w, rfl⟩ := hw
    exact (W8_arr m c w).trans (((dat3 (V7 m) (OO (F := F) 1) (BB (F := F) 1) c).arrAt_in w (h w rfl) _).trans (A_eq3 (V7 m) _ _ c w))
  · exact W8_of_ne m c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m c (Proc.devRef .tc a) = m ((c : Thread nD τ).loc a) :=
  fun a ha => (W8_of m c a (argsIn3 a ha)).trans (W7_args m c a ha)
abbrev V8 : (c : Dev nD) → (b : Ref sig .tc) → Buf (Elt F) ((c : Thread nD τ).loc b) := fun c b => W8 m c b
theorem hF3 (c : Dev nD) (w : Fin cfg3.W) : (dat3 (V7 m) (OO (F := F) 1) (BB (F := F) 1) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-- After stretch 5. -/
abbrev W9 : Dev nD → Valuation τ sig (Elt F) := fun c => StableHlo.after ops5 (W8 m c)
theorem W9_of (c : Dev nD) (r : Ref sig .tc) (h : r ∉ wr5) : W9 m c (Proc.devRef .tc r) = W8 m c (Proc.devRef .tc r) :=
  StableHlo.after_of_writes_sub ops5 _ ops5_writes h
theorem W9_args (c : Dev nD) : ∀ a ∈ argRefs, W9 m c (Proc.devRef .tc a) = m ((c : Thread nD τ).loc a) :=
  fun a ha => (W9_of m c a (ops5_args a ha)).trans (W8_args m c a ha)

/-! ## The proof data and the regions -/

abbrev adm : (p : Fin 3) → (pcfgs (F := F) p).Adm := fun p => (cfgs p).toPCfg_adm
/-- Each region's proof data at the contents it is entered with. -/
def pdats : (p : Fin 3) → (c : Dev nD) → Dat τ (Elt F) (HIx 1) ℕ UU ℕ (Pipeline.pin (pcfgs (F := F)) adm p) c
  | ⟨0, _⟩ => fun c => dat0 (V1 m) (OO (F := F) 0) (BB (F := F) 0) c
  | ⟨1, _⟩ => fun c => dat1 (V3 m) (OO (F := F) 0) (BB (F := F) 0) c
  | ⟨2, _⟩ => fun c => dat3 (V7 m) (OO (F := F) 1) (BB (F := F) 1) c

/-- What rides beside the buffers: the generator register, and the debts before call `n` with the waits recorded. -/
def RR (n : ℕ) (c : Dev nD) : sProp 𝕄 :=
  iprop((∃ r, prngReg c r) ∗ ∃ W, ⌜(KK (F := F)).WBelow (T c) W (8 * SparseCore.Cfg.Blocks.fst 1 1 n)⌝ ∗ owes (T c : Thread nD τ) (OO (F := F) n c) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 as a record: from every unscoped buffer at the contents before it to the same at the contents after. -/
def reg0 : Pipeline.RegionSeg (pcfgs (F := F)) adm (pdats m) none defs₀ 𝒱₀ (KK (F := F)).L (KK (F := F)).lev 0 where
  win := launch0.win.to₀
  block_pos := launch0.block_pos
  stage_whole := launch0.stage_whole
  K := PEmpty
  osem k := k.elim
  ho := Pipeline.OwnSemFacts.none _
  hbody c := (body_obligation0 (V1 m) (OO (F := F) 0) (BB (F := F) 0) c).loose
  hwaits c := BI.bigSep_intro_persistent fun w _ => BI.bigSep_intro_persistent fun s _ => BI.bigSep_intro_persistent fun t _ =>
    (KK (F := F)).mayWait_none _ (OO_none (F := F) 0 c)
  pre c := iprop(StableHlo.held (c : Thread nD τ) (Pipeline.ucRefs τ sig) (W1 m c) ∗ RR (F := F) 0 c)
  post c := iprop(StableHlo.held (c : Thread nD τ) (Pipeline.ucRefs τ sig) (W2 m c) ∗ RR (F := F) 0 c)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) _ _ c)
    rw [Pipeline.unscopedBufs_held] at hsplit
    unfold RR
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun q hq => Or.inl (hW q hq)
      iexact HO
    isplitl [Hp]; · iexact Hp
    iexact Hrest
  hin c := by
    rw [show (pdats m 0 c).Φ 0 = ΦR spec0 c from rfl]; unfold ΦR
    iintro ⟨Hp, -, Hr⟩
    isplitl [Hr]; · iexact Hr
    iexact Hp
  hout c := by
    rw [Pipeline.ownSems0_none, show (pdats m 0 c).Φ (Fin.last _) = ΦR spec0 c from rfl]; unfold ΦR
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    unfold RR
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro q hq
      rcases hW (show q ∈ (↑W : Set _) from hq) with h | ⟨w, s, rfl⟩
      · exact h
      · exact Nat.zero_le _
    iexact HO

set_option backward.isDefEq.respectTransparency.types false in
/-- Region 1 as a record: from every unscoped buffer at the contents before it to the same at the contents after. -/
def reg1 : Pipeline.RegionSeg (pcfgs (F := F)) adm (pdats m) none defs₀ 𝒱₀ (KK (F := F)).L (KK (F := F)).lev 1 where
  win := launch1.win.to₀
  block_pos := launch1.block_pos
  stage_whole := launch1.stage_whole
  K := PEmpty
  osem k := k.elim
  ho := Pipeline.OwnSemFacts.none _
  hbody c := (body_obligation1 (V3 m) (OO (F := F) 0) (BB (F := F) 0) c).loose
  hwaits c := BI.bigSep_intro_persistent fun w _ => BI.bigSep_intro_persistent fun s _ => BI.bigSep_intro_persistent fun t _ =>
    (KK (F := F)).mayWait_none _ (OO_none (F := F) 0 c)
  pre c := iprop(StableHlo.held (c : Thread nD τ) (Pipeline.ucRefs τ sig) (W3 m c) ∗ RR (F := F) 0 c)
  post c := iprop(StableHlo.held (c : Thread nD τ) (Pipeline.ucRefs τ sig) (W4 m c) ∗ RR (F := F) 0 c)
  X c := iprop(∃ r, prngReg c r)
  Y c := iprop(∃ r, prngReg c r)
  Z c := Pipeline.unscopedRest (Ix := HIx 1) (Name := ℕ) (U := UU) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) (A_eq1 (V3 m) _ _ c)
    rw [Pipeline.unscopedBufs_held] at hsplit
    unfold RR
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun q hq => Or.inl (hW q hq)
      iexact HO
    isplitl [Hp]; · iexact Hp
    iexact Hrest
  hin c := by
    rw [show (pdats m 1 c).Φ 0 = ΦR spec1 c from rfl]; unfold ΦR
    iintro ⟨Hp, -, Hr⟩
    isplitl [Hr]; · iexact Hr
    iexact Hp
  hout c := by
    rw [Pipeline.ownSems0_none, show (pdats m 1 c).Φ (Fin.last _) = ΦR spec1 c from rfl]; unfold ΦR
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    unfold RR
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro q hq
      rcases hW (show q ∈ (↑W : Set _) from hq) with h | ⟨w, s, rfl⟩
      · exact h
      · exact Nat.zero_le _
    iexact HO

set_option backward.isDefEq.respectTransparency.types false in
/-- Region 3 as a record: from every unscoped buffer at the contents before it to the same at the contents after. -/
def reg3 : Pipeline.RegionSeg (pcfgs (F := F)) adm (pdats m) none defs₀ 𝒱₀ (KK (F := F)).L (KK (F := F)).lev 2 where
  win := launch3.win.to₀
  block_pos := launch3.block_pos
  stage_whole := launch3.stage_whole
  K := PEmpty
  osem k := k.elim
  ho := Pipeline.OwnSemFacts.none _
  hbody c := (body_obligation3 (V7 m) (OO (F := F) 1) (BB (F := F) 1) c).loose
  hwaits c := BI.bigSep_intro_persistent fun w _ => BI.bigSep_intro_persistent fun s _ => BI.bigSep_intro_persistent fun t _ =>
    (KK (F := F)).mayWait_none _ (OO_none (F := F) 1 c)
  pre c := iprop(StableHlo.held (c : Thread nD τ) (Pipeline.ucRefs τ sig) (W7 m c) ∗ RR (F := F) 1 c)
  post c := iprop(StableHlo.held (c : Thread nD τ) (Pipeline.ucRefs τ sig) (W8 m c) ∗ RR (F := F) 1 c)
  X c := iprop(∃ r, prngReg c r)
  Y c := iprop(∃ r, prngReg c r)
  Z c := Pipeline.unscopedRest (Ix := HIx 1) (Name := ℕ) (U := UU) (Lvl := ℕ) spec3 c (V7 m c)
  hentry c := by
    rw [Pipeline.ownSems0_none]
    have hsplit := Pipeline.arrays_of_unscopedBufs (p := 2) (pcfgs (F := F)) adm (pdats m) launch3.win launch3.arr_whole c
      ((pdats m 2 c).share_full fun _ => rfl) (V7 m c) (A_eq3 (V7 m) _ _ c)
    rw [Pipeline.unscopedBufs_held] at hsplit
    unfold RR
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun q hq => Or.inl (hW q hq)
      iexact HO
    isplitl [Hp]; · iexact Hp
    iexact Hrest
  hin c := by
    rw [show (pdats m 2 c).Φ 0 = ΦR spec3 c from rfl]; unfold ΦR
    iintro ⟨Hp, -, Hr⟩
    isplitl [Hr]; · iexact Hr
    iexact Hp
  hout c := by
    rw [Pipeline.ownSems0_none, show (pdats m 2 c).Φ (Fin.last _) = ΦR spec3 c from rfl]; unfold ΦR
    iintro ⟨Hr, Hp⟩
    isplitl [Hp]; · iexact Hp
    isplitr; · iempintro
    iexact Hr
  hexit c := by
    have hjoin := Pipeline.unscopedBufs_of_arrays (p := 2) (pcfgs (F := F)) adm (Ix := HIx 1) (Name := ℕ) (U := UU) (Lvl := ℕ)
      launch3.win launch3.arr_whole c (pdats m) ((pdats m 2 c).share_full fun _ => rfl)
      (V7 m c) (V8 m c) ((pdats m 2 c).arrAt · cfg3.N) (hF3 m c) (hrest3 m c)
    rw [Pipeline.unscopedBufs_held] at hjoin
    unfold RR
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro q hq
      rcases hW (show q ∈ (↑W : Set _) from hq) with h | ⟨w, s, rfl⟩
      · exact h
      · exact Nat.zero_le _
    iexact HO

end Cert.Proof.K
-- ==== Proof.KLaunch.lean ====
/- The launch: the ghost state dealt to the handshakes and to the three regions, the TensorCore's program from the launch to
   the return, and the program's run, every unscoped buffer read at its last contents. -/
module

public import proofs.«01_k».proof.Proof.KChain

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-- Where the regions' rounds live. -/
abbrev EP : Emb (UR sig nD τ) 𝕄 := (Emb.inl : Emb (UR sig nD τ) (UR sig nD τ × Counters)).trans embR

variable (m : (ℓ : Loc nD τ sig) → Buf (Elt F) ℓ) (ρ : Dev nD → PrngReg)

/-! ## The ghost state -/

def u₀ : UU := (initOf (KK (F := F)).hsCells (KK (F := F)).hsToks,
  (initOf (Pipeline.cells cfgs cellOf_inj) (Pipeline.launchToks cfgs cellOf_inj), 1))

/-- What a device's program is dealt of the regions' rounds. -/
abbrev GG (d : Dev nD) : sProp 𝕄 := iprop(Pipeline.ghostOn (pcfgs (F := F)) adm EP {0, 1} d ∗ Pipeline.ghostOn (pcfgs (F := F)) adm EP {2} d)

abbrev PW := PP (F := F) (tabW m) (ixsW m) (oldW m)

set_option backward.isDefEq.respectTransparency.types false in
theorem deal_one (d : Dev nD) :
    iprop((bigSep Finset.univ fun p => Pipeline.cellsGhost cfgs EP p d) ∗ (bigSep Finset.univ fun p => Pipeline.toksInit cfgs EP p d)) ⊢ (GG d : sProp 𝕄) := by
  rw [← bigSep_sep' (Finset.univ : Finset (Fin 3)), show (Finset.univ : Finset (Fin 3)) = insert 0 (insert 1 {2}) by decide,
    SparseCore.bigSep_insert' (by decide), SparseCore.bigSep_insert' (by decide)]
  unfold GG Pipeline.ghostOn Pipeline.PerCore.ghostOn
  rw [SparseCore.bigSep_insert' (by decide)]
  simp only [bigSep_singleton]
  iintro ⟨H0, H1, H2⟩
  isplitr [H2]
  · isplitl [H0]
    · iexact H0
    · iexact H1
  · iexact H2

set_option backward.isDefEq.respectTransparency.types false in
theorem deal :
    iprop((bigSep Finset.univ fun c : Dev nD => bigSep Finset.univ fun p => Pipeline.cellsGhost cfgs EP p c)
          ∗ (bigSep Finset.univ fun c : Dev nD => bigSep Finset.univ fun p => Pipeline.toksInit cfgs EP p c)) ⊢ (bigSep Finset.univ fun d : Dev nD => GG (F := F) d : sProp 𝕄) := by
  rw [← bigSep_sep' (Finset.univ : Finset (Dev nD))]
  exact bigSep_mono fun d _ => deal_one d

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (KK (F := F)).hsCells (KK (F := F)).hsToks)) ∗ (bigSep Finset.univ fun d : Dev nD => GG d)
        ∗ bigSep Finset.univ fun thr : Thread nD τ => bigSep Finset.univ fun q : Fin 1 => (PW m).x q thr) := by
  unfold u₀
  iintro Hu
  ihave H := (ownU_pair (initOf (KK (F := F)).hsCells (KK (F := F)).hsToks)
    ((initOf (Pipeline.cells cfgs cellOf_inj) (Pipeline.launchToks cfgs cellOf_inj), 1) : UR sig nD τ × Counters)) $$ Hu
  icases H with ⟨HH, HR⟩
  ihave H := (own_pair_emb embR (initOf (Pipeline.cells cfgs cellOf_inj) (Pipeline.launchToks cfgs cellOf_inj)) (1 : Counters)) $$ HR
  icases H with ⟨HP, -⟩
  imod (Pipeline.fund_ghost cfgs EP cellOf_inj) $$ HP with HG
  ihave HG := deal $$ HG
  imodintro
  isplitl [HH]; · iexact HH
  isplitl [HG]; · iexact HG
  rw [show (bigSep Finset.univ fun thr : Thread nD τ => bigSep Finset.univ fun q : Fin 1 => (PW (F := F) m).x q thr) = bigSep Finset.univ fun _ => iprop(emp) from
    bigSep_congr fun _ _ => bigSep_univ_of_subsingleton (0 : Fin 1), emps]
  iempintro

/-! ## The program -/

/-- A stretch of host operations as a segment. -/
abbrev hseg (n : ℕ) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (KK (F := F)).L (KK (F := F)).lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (RR (F := F) n)

abbrev Segs := List (Pipeline.Seg (pcfgs (F := F)) adm (pdats m) none defs₀ 𝒱₀ (KK (F := F)).L (KK (F := F)).lev)

/-- Up to the SparseCore call, -/
abbrev segsA : Segs m :=
  [ .host (hseg 0 ops1 ops1_sub ops1_fresh (W0 m)), .region (reg0 m), .host (hseg 0 ops2 ops2_sub ops2_fresh (W2 m)),
    .region (reg1 m), .host (hseg 0 ops3 ops3_sub ops3_fresh (W4 m)) ]
/-- and from it to the return. -/
abbrev segsB : Segs m :=
  [ .host (hseg 1 ops4 ops4_sub ops4_fresh (W6 m)), .region (reg3 m), .host (hseg 1 ops5 ops5_sub ops5_fresh (W8 m)) ]

theorem main_run (d : Dev nD) : main (F := F) d
    = (SparseCore.liftProg (Q := 1) (Pipeline.Seg.run (segsA m)) >>= fun _ => (KK (F := F)).run d 0 >>= fun _ => SparseCore.liftProg (Q := 1) (Pipeline.Seg.run (segsB m))) := by
  chain_rfl

/-- The thread's state between segments. -/
abbrev TS (n : ℕ) (W : Dev nD → Valuation τ sig (Elt F)) (c : Dev nD) : sProp 𝕄 :=
  iprop(StableHlo.held (c : Thread nD τ) (Pipeline.ucRefs τ sig) (W c) ∗ RR (F := F) n c)

instance : (EP (F := F)).LandsIn (upEmb : UEmb _ 𝕄) := by unfold EP; infer_instance

theorem runA [∀ e, Nonempty (Elt F e)] (d : Dev nD) (Q : PUnit → sProp 𝕄) :
    iprop((iprop(boundary (d.tc : Thread nD τ) ∗ TS 0 (W5 m) d) -∗ Q ⟨⟩) ∗ boundary (d.tc : Thread nD τ) ∗ TS 0 (W0 m) d
        ∗ levAts (KK (F := F)).L (KK (F := F)).lev ∗ Pipeline.ghostOn (pcfgs (F := F)) adm EP {0, 1} d)
      ⊢ wp frame (wpE (DD (F := F)) 𝒱 (d.tc : Thread nD τ) none) Set.univ (Pipeline.Seg.run (segsA m)) Q :=
  Pipeline.wp_segs (pcfgs (F := F)) adm (pdats m) none cellOf_inj EP defs₀ 𝒱₀ (KK (F := F)).L (KK (F := F)).lev d (segsA m) {0, 1}
    (TS 0 (W0 m)) (TS 0 (W5 m))
    (by simp only [segsA, Pipeline.Seg.pipes_host, Pipeline.Seg.pipes_region, Pipeline.Seg.pipes_nil]; decide)
    (by simp only [segsA, Pipeline.Seg.pipes_host, Pipeline.Seg.pipes_region, Pipeline.Seg.pipes_nil]; decide)
    ⟨fun _ => .rfl, fun _ => .rfl, fun _ => .rfl, fun _ => .rfl, fun _ => .rfl, fun _ => .rfl⟩

theorem runB [∀ e, Nonempty (Elt F e)] (d : Dev nD) (Q : PUnit → sProp 𝕄) :
    iprop((iprop(boundary (d.tc : Thread nD τ) ∗ TS 1 (W9 m) d) -∗ Q ⟨⟩) ∗ boundary (d.tc : Thread nD τ) ∗ TS 1 (W6 m) d
        ∗ levAts (KK (F := F)).L (KK (F := F)).lev ∗ Pipeline.ghostOn (pcfgs (F := F)) adm EP {2} d)
      ⊢ wp frame (wpE (DD (F := F)) 𝒱 (d.tc : Thread nD τ) none) Set.univ (Pipeline.Seg.run (segsB m)) Q :=
  Pipeline.wp_segs (pcfgs (F := F)) adm (pdats m) none cellOf_inj EP defs₀ 𝒱₀ (KK (F := F)).L (KK (F := F)).lev d (segsB m) {2}
    (TS 1 (W6 m)) (TS 1 (W9 m))
    (by simp only [segsB, Pipeline.Seg.pipes_host, Pipeline.Seg.pipes_region, Pipeline.Seg.pipes_nil]; decide)
    (by simp only [segsB, Pipeline.Seg.pipes_host, Pipeline.Seg.pipes_region, Pipeline.Seg.pipes_nil]; decide)
    ⟨fun _ => .rfl, fun _ => .rfl, fun _ => .rfl, fun _ => .rfl⟩

/-! ### The call: its three arrays out of the buffers and back -/

abbrev r13 : DevRef τ sig := Proc.devRef .tc main_v13
abbrev r11 : DevRef τ sig := Proc.devRef .tc main_v11
abbrev r14 : DevRef τ sig := Proc.devRef .tc main_v14
/-- The buffers the call does not touch. -/
abbrev others : Finset (DevRef τ sig) := ((Pipeline.ucRefs τ sig \ {r13}) \ {r11}) \ {r14}

theorem uc_cut : Pipeline.ucRefs τ sig = insert r13 (insert r11 (insert r14 others)) := by
  have h1 : r13 ∈ Pipeline.ucRefs τ sig := mem_uc main_v13 (by decide)
  have h2 : r11 ∈ Pipeline.ucRefs τ sig := mem_uc main_v11 (by decide)
  have h3 : r14 ∈ Pipeline.ucRefs τ sig := mem_uc main_v14 (by decide)
  ext b
  simp only [Finset.mem_insert, Finset.mem_sdiff, Finset.mem_singleton]
  constructor
  · intro hb
    by_cases e1 : b = r13; · exact .inl e1
    by_cases e2 : b = r11; · exact .inr (.inl e2)
    by_cases e3 : b = r14; · exact .inr (.inr (.inl e3))
    exact .inr (.inr (.inr ⟨⟨⟨hb, e1⟩, e2⟩, e3⟩))
  · rintro (rfl | rfl | rfl | ⟨⟨⟨hb, -⟩, -⟩, -⟩)
    exacts [h1, h2, h3, hb]

theorem ne13_11 : r13 ≠ r11 := fun e => absurd (Proc.devRef_injective _ e) (by decide)
theorem ne13_14 : r13 ≠ r14 := fun e => absurd (Proc.devRef_injective _ e) (by decide)
theorem ne11_14 : r11 ≠ r14 := fun e => absurd (Proc.devRef_injective _ e) (by decide)

theorem held_cut (d : Dev nD) (W : Valuation τ sig (Elt F)) :
    (StableHlo.held (d.tc : Thread nD τ) (Pipeline.ucRefs τ sig) W : sProp 𝕄)
      = iprop((tLoc d ↦{fullShare} (W r13 : Buf (Elt F) (tLoc d))) ∗ (iLoc d ↦{fullShare} (W r11 : Buf (Elt F) (iLoc d)))
          ∗ (oLoc d ↦{fullShare} (W r14 : Buf (Elt F) (oLoc d))) ∗ StableHlo.held (d.tc : Thread nD τ) others W) := by
  rw [uc_cut]; unfold StableHlo.held
  rw [SparseCore.bigSep_insert' (by simp [ne13_11, ne13_14]), SparseCore.bigSep_insert' (by simp [ne11_14]),
    SparseCore.bigSep_insert' (by simp)]

theorem held_others (d : Dev nD) :
    (StableHlo.held (d.tc : Thread nD τ) others (W6 m d) : sProp 𝕄) = StableHlo.held (d.tc : Thread nD τ) others (W5 m d) := by
  unfold StableHlo.held
  refine bigSep_congr fun b hb => ?_
  rw [W6_of' m d b (fun e => (Finset.mem_sdiff.mp hb).2 (Finset.mem_singleton.mpr e))]

theorem call_st (d : Dev nD) : (StableHlo.held (d.tc : Thread nD τ) (Pipeline.ucRefs τ sig) (W5 m d) : sProp 𝕄)
    ⊢ iprop((bigSep Finset.univ fun c : Fin ((KK (F := F)).nCore 0) => (PW m).st 0 d c) ∗ StableHlo.held (d.tc : Thread nD τ) others (W5 m d)) := by
  rw [held_cut, st_eq (tabW m) (ixsW m) (oldW m) d]
  iintro ⟨H1, H2, H3, H4⟩
  isplitr [H4]
  · isplitl [H1]; · iexact H1
    isplitl [H2]; · iexact H2
    iexact H3
  · iexact H4

theorem call_dn (d : Dev nD) : iprop((bigSep Finset.univ fun c : Fin ((KK (F := F)).nCore 0) => (PW m).dn 0 d c) ∗ StableHlo.held (d.tc : Thread nD τ) others (W5 m d))
    ⊢ (StableHlo.held (d.tc : Thread nD τ) (Pipeline.ucRefs τ sig) (W6 m d) : sProp 𝕄) := by
  rw [held_cut, dn_eq (tabW m) (ixsW m) (oldW m) d, held_others, W6_out, W6_of' m d r13 ne13_14, W6_of' m d r11 ne11_14]
  iintro ⟨⟨H1, H2, H3⟩, H4⟩
  isplitl [H1]; · iexact H1
  isplitl [H2]; · iexact H2
  isplitl [H3]; · iexact H3
  iexact H4

/-- What a device's program keeps at the return: every unscoped buffer at its last contents. -/
abbrev FIN (d : Dev nD) : sProp 𝕄 := StableHlo.held (d.tc : Thread nD τ) (Pipeline.ucRefs τ sig) (W9 m d)

theorem hmain [∀ e, Nonempty (Elt F e)] (κ : GSem nD τ sig → ℕ) (d : Dev nD) :
    iprop((KK (F := F)).ctx EH (PW m) κ ∗ (KK (F := F)).tcSt EH d 0 ∗ (KK (F := F)).tcRes m ρ d ∗ GG d)
      ⊢ wp frame (wpE ((KK (F := F)).defs (DD (F := F))) 𝒱 (SparseCore.T d) none) Set.univ (main d)
          fun _ => iprop((KK (F := F)).tcSt EH d 1 ∗ FIN m d ∗ (KK (F := F)).tcEnd d) := by
  unfold SparseCore.Cfg.tcRes SparseCore.Cfg.tcEnd
  rw [main_run m d, show unscopedBufs d (fun b => m ((SparseCore.T d).loc b)) = StableHlo.held (d.tc : Thread nD τ) (Pipeline.ucRefs τ sig) (W0 m d)
        from Pipeline.unscopedBufs_held d (W0 m d)]
  simp only [wp_bind]
  iintro ⟨#Hctx, Hst, ⟨Hb, Hbufs, Hts, Hprng⟩, ⟨HGA, HGB⟩⟩
  ihave #Hlev := (SparseCore.Cfg.ctx_levAts (K := KK (F := F)) κ) $$ Hctx
  unfold SparseCore.Cfg.tcSt
  icases Hst with ⟨HO, Hrest⟩
  iapply ((KK (F := F)).wp_liftProg (DD (F := F)) 𝒱 (SparseCore.T d) Set.univ none)
  iapply (runA m d)
  isplitr [Hb Hbufs Hprng HO HGA]
  · iintro ⟨Hb, Hbufs, HRR⟩
    unfold RR
    icases HRR with ⟨Hprng, HO⟩
    ihave H := (call_st m d) $$ Hbufs
    icases H with ⟨Hcall, Hoth⟩
    iapply ((KK (F := F)).wp_run (DD (F := F)) 𝒱 (EH := EH) (P := PW m) κ d 0)
    isplitr; · iexact Hctx
    isplitl [HO Hrest]
    · unfold SparseCore.Cfg.tcSt
      isplitl [HO]; · iexact HO
      iexact Hrest
    isplitl [Hcall]; · iexact Hcall
    iintro ⟨Hst, Hdn⟩
    unfold SparseCore.Cfg.tcSt
    icases Hst with ⟨HO, Hrest⟩
    iapply ((KK (F := F)).wp_liftProg (DD (F := F)) 𝒱 (SparseCore.T d) Set.univ none)
    iapply (runB m d)
    isplitr [Hb Hprng HO HGB Hdn Hoth]
    · iintro ⟨Hb, Hbufs, HRR⟩
      unfold RR
      icases HRR with ⟨-, HO⟩
      isplitl [HO Hrest]
      · isplitl [HO]; · iexact HO
        iexact Hrest
      isplitl [Hbufs]; · iexact Hbufs
      isplitl [Hb] <;> iassumption
    isplitl [Hb]; · iexact Hb
    isplitl [Hprng HO Hdn Hoth]
    · isplitl [Hdn Hoth]
      · iapply (call_dn m d); isplitl [Hdn] <;> iassumption
      unfold RR
      isplitl [Hprng]; · iexact Hprng
      iexact HO
    isplitr; · iexact Hlev
    iexact HGB
  isplitl [Hb]; · iexact Hb
  isplitl [Hbufs Hprng HO]
  · isplitl [Hbufs]; · iexact Hbufs
    unfold RR
    isplitl [Hprng]; · iexists _; iexact Hprng
    iexact HO
  isplitr; · iexact Hlev
  iexact HGA

/-! ## The run -/

def fq (d : Dev nD) (s' : Phys nD τ sig (Elt F)) : Prop := ∀ b ∈ Pipeline.ucRefs τ sig, s'.mem.mem (d, b) = W9 m d b

theorem hfin (d : Dev nD) (s' : Phys nD τ sig (Elt F)) : iprop(FIN m d ∗ SI s') ⊢ (⌜fq m d s'⌝ : sProp 𝕄) := by
  unfold FIN StableHlo.held fq
  exact (pointsTo_read_all (Pipeline.ucRefs τ sig) (fun b => (d, b)) (W9 m d) s').trans sep_elim_left

/-- The kernel's run: every unscoped buffer ends at its last contents and every counter at zero, if every index the
    SparseCores are given names a row of the table. -/
theorem run_main [∀ e, Nonempty (Elt F e)] (hin : ∀ d j, (ixsW m d j : BitVec 32).toNat < 8192) :
    θ_run (Cert.KernelIdeal.defs (F := F)) (Cert.KernelIdeal.threads (F := F)) ⟨m, fun _ => 0, ρ⟩
      (fun r => (∀ (d : Dev nD) (b : DevRef τ sig), b ∈ Pipeline.ucRefs τ sig → r.2.mem (d, b) = W9 m d b) ∧ r.2.sem = fun _ => 0) :=
  SparseCore.Cfg.θ_run_sc_quiescent (K := KK (F := F)) (D := DD (F := F)) (𝒱 := 𝒱) (EH := EH) (P := PW m) (A := ∅) facts v₀
    (fun q hq => match q with | 0 => nomatch hq)
    (fun q _ => match q with | 0 => tileObl (tabW m) (ixsW m) (oldW m) hin)
    (fun q _ => match q with | 0 => SparseCore.Cfg.VecSplit.of_plain (vecSplit (tabW m) (ixsW m) (oldW m)))
    m ρ main GG (FIN m) (u₀ (F := F)) (sep_elim_left.trans (hu₀ m)) (hmain m ρ) (fq m) (hfin m) _ (fun _ h hz => ⟨fun d b hb => h d b hb, hz⟩)

end Cert.Proof.K
-- ==== Proof.Spec.lean ====
/- The mathematics the two programs share, on extended reals and apart from any program: the leaky rectifier in its two
   spellings, the first index of a row's least value as a fold of either program, and the two scales of the loss. -/
module

public import Idealize.ShloMosaic.Lib.Pointwise
public import Idealize.ShloMosaic.PureOps.Ideal.Laws
public import Idealize.ShloMosaic.Lib.WordCmp

@[expose] public section

set_option maxRecDepth 16384

noncomputable section

namespace Cert.Proof.M

open Idealize.ShloMosaic

/-! ## The rectifier -/

/-- The slope below zero: the number that the word of `0.001` is. -/
def cs : EReal := Ideal.ofBits .f32 0x3A83126F#32

theorem cs_real : ∃ r : ℝ, cs = (r : EReal) ∧ 0 ≤ r ∧ r ≤ 1 := by
  refine ⟨_, by simp only [cs, Ideal.ofBits, Ideal.ieee]; simp [-EReal.coe_mul]; rfl, ?_, ?_⟩ <;> norm_num

/-- The rectifier as the larger of the two lines. -/
def lk (h : EReal) : EReal := max h (cs * h)

/-- The rectifier as a choice by sign is the larger of the two lines. -/
theorem lk_ite (h : EReal) : (if 0 ≤ h then h else cs * h) = lk h := by
  obtain ⟨r, hr, h0, h1⟩ := cs_real
  unfold lk
  rw [hr]
  induction h using EReal.rec with
  | bot =>
    rw [if_neg (by simp), max_eq_right bot_le]
  | top =>
    rw [if_pos le_top, max_eq_left le_top]
  | coe x =>
    rw [← EReal.coe_mul]
    by_cases hx : 0 ≤ x
    · rw [if_pos (by exact_mod_cast hx), max_eq_left]
      exact_mod_cast (by nlinarith : r * x ≤ x)
    · rw [if_neg (by exact_mod_cast hx), max_eq_right]
      exact_mod_cast (by nlinarith [not_le.1 hx] : x ≤ r * x)

/-! ## The first least entry of a row -/

/-- `k` is the first index at which `d` is least. -/
def FirstMin {n : Nat} (d : Fin n → EReal) (k : Fin n) : Prop := (∀ j, d k ≤ d j) ∧ ∀ j, j < k → d k < d j

theorem FirstMin.unique {n : Nat} {d : Fin n → EReal} {k k' : Fin n} (h : FirstMin d k) (h' : FirstMin d k') : k = k' := by
  rcases lt_trichotomy k k' with e | e | e
  · exact absurd (h'.2 k e) (not_lt.2 (h.1 k'))
  · exact e
  · exact absurd (h.2 k' e) (not_lt.2 (h'.1 k))

theorem ofNat_toInt {k : Nat} (hk : k < 2 ^ 31) : (BitVec.ofNat 32 k).toInt = k := by
  rw [BitVec.toInt_eq_toNat_of_lt, BitVec.toNat_ofNat, Nat.mod_eq_of_lt (by omega)]
  rw [BitVec.toNat_ofNat, Nat.mod_eq_of_lt (by omega)]; omega

/-- One step of the reference's search: the smaller value, on equal values the smaller index. -/
def step (a b : EReal × BitVec 32) : EReal × BitVec 32 :=
  if a.1 < b.1 then a else if a.1 = b.1 ∧ a.2.toInt < b.2.toInt then (b.1, a.2) else b

/-- `p` comes before `q`: a smaller value, or the same value and no larger an index. -/
def le2 (p q : EReal × BitVec 32) : Prop := p.1 < q.1 ∨ (p.1 = q.1 ∧ p.2.toInt ≤ q.2.toInt)

theorem le2_refl (p : EReal × BitVec 32) : le2 p p := .inr ⟨rfl, le_rfl⟩

theorem le2_trans {p q r : EReal × BitVec 32} (h : le2 p q) (h' : le2 q r) : le2 p r := by
  rcases h with h | ⟨h, g⟩ <;> rcases h' with h' | ⟨h', g'⟩
  · exact .inl (h.trans h')
  · exact .inl (h' ▸ h)
  · exact .inl (h ▸ h')
  · exact .inr ⟨h.trans h', g.trans g'⟩

theorem step_cases (a b : EReal × BitVec 32) :
    (step a b = a ∨ step a b = b) ∧ le2 (step a b) a ∧ le2 (step a b) b := by
  unfold step
  split_ifs with h1 h2
  · exact ⟨.inl rfl, le2_refl a, .inl h1⟩
  · exact ⟨.inl (Prod.ext h2.1.symm rfl), .inr ⟨h2.1.symm, le_rfl⟩, .inr ⟨rfl, le_of_lt h2.2⟩⟩
  · refine ⟨.inr rfl, ?_, le2_refl b⟩
    rcases lt_or_eq_of_le (not_lt.1 h1) with g | g
    · exact .inl g
    · exact .inr ⟨g, not_lt.1 fun q => h2 ⟨g.symm, q⟩⟩

theorem fold_step (L : List (EReal × BitVec 32)) : ∀ a : EReal × BitVec 32,
    (L.foldl step a = a ∨ L.foldl step a ∈ L) ∧ le2 (L.foldl step a) a ∧ ∀ x ∈ L, le2 (L.foldl step a) x := by
  induction L with
  | nil => exact fun a => ⟨.inl rfl, le2_refl a, fun x hx => absurd hx (List.not_mem_nil)⟩
  | cons b L ih =>
    intro a
    obtain ⟨h1, h2, h3⟩ := ih (step a b)
    obtain ⟨g1, g2, g3⟩ := step_cases a b
    rw [List.foldl_cons]
    refine ⟨?_, le2_trans h2 g2, fun x hx => ?_⟩
    · rcases h1 with h1 | h1
      · rcases g1 with g1 | g1
        · exact .inl (h1.trans g1)
        · exact .inr (by rw [h1, g1]; exact List.mem_cons_self)
      · exact .inr (List.mem_cons_of_mem _ h1)
    · rcases List.mem_cons.1 hx with rfl | hx
      · exact le2_trans h2 g3
      · exact h3 x hx

/-- The reference's search over a list that holds exactly the pairs `(d k, k)`, from `(+∞, 0)`, ends at the first least
    entry's index. -/
theorem search {n : Nat} (hn : n < 2 ^ 31) (hn0 : 0 < n) (d : Fin n → EReal) (L : List (EReal × BitVec 32))
    (hL : ∀ x, x ∈ L ↔ ∃ k : Fin n, x = (d k, BitVec.ofNat 32 k.val)) :
    ∃ k : Fin n, FirstMin d k ∧ (L.foldl step (⊤, 0#32)).2 = BitVec.ofNat 32 k.val := by
  obtain ⟨h1, -, h3⟩ := fold_step L (⊤, 0#32)
  rcases h1 with h1 | h1
  · have top : ∀ j, d j = ⊤ := fun j => by
      have h := h3 _ ((hL _).2 ⟨j, rfl⟩)
      rw [h1] at h
      rcases h with h | ⟨h, -⟩
      · exact absurd h not_top_lt
      · exact h.symm
    exact ⟨⟨0, hn0⟩, ⟨fun j => by rw [top, top], fun j hj => absurd hj (by simp [Fin.lt_def])⟩, by rw [h1]⟩
  · obtain ⟨k, hk⟩ := (hL _).1 h1
    refine ⟨k, ⟨fun j => ?_, fun j hj => ?_⟩, by rw [hk]⟩
    · have h := h3 _ ((hL _).2 ⟨j, rfl⟩)
      rw [hk] at h
      rcases h with h | ⟨h, -⟩
      · exact le_of_lt h
      · exact le_of_eq h
    · have h := h3 _ ((hL _).2 ⟨j, rfl⟩)
      rw [hk] at h
      rcases h with h | ⟨-, h⟩
      · exact h
      · have hk' := k.isLt
        have hj' := j.isLt
        have := Fin.lt_def.1 hj
        simp only [ofNat_toInt (show k.val < 2 ^ 31 by omega), ofNat_toInt (show j.val < 2 ^ 31 by omega)] at h
        omega

theorem exists_firstMin {n : Nat} (hn0 : 0 < n) (d : Fin n → EReal) : ∃ k, FirstMin d k := by
  haveI : Nonempty (Fin n) := ⟨⟨0, hn0⟩⟩
  obtain ⟨k, hk⟩ := Finite.exists_min d
  obtain ⟨m, hm, hmin⟩ := WellFounded.has_min (wellFounded_lt (α := Fin n)) {i | d i = d k} ⟨k, rfl⟩
  refine ⟨m, fun j => (le_of_eq hm).trans (hk j), fun j hj => ?_⟩
  have hle : d m ≤ d j := (le_of_eq hm).trans (hk j)
  exact lt_of_le_of_ne hle fun e => hmin j (show d j = d k from e.symm.trans hm) hj

theorem minsi_cases (a b : BitVec 32) :
    (IntOp.minsi a b = a ∨ IntOp.minsi a b = b) ∧ (IntOp.minsi a b).toInt ≤ a.toInt ∧ (IntOp.minsi a b).toInt ≤ b.toInt := by
  unfold IntOp.minsi
  split_ifs with h
  · simp only [BitVec.sle_eq_decide, decide_eq_true_eq, BitVec.slt_eq_decide] at h
    exact ⟨.inl rfl, le_rfl, by omega⟩
  · simp only [BitVec.sle_eq_decide, decide_eq_true_eq, BitVec.slt_eq_decide] at h
    exact ⟨.inr rfl, by omega, le_rfl⟩

theorem fold_minsi {ι : Type} [DecidableEq ι] (s : Finset ι) (a : BitVec 32) (f : ι → BitVec 32) :
    (Finset.fold IntOp.minsi a f s = a ∨ ∃ i ∈ s, Finset.fold IntOp.minsi a f s = f i)
      ∧ ∀ i ∈ s, (Finset.fold IntOp.minsi a f s).toInt ≤ (f i).toInt := by
  induction s using Finset.induction_on with
  | empty => exact ⟨.inl Finset.fold_empty, fun i hi => absurd hi (Finset.notMem_empty i)⟩
  | insert i s hi ih =>
    rw [Finset.fold_insert hi]
    obtain ⟨h1, h2⟩ := ih
    obtain ⟨g1, g2, g3⟩ := minsi_cases (f i) (Finset.fold IntOp.minsi a f s)
    refine ⟨?_, fun j hj => ?_⟩
    · rcases g1 with g1 | g1
      · exact .inr ⟨i, Finset.mem_insert_self i s, g1⟩
      · rcases h1 with h1 | ⟨j, hj, h1⟩
        · exact .inl (g1.trans h1)
        · exact .inr ⟨j, Finset.mem_insert_of_mem hj, g1.trans h1⟩
    · rcases Finset.mem_insert.1 hj with rfl | hj
      · exact g2
      · exact g3.trans (h2 j hj)

theorem fold_min_eq {n : Nat} {d : Fin n → EReal} {k : Fin n} (h : FirstMin d k) :
    Finset.fold min ⊤ d Finset.univ = d k :=
  le_antisymm (Finset.fold_min_le (d k) |>.2 (.inr ⟨k, Finset.mem_univ k, le_rfl⟩))
    ((Finset.le_fold_min (d k)).2 ⟨le_top, fun j _ => h.1 j⟩)

/-- The word of plus infinity. -/
theorem inf_word : Ideal.ofBits .f32 0x7F800000#32 = ⊤ := by
  simp [Ideal.ofBits, Ideal.ieee]

/-- The kernel's search — the least of the indices at which the row is at its least value — ends at the first of them. -/
theorem ksearch (d : Fin 8192 → EReal) {k : Fin 8192} (h : FirstMin d k) :
    Finset.fold IntOp.minsi (2147483647#32)
      (fun x : Fin 8192 => if d x = Finset.fold min (Ideal.ofBits .f32 0x7F800000#32) d Finset.univ then BitVec.ofNat 32 x.val else 8192#32)
      Finset.univ = BitVec.ofNat 32 k.val := by
  rw [inf_word, fold_min_eq h]
  obtain ⟨h1, h2⟩ := fold_minsi (Finset.univ : Finset (Fin 8192)) (2147483647#32)
    (fun x : Fin 8192 => if d x = d k then BitVec.ofNat 32 x.val else 8192#32)
  have hk := h2 k (Finset.mem_univ k)
  have hkl := k.isLt
  rw [if_pos rfl, ofNat_toInt (by omega)] at hk
  rcases h1 with h1 | ⟨i, -, h1⟩
  · rw [h1] at hk
    have : (2147483647#32).toInt = 2147483647 := by decide
    omega
  · rw [h1] at hk ⊢
    have hil := i.isLt
    split_ifs at hk ⊢ with hi
    · rw [ofNat_toInt (by omega)] at hk
      have : ¬ i < k := fun q => absurd hi (ne_of_gt (h.2 i q))
      have : i = k := by omega
      rw [this]
    · have : (8192#32).toInt = 8192 := by decide
      omega

/-! ## The loss's scales -/

theorem inv_word : Ideal.ofBits .f32 0x37800000#32 = ((1 / 65536 : ℝ) : EReal) := by
  simp [Ideal.ofBits, Ideal.ieee, -EReal.coe_mul]; norm_num

theorem num_word : Ideal.ofBits .f32 0x47800000#32 = ((65536 : ℝ) : EReal) := by
  simp [Ideal.ofBits, Ideal.ieee, -EReal.coe_mul]; norm_num

end Cert.Proof.M
-- ==== Proof.Nets.lean ====
/- The two networks, the squared distance and the loss as plain formulas over extended reals: what the kernel's payloads and
   the reference's terms are both read as. -/
module

public import proofs.«01_k».proof.Proof.Spec

@[expose] public section

noncomputable section

namespace Cert.Proof.M

open Idealize.ShloMosaic

/-- The encoder at output channel `o`: three layers along the 256 positions, then the largest entry. -/
def enc (x : Fin 128 → Fin 256 → EReal) (w1 : Fin 64 → Fin 128 → EReal) (b1 : Fin 64 → EReal) (w2 : Fin 128 → Fin 64 → EReal)
    (b2 : Fin 128 → EReal) (w3 : Fin 64 → Fin 128 → EReal) (b3 : Fin 64 → EReal) (o : Fin 64) : EReal :=
  Finset.fold max (Ideal.ofBits .f32 0xFF800000#32)
    (fun l : Fin 256 => (∑ q, lk ((∑ p, lk ((∑ c, x c l * w1 p c) + b1 p) * w2 q p) + b2 q) * w3 o q) + b3 o) Finset.univ

/-- The squared distance of `z` and row `k` of the codebook, expanded as both programs expand it. -/
def dst (z : Fin 64 → EReal) (cb : Fin 8192 → Fin 64 → EReal) (k : Fin 8192) : EReal :=
  (∑ x, z x * z x) + (∑ x, cb k x * cb k x) - Ideal.ofBits .f32 0x40000000#32 * ∑ x, z x * cb k x

/-- The decoder at output channel `o`: three layers. -/
def dec (s : Fin 64 → EReal) (w1 : Fin 64 → Fin 128 → EReal) (b1 : Fin 128 → EReal) (w2 : Fin 128 → Fin 64 → EReal)
    (b2 : Fin 64 → EReal) (w3 : Fin 64 → Fin 128 → EReal) (b3 : Fin 128 → EReal) (o : Fin 128) : EReal :=
  (∑ q, lk ((∑ p, lk ((∑ c, s c * w1 c p) + b1 p) * w2 p q) + b2 q) * w3 q o) + b3 o

/-- The loss: the mean square of `zq − z`, and a quarter of it once more. -/
def loss (z zq : Fin 1024 → Fin 64 → EReal) : EReal :=
  (∑ i, ∑ c, (zq i c - z i c) * (zq i c - z i c)) * Ideal.ofBits .f32 0x37800000#32
    + Ideal.ofBits .f32 0x3E800000#32 * ((∑ i, ∑ c, (zq i c - z i c) * (zq i c - z i c)) * Ideal.ofBits .f32 0x37800000#32)

end Cert.Proof.M
-- ==== Proof.MathK.lean ====
/- The kernel's payloads read at an index, as the plain formulas. -/
module

public import proofs.«01_k».proof.Proof.Gen.KernelIdeal.Skeleton
public import proofs.«01_k».proof.Proof.Nets

@[expose] public section

set_option maxRecDepth 16384

noncomputable section

namespace Cert.Proof.M

open Idealize.ShloMosaic Cert.KernelIdeal Cert.KernelIdeal.Gen

theorem enc_at (v0 : Vec Ideal S32x128x256 .f32) (v3 : Vec Ideal S64x128 .f32) (v5 : Vec Ideal S1x64 .f32)
    (v12 : Vec Ideal S128x64 .f32) (v14 : Vec Ideal S1x128 .f32) (v21 : Vec Ideal S64x128 .f32) (v23 : Vec Ideal S1x64 .f32)
    (i : Fin 32) (o : Fin 64) :
    k0_pay1 v0 v3 v5 v12 v14 v21 v23 (ix2 i o)
      = enc (fun c l => v0 (ix3 i c l)) (fun p c => v3 (ix2 p c)) (fun p => v5 (ix2 0 p)) (fun q p => v12 (ix2 q p))
          (fun q => v14 (ix2 0 q)) (fun q p => v21 (ix2 q p)) (fun q => v23 (ix2 0 q)) o := by
  unfold enc lk cs
  pointwise [k0_pay1]

theorem vq_at (v0 : Vec Ideal S128x64 .f32) (v2 : Vec Ideal S8192x64 .f32) (v4 : Vec Ideal S128x1 .f32)
    (v6 : Vec Ideal S1x8192 .f32) (i : Fin 128) (z : Fin 64 → EReal) (cb : Fin 8192 → Fin 64 → EReal)
    (h0 : ∀ x, v0 (ix2 i x) = z x) (h2 : ∀ k x, v2 (ix2 k x) = cb k x)
    (h4 : v4 (ix2 i 0) = ∑ x, z x * z x) (h6 : ∀ k, v6 (ix2 0 k) = ∑ x, cb k x * cb k x)
    {k : Fin 8192} (hk : FirstMin (dst z cb) k) :
    k1_pay1 v0 v2 v4 v6 (ix3 0 0 i) = BitVec.ofNat 32 k.val := by
  refine Eq.trans ?_ (ksearch (dst z cb) hk)
  unfold dst
  pointwise [k1_pay1]
  simp only [h0, h2, h4, h6]

theorem hid_at (v0 v2 : Vec Ideal S1024x64 .f32) (v16 : Vec Ideal S64x128 .f32) (v18 : Vec Ideal S1x128 .f32)
    (v25 : Vec Ideal S128x64 .f32) (v27 : Vec Ideal S1x64 .f32) (v34 : Vec Ideal S64x128 .f32) (v36 : Vec Ideal S1x128 .f32)
    (i : Fin 1024) (o : Fin 128) :
    k3_pay1 (k3_pay5 v0 v2 v16 v18 v25 v27) v34 v36 (ix2 i o)
      = dec (fun c => v0 (ix2 i c) + (v2 (ix2 i c) - v0 (ix2 i c))) (fun c p => v16 (ix2 c p)) (fun p => v18 (ix2 0 p))
          (fun c p => v25 (ix2 c p)) (fun p => v27 (ix2 0 p)) (fun c p => v34 (ix2 c p)) (fun p => v36 (ix2 0 p)) o := by
  unfold dec lk cs
  pointwise [k3_pay1, k3_pay5, k3_pay3, k3_pay2]

theorem loss_at (v0 v2 : Vec Ideal S1024x64 .f32) :
    k3_pay4 v0 v2 (ix2 0 0) = loss (fun i c => v0 (ix2 i c)) (fun i c => v2 (ix2 i c)) := by
  unfold loss
  pointwise [k3_pay4, k3_pay3, k3_pay2]

end Cert.Proof.M
-- ==== Proof.KReg0.lean ====
/- What the encoder's region leaves in its output array, at the arrays it is entered with. -/
module

public import proofs.«01_k».proof.Proof.KRegions
public import proofs.«01_k».proof.Proof.MathK
public import Idealize.ShloMosaic.Lib.Pipeline.ValueKit

@[expose] public section

set_option maxRecDepth 16384

noncomputable section

namespace Cert.Proof.K

open Cert.KernelIdeal Cert.KernelIdeal.Gen Cert.Proof.M
open Idealize.ShloMosaic Idealize.ShloMosaic.TcCoe
open Idealize.ShloMosaic.SparseCore.Cfg (HIx)
open Idealize.SL.Sem

variable (V : (c : Dev nD) → (b : Ref sig .tc) → Buf (Elt Ideal) ((c : Thread nD τ).loc b))
variable (O : (c : Dev nD) → CellTallies nD τ sig (HIx 1)) (B : (c : Dev nD) → Set (SemLoc sig × HIx 1)) (c : Dev nD)

def aX : FVec Ideal S1024x128x256 .f32 := V c main_arg0
def aW1 : FVec Ideal S64x128 .f32 := V c main_arg1
def aB1 : FVec Ideal S1x64 .f32 := V c main_v0
def aW2 : FVec Ideal S128x64 .f32 := V c main_arg3
def aB2 : FVec Ideal S1x128 .f32 := V c main_v1
def aW3 : FVec Ideal S64x128 .f32 := V c main_arg5
def aB3 : FVec Ideal S1x64 .f32 := V c main_v2

def encG : FVec Ideal S1024x64 .f32 := fun j =>
  enc (fun c' l => aX V c (ix3 (j 0) c' l)) (fun p c' => aW1 V c (ix2 p c')) (fun p => aB1 V c (ix2 0 p))
    (fun q p => aW2 V c (ix2 q p)) (fun q => aB2 V c (ix2 0 q)) (fun q p => aW3 V c (ix2 q p)) (fun q => aB3 V c (ix2 0 q)) (j 1)

theorem index0 (t : Fin cfg0.N) : win0_0.index t = ![(grid0.coords t 0).val, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![(grid0.coords t 0).val, 0] := by
  revert t; decide +kernel

theorem arr0 : (dat0 V O B c).arrAt 7 cfg0.N = encG V c := by
  refine (dat0 V O B c).arrAt_eq_of_covers 7 _ (by decide +kernel) fun t hf y => ?_
  blk_simp
  rw [after0_7]
  frame_out
  obtain ⟨i0, i1, i2, i3, i4, i5, i6, i7⟩ := index0 t
  rw [eq_ix2 y]
  refine (enc_at _ _ _ _ _ _ _ _ _).trans ?_
  unfold encG
  congr 1
  · funext c' l; unfold aX; blk_ext [iblk0, i0, i7]
  · funext c' l; unfold aW1; blk_ext [iblk0, i1]
  · funext l; unfold aB1; blk_ext [iblk0, i2]
  · funext c' l; unfold aW2; blk_ext [iblk0, i3]
  · funext l; unfold aB2; blk_ext [iblk0, i4]
  · funext c' l; unfold aW3; blk_ext [iblk0, i5]
  · funext l; unfold aB3; blk_ext [iblk0, i6]
  · exact Fin.ext (by blk_simp [i7])

end Cert.Proof.K
-- ==== Proof.KReg1.lean ====
/- What the nearest-row search's region leaves in its output array, at the arrays it is entered with. -/
module

public import proofs.«01_k».proof.Proof.KRegions
public import proofs.«01_k».proof.Proof.MathK
public import Idealize.ShloMosaic.Lib.Pipeline.ValueKit

@[expose] public section

set_option maxRecDepth 16384

noncomputable section

namespace Cert.Proof.K

open Cert.KernelIdeal Cert.KernelIdeal.Gen Cert.Proof.M
open Idealize.ShloMosaic Idealize.ShloMosaic.TcCoe
open Idealize.ShloMosaic.SparseCore.Cfg (HIx)
open Idealize.SL.Sem

variable (V : (c : Dev nD) → (b : Ref sig .tc) → Buf (Elt Ideal) ((c : Thread nD τ).loc b))
variable (O : (c : Dev nD) → CellTallies nD τ sig (HIx 1)) (B : (c : Dev nD) → Set (SemLoc sig × HIx 1)) (c : Dev nD)

def aZ : FVec Ideal S1024x64 .f32 := V c main_v3
def aSq : FVec Ideal S1024x1 .f32 := V c main_v6
def aCq : FVec Ideal S1x8192 .f32 := V c main_v9
def aCb : FVec Ideal S8192x64 .f32 := V c main_arg7

theorem index1 (t : Fin cfg1.N) : win1_0.index t = ![(grid1.coords t 0).val, 0] ∧ win1_1.index t = ![(grid1.coords t 0).val, 0] ∧ win1_2.index t = ![0, 0] ∧ win1_3.index t = ![0, 0]
    ∧ win1_4.index t = ![(grid1.coords t 0).val, 0, 0] := by
  revert t; decide +kernel

def rowOf (j : S8x1x128.Idx) : Fin 1024 := ⟨128 * (j 0).val + (j 2).val, by idx_bounds j; omega⟩

theorem one_row (y : S1x1x128.Idx) : y = ix3 0 0 (y 2) := by
  funext a
  match a with
  | 0 => exact Subsingleton.elim (α := Fin 1) _ _
  | 1 => exact Subsingleton.elim (α := Fin 1) _ _
  | 2 => rfl

theorem row_val (t : Fin cfg1.N) (y : ((cfg1.win 4).xblock (cfg1.grid.coords t)).Idx) :
    (rowOf (((View.whole main_v10).slice (win1_4.rect t)).emb y)).val = 128 * (grid1.coords t 0).val + (y 2).val := by
  obtain ⟨i0, i1, i2, i3, i4⟩ := index1 t
  show 128 * ((((cfg1.win 4).blk t).view.emb y) 0).val + ((((cfg1.win 4).blk t).view.emb y) 2).val = _
  have e0 : (((((cfg1.win 4).blk t).view.emb y) 0 : Fin _) : ℕ) = (grid1.coords t 0).val := by
    blk_simp [i4]
  have e2 : (((((cfg1.win 4).blk t).view.emb y) 2 : Fin _) : ℕ) = (y 2).val := by
    blk_simp [i4]
  rw [e0, e2]

theorem z1_at (t : Fin cfg1.N) (i : Fin 128) (r : Fin 1024) (hv : r.val = 128 * (grid1.coords t 0).val + i.val) (x : Fin 64) :
    iblk1 V c 0 t (ix2 i x) = aZ V c (ix2 r x) := by
  obtain ⟨i0, i1, i2, i3, i4⟩ := index1 t
  unfold aZ; blk_ext [iblk1, i0]

theorem sq_at (t : Fin cfg1.N) (i : Fin 128) (r : Fin 1024) (hv : r.val = 128 * (grid1.coords t 0).val + i.val) :
    iblk1 V c 1 t (ix2 i 0) = aSq V c (ix2 r 0) := by
  obtain ⟨i0, i1, i2, i3, i4⟩ := index1 t
  unfold aSq; blk_ext [iblk1, i1]

theorem cq_at (t : Fin cfg1.N) (q : Fin 8192) : iblk1 V c 2 t (ix2 0 q) = aCq V c (ix2 0 q) := by
  obtain ⟨i0, i1, i2, i3, i4⟩ := index1 t
  unfold aCq; blk_ext [iblk1, i2]

theorem cb_at (t : Fin cfg1.N) (q : Fin 8192) (x : Fin 64) : iblk1 V c 3 t (ix2 q x) = aCb V c (ix2 q x) := by
  obtain ⟨i0, i1, i2, i3, i4⟩ := index1 t
  unfold aCb; blk_ext [iblk1, i3]

theorem arr1 (k : Fin 1024 → Fin 8192)
    (hs : ∀ r, aSq V c (ix2 r 0) = ∑ x, aZ V c (ix2 r x) * aZ V c (ix2 r x))
    (hc : ∀ q, aCq V c (ix2 0 q) = ∑ x, aCb V c (ix2 q x) * aCb V c (ix2 q x))
    (hk : ∀ r, FirstMin (dst (fun x => aZ V c (ix2 r x)) (fun q x => aCb V c (ix2 q x))) (k r)) :
    (dat1 V O B c).arrAt 4 cfg1.N = fun j : S8x1x128.Idx => BitVec.ofNat 32 (k (rowOf j)).val := by
  refine (dat1 V O B c).arrAt_eq_of_covers 4 _ (by decide +kernel) fun t hf y => ?_
  blk_simp
  rw [after1_4]
  frame_out
  obtain ⟨i0, i1, i2, i3, i4⟩ := index1 t
  have hy := one_row y
  have hv := row_val t y
  generalize rowOf (((View.whole main_v10).slice (win1_4.rect t)).emb y) = r at hv ⊢
  refine (congrArg (k1_pay1 (iblk1 V c 0 t) (iblk1 V c 3 t) (iblk1 V c 1 t) (iblk1 V c 2 t)) hy).trans ?_
  exact vq_at _ _ _ _ (y 2) _ _ (fun x => z1_at V c t (y 2) r hv x) (fun q x => cb_at V c t q x)
    ((sq_at V c t (y 2) r hv).trans (hs r)) (fun q => (cq_at V c t q).trans (hc q)) (hk r)

end Cert.Proof.K
-- ==== Proof.KReg3.lean ====
/- What the decoder's region leaves in its two output arrays, at the arrays it is entered with. -/
module

public import proofs.«01_k».proof.Proof.KRegions
public import proofs.«01_k».proof.Proof.MathK
public import Idealize.ShloMosaic.Lib.Pipeline.ValueKit

@[expose] public section

set_option maxRecDepth 16384

noncomputable section

namespace Cert.Proof.K

open Cert.KernelIdeal Cert.KernelIdeal.Gen Cert.Proof.M
open Idealize.ShloMosaic Idealize.ShloMosaic.TcCoe
open Idealize.ShloMosaic.SparseCore.Cfg (HIx)
open Idealize.SL.Sem

variable (V : (c : Dev nD) → (b : Ref sig .tc) → Buf (Elt Ideal) ((c : Thread nD τ).loc b))
variable (O : (c : Dev nD) → CellTallies nD τ sig (HIx 1)) (B : (c : Dev nD) → Set (SemLoc sig × HIx 1)) (c : Dev nD)

def aZ3 : FVec Ideal S1024x64 .f32 := V c main_v3
def bQ : FVec Ideal S1024x128 .f32 := V c main_v14
def bW1 : FVec Ideal S64x128 .f32 := V c main_arg8
def bB1 : FVec Ideal S1x128 .f32 := V c main_v15
def bW2 : FVec Ideal S128x64 .f32 := V c main_arg10
def bB2 : FVec Ideal S1x64 .f32 := V c main_v16
def bW3 : FVec Ideal S64x128 .f32 := V c main_arg12
def bB3 : FVec Ideal S1x128 .f32 := V c main_v17

/-- The lane of a row of 128 that holds component `x`. -/
def lane (x : Fin 64) : Fin 128 := ⟨x.val, by omega⟩

theorem index3 (t : Fin cfg3.N) : win3_0.index t = ![0, 0] ∧ win3_1.index t = ![0, 0] ∧ win3_2.index t = ![0, 0] ∧ win3_3.index t = ![0, 0]
    ∧ win3_4.index t = ![0, 0] ∧ win3_5.index t = ![0, 0] ∧ win3_6.index t = ![0, 0] ∧ win3_7.index t = ![0, 0] := by
  revert t; decide +kernel

theorem q_at (i : Fin 1024) (x : Fin 64) : View.ld (iblk3 V c 1 t3_0) r3_1 (ix2 i x) = bQ V c (ix2 i (lane x)) := by
  obtain ⟨i0, i1, i2, i3, i4, i5, i6, i7⟩ := index3 t3_0
  have e : r3_1.idx (ix2 i x) = (ix2 i (lane x) : S1024x128.Idx) := by
    funext a
    match a with
    | 0 => exact Fin.ext ((Rect.idx_unit_val ..).trans (by simp))
    | 1 => exact Fin.ext ((Rect.idx_unit_val ..).trans (by simp [lane]))
  rw [View.ld_apply]
  refine (congrArg (iblk3 V c 1 t3_0) e).trans ?_
  unfold bQ; blk_ext [iblk3, i1]

theorem z_at (i : Fin 1024) (x : Fin 64) : iblk3 V c 0 t3_0 (ix2 i x) = aZ3 V c (ix2 i x) := by
  obtain ⟨i0, i1, i2, i3, i4, i5, i6, i7⟩ := index3 t3_0
  unfold aZ3; blk_ext [iblk3, i0]

/-- The loss of the arrays the region is entered with. -/
def lossG : FVec Ideal S1x1 .f32 := fun _ =>
  loss (fun i x => aZ3 V c (ix2 i x)) (fun i x => bQ V c (ix2 i (lane x)))

theorem arr3_9 : (dat3 V O B c).arrAt 9 cfg3.N = lossG V c := by
  refine (dat3 V O B c).arrAt_eq_of_after_last 9 t3_0 (by decide +kernel) _ fun j => ?_
  blk_simp
  rw [after3_9]
  frame_out
  obtain rfl : j = ix2 0 0 := by
    funext a
    match a with
    | 0 => exact Subsingleton.elim (α := Fin 1) _ _
    | 1 => exact Subsingleton.elim (α := Fin 1) _ _
  refine (loss_at _ _).trans ?_
  unfold lossG
  congr 1
  · funext i x; exact z_at V c i x
  · funext i x; exact q_at V c i x

/-- The decoder of the arrays the region is entered with. -/
def decG : FVec Ideal S1024x128 .f32 := fun j =>
    dec (fun x => aZ3 V c (ix2 (j 0) x) + (bQ V c (ix2 (j 0) (lane x)) - aZ3 V c (ix2 (j 0) x)))
      (fun x p => bW1 V c (ix2 x p)) (fun p => bB1 V c (ix2 0 p))
      (fun x p => bW2 V c (ix2 x p)) (fun p => bB2 V c (ix2 0 p))
      (fun x p => bW3 V c (ix2 x p)) (fun p => bB3 V c (ix2 0 p)) (j 1)

theorem arr3_8 : (dat3 V O B c).arrAt 8 cfg3.N = decG V c := by
  refine (dat3 V O B c).arrAt_eq_of_after_last 8 t3_0 (by decide +kernel) _ fun j => ?_
  blk_simp
  rw [after3_8]
  frame_out
  rw [eq_ix2 j]
  refine (hid_at _ _ _ _ _ _ _ _ _ _).trans ?_
  unfold decG
  obtain ⟨i0, i1, i2, i3, i4, i5, i6, i7⟩ := index3 t3_0
  congr 1
  · funext x; exact (congrArg₂ (fun a b : EReal => a + (b - a)) (z_at V c _ x) (q_at V c _ x))
  · funext c' l; unfold bW1; blk_ext [iblk3, i2]
  · funext l; unfold bB1; blk_ext [iblk3, i3]
  · funext c' l; unfold bW2; blk_ext [iblk3, i4]
  · funext l; unfold bB2; blk_ext [iblk3, i5]
  · funext c' l; unfold bW3; blk_ext [iblk3, i6]
  · funext l; unfold bB3; blk_ext [iblk3, i7]

end Cert.Proof.K
-- ==== Proof.KValue.lean ====
/- The contents of the kernel's arrays at each boundary of its run, as the plain formulas of its arguments: the encoder's
   rows, the nearest row of the codebook, the gathered rows, the decoder's rows and the loss. -/
module

public import proofs.«01_k».proof.Proof.KChain
public import proofs.«01_k».proof.Proof.KReg0
public import proofs.«01_k».proof.Proof.KReg1
public import proofs.«01_k».proof.Proof.KReg3

@[expose] public section

set_option maxRecDepth 16384

noncomputable section

namespace Cert.Proof.K

open Cert.KernelIdeal Cert.KernelIdeal.Gen Cert.Proof.M
open Idealize.ShloMosaic Idealize.ShloMosaic.TcCoe Idealize.ShloMosaic.StableHlo
open Idealize.ShloMosaic.SparseCore.Cfg (HIx)
open Idealize.SL.Sem

variable (m : (ℓ : Loc nD τ sig) → Buf (Elt Ideal) ℓ) (c : Dev nD)

def X0 : FVec Ideal S1024x128x256 .f32 := m ((c : Thread nD τ).loc main_arg0)
def X1 : FVec Ideal S64x128 .f32 := m ((c : Thread nD τ).loc main_arg1)
def X2 : FVec Ideal S64 .f32 := m ((c : Thread nD τ).loc main_arg2)
def X3 : FVec Ideal S128x64 .f32 := m ((c : Thread nD τ).loc main_arg3)
def X4 : FVec Ideal S128 .f32 := m ((c : Thread nD τ).loc main_arg4)
def X5 : FVec Ideal S64x128 .f32 := m ((c : Thread nD τ).loc main_arg5)
def X6 : FVec Ideal S64 .f32 := m ((c : Thread nD τ).loc main_arg6)
def X7 : FVec Ideal S8192x64 .f32 := m ((c : Thread nD τ).loc main_arg7)
def X8 : FVec Ideal S64x128 .f32 := m ((c : Thread nD τ).loc main_arg8)
def X9 : FVec Ideal S128 .f32 := m ((c : Thread nD τ).loc main_arg9)
def X10 : FVec Ideal S128x64 .f32 := m ((c : Thread nD τ).loc main_arg10)
def X11 : FVec Ideal S64 .f32 := m ((c : Thread nD τ).loc main_arg11)
def X12 : FVec Ideal S64x128 .f32 := m ((c : Thread nD τ).loc main_arg12)
def X13 : FVec Ideal S128 .f32 := m ((c : Thread nD τ).loc main_arg13)

/-! ## The encoder -/

theorem W1_v0 : W1 m c (Proc.devRef .tc main_v0) = shapeCast S1x64 (X2 m c) shapeCasts_S64_S1x64 := by
  simp only [W1, ops1]; after_results_simp; rfl
theorem W1_v1 : W1 m c (Proc.devRef .tc main_v1) = shapeCast S1x128 (X4 m c) shapeCasts_S128_S1x128 := by
  simp only [W1, ops1]; after_results_simp; rfl
theorem W1_v2 : W1 m c (Proc.devRef .tc main_v2) = shapeCast S1x64 (X6 m c) shapeCasts_S64_S1x64 := by
  simp only [W1, ops1]; after_results_simp; rfl

theorem b1_at (p : Fin 64) : aB1 (V1 m) c (ix2 0 p) = X2 m c (ix1 p) := by
  refine (congrFun (W1_v0 m c) (ix2 0 p)).trans ?_
  pointwise []
theorem b2_at (p : Fin 128) : aB2 (V1 m) c (ix2 0 p) = X4 m c (ix1 p) := by
  refine (congrFun (W1_v1 m c) (ix2 0 p)).trans ?_
  pointwise []
theorem b3_at (p : Fin 64) : aB3 (V1 m) c (ix2 0 p) = X6 m c (ix1 p) := by
  refine (congrFun (W1_v2 m c) (ix2 0 p)).trans ?_
  pointwise []

/-- The encoder's rows. -/
def zK (r : Fin 1024) (o : Fin 64) : EReal :=
  enc (fun c' l => X0 m c (ix3 r c' l)) (fun p c' => X1 m c (ix2 p c')) (fun p => X2 m c (ix1 p))
    (fun q p => X3 m c (ix2 q p)) (fun q => X4 m c (ix1 q)) (fun q p => X5 m c (ix2 q p)) (fun q => X6 m c (ix1 q)) o

def zA : FVec Ideal S1024x64 .f32 := fun j => zK m c (j 0) (j 1)

theorem W2_v3 : W2 m c (Proc.devRef .tc main_v3) = zA m c := by
  refine (W2_arr m c 7).trans ((arr0 (V1 m) _ _ c).trans ?_)
  funext j
  unfold encG zA zK
  simp only [b1_at, b2_at, b3_at]
  have e0 : aX (V1 m) c = X0 m c := W1_args m c main_arg0 (by decide)
  have e1 : aW1 (V1 m) c = X1 m c := W1_args m c main_arg1 (by decide)
  have e2 : aW2 (V1 m) c = X3 m c := W1_args m c main_arg3 (by decide)
  have e3 : aW3 (V1 m) c = X5 m c := W1_args m c main_arg5 (by decide)
  rw [e0, e1, e2, e3]

/-! ## The search -/

theorem W3_v3 : W3 m c (Proc.devRef .tc main_v3) = zA m c := (W3_of m c main_v3 (by decide)).trans (W2_v3 m c)
theorem W2_a7 : W2 m c (Proc.devRef .tc main_arg7) = X7 m c := W2_args m c main_arg7 (by decide)
theorem W3_a7 : W3 m c (Proc.devRef .tc main_arg7) = X7 m c := W3_args m c main_arg7 (by decide)

theorem W3_v6 : W3 m c (Proc.devRef .tc main_v6) = broadcastInDim S1024x1 ![0] bcast_S1024_S1024x1_0
    (Host.reduceAdd (mulf (zA m c) (zA m c)) (constant S_ .f32 0x00000000#32) reducesTo_S1024x64_S1024_d1 h_S_) := by
  rw [← W2_v3]; simp only [W3, ops2]; after_results_simp
theorem W3_v9 : W3 m c (Proc.devRef .tc main_v9) = shapeCast S1x8192
    (Host.reduceAdd (mulf (X7 m c) (X7 m c)) (constant S_ .f32 0x00000000#32) reducesTo_S8192x64_S8192_d1 h_S_) shapeCasts_S8192_S1x8192 := by
  rw [← W2_a7]; simp only [W3, ops2]; after_results_simp; rfl

theorem sq_z (r : Fin 1024) : aSq (V3 m) c (ix2 r 0) = ∑ x, zK m c r x * zK m c r x := by
  refine (congrFun (W3_v6 m c) (ix2 r 0)).trans ?_
  have e : ∀ x, zA m c (ix2 r x) = zK m c r x := fun x => rfl
  simp only [← e]
  pointwise []
theorem sq_cb (q : Fin 8192) : aCq (V3 m) c (ix2 0 q) = ∑ x, X7 m c (ix2 q x) * X7 m c (ix2 q x) := by
  refine (congrFun (W3_v9 m c) (ix2 0 q)).trans ?_
  pointwise []

/-- The nearest row of the codebook. -/
theorem kk_ex (r : Fin 1024) : ∃ k, FirstMin (dst (fun x => zK m c r x) (fun q x => X7 m c (ix2 q x))) k :=
  exists_firstMin (by decide) _
def kk (r : Fin 1024) : Fin 8192 := (kk_ex m c r).choose
theorem kk_min (r : Fin 1024) : FirstMin (dst (fun x => zK m c r x) (fun q x => X7 m c (ix2 q x))) (kk m c r) :=
  (kk_ex m c r).choose_spec

theorem W4_v10 : W4 m c (Proc.devRef .tc main_v10) = fun j : S8x1x128.Idx => BitVec.ofNat 32 (kk m c (rowOf j)).val := by
  have ez : aZ (V3 m) c = zA m c := W3_v3 m c
  have ec : aCb (V3 m) c = X7 m c := W3_a7 m c
  refine (W4_arr m c 4).trans (arr1 (V3 m) _ _ c (kk m c) ?_ ?_ ?_)
  · intro r; rw [ez]; exact sq_z m c r
  · intro q; rw [ec]; exact sq_cb m c q
  · intro r; rw [ez, ec]; exact kk_min m c r

theorem W5_v11 : W5 m c (Proc.devRef .tc main_v11)
    = shapeCast S1024 (fun j : S8x1x128.Idx => BitVec.ofNat 32 (kk m c (rowOf j)).val) shapeCasts_S8x1x128_S1024 := by
  rw [← W4_v10]; simp only [W5, ops3]; after_results_simp; rfl

theorem ixs_at (r : Fin 1024) : ixsW m c (ix1 r) = BitVec.ofNat 32 (kk m c r).val := by
  refine (congrFun (W5_v11 m c) (ix1 r)).trans ?_
  pointwise []
  congr 3
  refine Fin.ext ?_
  show 128 * (r.val / 128) + r.val % 128 = r.val
  omega

theorem ixs_lt (j : S1024.Idx) : (ixsW m c j : BitVec 32).toNat < 8192 := by
  refine (congrArg BitVec.toNat ((congrArg (ixsW m c) (eq_ix1 j)).trans (ixs_at m c (j 0)))).trans_lt ?_
  rw [BitVec.toNat_ofNat]
  exact (Nat.mod_le _ _).trans_lt (kk m c _).isLt

theorem W4_a7 : W4 m c (Proc.devRef .tc main_arg7) = X7 m c := W4_args m c main_arg7 (by decide)
theorem W5_v13 : W5 m c (Proc.devRef .tc main_v13)
    = concatenate S8192x128 1 [⟨S8192x64, X7 m c⟩, ⟨S8192x64, broadcastInDim S8192x64 ![] bcast_S_S8192x64 (constant (F := Ideal) S_ .f32 0x00000000#32)⟩]
        concatenates_S8192x64_S8192x64_S8192x128_d1 := by
  rw [← W4_a7]; simp only [W5, ops3]; after_results_simp
  refine concatenate_congr _ _ (congrArg₂ (fun a b : FVec Ideal S8192x64 .f32 =>
    ([⟨S8192x64, a⟩, ⟨S8192x64, b⟩] : List ((s : Shape) × (s.Idx → Ideal .f32)))) ?_ ?_) _ _ <;> after_results_simp

theorem tab_at (q : Fin 8192) (x : Fin 64) : tabW m c (ix2 q (lane x)) = X7 m c (ix2 q x) := by
  refine (congrFun (W5_v13 m c) (ix2 q (lane x))).trans ?_
  pointwise []
  have h : (lane x).val < 64 := x.isLt
  rw [dif_pos h]
  rfl

/-! ## The gathered rows -/

theorem gat_at (r : Fin 1024) (x : Fin 64) : W6 m c (Proc.devRef .tc main_v14) (ix2 r (lane x)) = X7 m c (ix2 (kk m c r) x) := by
  refine (congrFun (W6_out m c) (ix2 r (lane x))).trans ?_
  rw [← tab_at m c]
  unfold gath
  refine congrArg (tabW m c) ?_
  have hl : lix r = ix1 r := eq_ix1 _
  funext a
  match a with
  | 0 =>
    refine Fin.ext ?_
    show (ixsW m c (lix r) : BitVec 32).toNat % 8192 = (kk m c r).val
    have e : (ixsW m c (lix r) : BitVec 32).toNat = (kk m c r).val := by
      refine (congrArg BitVec.toNat ((congrArg (ixsW m c) hl).trans (ixs_at m c r))).trans ?_
      rw [BitVec.toNat_ofNat]
      exact Nat.mod_eq_of_lt ((kk m c r).isLt.trans (by decide))
    rw [e]; exact Nat.mod_eq_of_lt (kk m c r).isLt
  | 1 => rfl

/-! ## The decoder -/

theorem W4_v3 : W4 m c (Proc.devRef .tc main_v3) = zA m c := (W4_of m c main_v3 (by decide +kernel)).trans (W3_v3 m c)
theorem W6_v3 : W6 m c (Proc.devRef .tc main_v3) = zA m c :=
  (W6_of m c main_v3 (by decide)).trans ((W5_of m c main_v3 (by decide)).trans (W4_v3 m c))
theorem W7_v3 : W7 m c (Proc.devRef .tc main_v3) = zA m c := (W7_of m c main_v3 (by decide)).trans (W6_v3 m c)
theorem W7_v14 : W7 m c (Proc.devRef .tc main_v14) = W6 m c (Proc.devRef .tc main_v14) := W7_of m c main_v14 (by decide)
theorem W6_a9 : W6 m c (Proc.devRef .tc main_arg9) = X9 m c := W6_args m c main_arg9 (by decide)
theorem W6_a11 : W6 m c (Proc.devRef .tc main_arg11) = X11 m c := W6_args m c main_arg11 (by decide)
theorem W6_a13 : W6 m c (Proc.devRef .tc main_arg13) = X13 m c := W6_args m c main_arg13 (by decide)
theorem W7_v15 : W7 m c (Proc.devRef .tc main_v15) = shapeCast S1x128 (X9 m c) shapeCasts_S128_S1x128 := by
  rw [← W6_a9]; simp only [W7, ops4]; after_results_simp; rfl
theorem W7_v16 : W7 m c (Proc.devRef .tc main_v16) = shapeCast S1x64 (X11 m c) shapeCasts_S64_S1x64 := by
  rw [← W6_a11]; simp only [W7, ops4]; after_results_simp; rfl
theorem W7_v17 : W7 m c (Proc.devRef .tc main_v17) = shapeCast S1x128 (X13 m c) shapeCasts_S128_S1x128 := by
  rw [← W6_a13]; simp only [W7, ops4]; after_results_simp; rfl
theorem d1_at (p : Fin 128) : bB1 (V7 m) c (ix2 0 p) = X9 m c (ix1 p) := by
  refine (congrFun (W7_v15 m c) (ix2 0 p)).trans ?_
  pointwise []
theorem d2_at (p : Fin 64) : bB2 (V7 m) c (ix2 0 p) = X11 m c (ix1 p) := by
  refine (congrFun (W7_v16 m c) (ix2 0 p)).trans ?_
  pointwise []
theorem d3_at (p : Fin 128) : bB3 (V7 m) c (ix2 0 p) = X13 m c (ix1 p) := by
  refine (congrFun (W7_v17 m c) (ix2 0 p)).trans ?_
  pointwise []
theorem z7 : aZ3 (V7 m) c = zA m c := W7_v3 m c
theorem q7 (r : Fin 1024) (x : Fin 64) : bQ (V7 m) c (ix2 r (lane x)) = X7 m c (ix2 (kk m c r) x) :=
  (congrFun (W7_v14 m c) (ix2 r (lane x))).trans (gat_at m c r x)

/-- The decoder's rows. -/
def oK (r : Fin 1024) (o : Fin 128) : EReal :=
  dec (fun x => zK m c r x + (X7 m c (ix2 (kk m c r) x) - zK m c r x))
    (fun x p => X8 m c (ix2 x p)) (fun p => X9 m c (ix1 p)) (fun x p => X10 m c (ix2 x p)) (fun p => X11 m c (ix1 p))
    (fun x p => X12 m c (ix2 x p)) (fun p => X13 m c (ix1 p)) o
/-- The loss. -/
def lK : EReal := loss (zK m c) (fun r x => X7 m c (ix2 (kk m c r) x))

def oA : FVec Ideal S1024x128 .f32 := fun j => oK m c (j 0) (j 1)
def lA : FVec Ideal S1x1 .f32 := fun _ => lK m c

theorem decG_eq : decG (V7 m) c = oA m c := by
  have e0 : bW1 (V7 m) c = X8 m c := W7_args m c main_arg8 (by decide)
  have e1 : bW2 (V7 m) c = X10 m c := W7_args m c main_arg10 (by decide)
  have e2 : bW3 (V7 m) c = X12 m c := W7_args m c main_arg12 (by decide)
  have ez : ∀ (r : Fin 1024) (x : Fin 64), zA m c (ix2 r x) = zK m c r x := fun _ _ => rfl
  funext j
  unfold decG oA oK
  rw [e0, e1, e2, z7]
  congr 1
  · funext x; exact congrArg (fun b : EReal => zK m c (j 0) x + (b - zK m c (j 0) x)) (q7 m c (j 0) x)
  · funext p; exact d1_at m c p
  · funext p; exact d2_at m c p
  · funext p; exact d3_at m c p
theorem lossG_eq : lossG (V7 m) c = lA m c := by
  have ez : ∀ (r : Fin 1024) (x : Fin 64), zA m c (ix2 r x) = zK m c r x := fun _ _ => rfl
  funext j
  unfold lossG lA lK
  rw [z7]
  congr 1
  funext r x; exact q7 m c r x

theorem W8_o : W8 m c (Proc.devRef .tc main_v18_0) = oA m c :=
  (W8_arr m c 8).trans ((arr3_8 (V7 m) _ _ c).trans (decG_eq m c))
theorem W8_l : W8 m c (Proc.devRef .tc main_v18_1) = lA m c :=
  (W8_arr m c 9).trans ((arr3_9 (V7 m) _ _ c).trans (lossG_eq m c))

/-! ## The results -/

theorem W9_o (i : Fin 1024) (o : Fin 128) : W9 m c (Proc.devRef .tc main_v19) (ix3 i o 0) = oK m c i o := by
  have e : W9 m c (Proc.devRef .tc main_v19) = shapeCast S1024x128x1 (oA m c) shapeCasts_S1024x128_S1024x128x1 := by
    rw [← W8_o]; simp only [W9, ops5]; after_results_simp; rfl
  refine (congrFun e (ix3 i o 0)).trans ?_
  pointwise [oA]
theorem W9_l : W9 m c (Proc.devRef .tc main_v20) = fun _ : S_.Idx => lK m c := by
  have e : W9 m c (Proc.devRef .tc main_v20) = shapeCast S_ (lA m c) shapeCasts_S1x1_S_ := by
    rw [← W8_l]; simp only [W9, ops5]; after_results_simp; rfl
  refine e.trans ?_
  rfl
theorem W9_z : W9 m c (Proc.devRef .tc main_v3) = zA m c :=
  (W9_of m c main_v3 (by decide)).trans ((W8_of m c main_v3 (by decide +kernel)).trans (W7_v3 m c))
theorem W9_c : W9 m c (Proc.devRef .tc main_c) = constantI S_ 32 64#32 := by
  simp only [W9, ops5]; after_results_simp

end Cert.Proof.K
-- ==== Proof.RefRun.lean ====
/- The reference's run. Its @main is a list of 124 host operations; every run of it ends with each result at the composed
   term of the operations over the arguments' contents at launch, the arguments unchanged. Terms that are long or read more
   than once have names, `res_main_vN` for what the operation writing `main_vN` leaves there. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 124 (window `main_part0`). -/
abbrev ops_part0_0 : List (HloOp τ sig (Elt F)) :=
  [ binary main_arg1 main_arg0 main_v0 ((fun l r => Host.dotGeneral dot_S64x128_S1024x128x256_S64x1024x256_1_1_0_02_n_n none l r) : (⟨S64x128, .f32⟩ : BufTy).Contents (Elt F) → (⟨S1024x128x256, .f32⟩ : BufTy).Contents (Elt F) → (⟨S64x1024x256, .f32⟩ : BufTy).Contents (Elt F)),
    unary main_v0 main_v1 ((transpose S1024x64x256 [1, 0, 2] · transposes_S64x1024x256_S1024x64x256_1_0_2) : (⟨S64x1024x256, .f32⟩ : BufTy).Contents (Elt F) → (⟨S1024x64x256, .f32⟩ : BufTy).Contents (Elt F)),
    unary main_arg2 main_v2 (broadcastInDim S1x64x1 ![1] bcast_S64_S1x64x1_1 : (⟨S64, .f32⟩ : BufTy).Contents (Elt F) → (⟨S1x64x1, .f32⟩ : BufTy).Contents (Elt F)),
    unary main_v2 main_v3 (broadcastInDim S1024x64x256 ![0, 1, 2] bcast_S1x64x1_S1024x64x256_0_1_2 : (⟨S1x64x1, .f32⟩ : BufTy).Contents (Elt F) → (⟨S1024x64x256, .f32⟩ : BufTy).Contents (Elt F)),
    binary main_v1 main_v3 main_v4 (addf : (⟨S1024x64x256, .f32⟩ : BufTy).Contents (Elt F) → (⟨S1024x64x256, .f32⟩ : BufTy).Contents (Elt F) → (⟨S1024x64x256, .f32⟩ : BufTy).Contents (Elt F)),
    nullary main_cst (constant S_ .f32 0x00000000#32),
    unary main_cst main_v5 (broadcastInDim S1024x64x256 ![] bcast_S_S1024x64x256 : (⟨S_, .f32⟩ : BufTy).Contents (Elt F) → (⟨S1024x64x256, .f32⟩ : BufTy).Contents (Elt F)),
    binary main_v4 main_v5 main_v6 (cmpf .oge : (⟨S1024x64x256, .f32⟩ : BufTy).Contents (Elt F) → (⟨S1024x64x256, .f32⟩ : BufTy).Contents (Elt F) → (⟨S1024x64x256, .i1⟩ : BufTy).Contents (Elt F)),
    nullary main_cst_0 (constant S_ .f32 0x3A83126F#32),
    unary main_cst_0 main_v7 (broadcastInDim S1024x64x256 ![] bcast_S_S1024x64x256 : (⟨S_, .f32⟩ : BufTy).Contents (Elt F) → (⟨S1024x64x256, .f32⟩ : BufTy).Contents (Elt F)),
    binary main_v7 main_v4 main_v8 (mulf : (⟨S1024x64x256, .f32⟩ : BufTy).Contents (Elt F) → (⟨S1024x64x256, .f32⟩ : BufTy).Contents (Elt F) → (⟨S1024x64x256, .f32⟩ : BufTy).Contents (Elt F)),
    TRef.ternary (TRef.of (T := ⟨S1024x64x256, .i1⟩) main_v6) (TRef.of (T := ⟨S1024x64x256, .f32⟩) main_v4) (TRef.of (T := ⟨S1024x64x256, .f32⟩) main_v8) (TRef.of (T := ⟨S1024x64x256, .f32⟩) main_v9) select,
    binary main_arg3 main_v9 main_v10 ((fun l r => Host.dotGeneral dot_S128x64_S1024x64x256_S128x1024x256_1_1_0_02_n_n none l r) : (⟨S128x64, .f32⟩ : BufTy).Contents (Elt F) → (⟨S1024x64x256, .f32⟩ : BufTy).Contents (Elt F) → (⟨S128x1024x256, .f32⟩ : BufTy).Contents (Elt F)),
    unary main_v10 main_v11 ((transpose S1024x128x256 [1, 0, 2] · transposes_S128x1024x256_S1024x128x256_1_0_2) : (⟨S128x1024x256, .f32⟩ : BufTy).Contents (Elt F) → (⟨S1024x128x256, .f32⟩ : BufTy).Contents (Elt F)),
    unary main_arg4 main_v12 (broadcastInDim S1x128x1 ![1] bcast_S128_S1x128x1_1 : (⟨S128, .f32⟩ : BufTy).Contents (Elt F) → (⟨S1x128x1, .f32⟩ : BufTy).Contents (Elt F)),
    unary main_v12 main_v13 (broadcastInDim S1024x128x256 ![0, 1, 2] bcast_S1x128x1_S1024x128x256_0_1_2 : (⟨S1x128x1, .f32⟩ : BufTy).Contents (Elt F) → (⟨S1024x128x256, .f32⟩ : BufTy).Contents (Elt F)),
    binary main_v11 main_v13 main_v14 (addf : (⟨S1024x128x256, .f32⟩ : BufTy).Contents (Elt F) → (⟨S1024x128x256, .f32⟩ : BufTy).Contents (Elt F) → (⟨S1024x128x256, .f32⟩ : BufTy).Contents (Elt F)),
    nullary main_cst_1 (constant S_ .f32 0x00000000#32),
    unary main_cst_1 main_v15 (broadcastInDim S1024x128x256 ![] bcast_S_S1024x128x256 : (⟨S_, .f32⟩ : BufTy).Contents (Elt F) → (⟨S1024x128x256, .f32⟩ : BufTy).Contents (Elt F)),
    binary main_v14 main_v15 main_v16 (cmpf .oge : (⟨S1024x128x256, .f32⟩ : BufTy).Contents (Elt F) → (⟨S1024x128x256, .f32⟩ : BufTy).Contents (Elt F) → (⟨S1024x128x256, .i1⟩ : BufTy).Contents (Elt F)),
    nullary main_cst_2 (constant S_ .f32 0x3A83126F#32),
    unary main_cst_2 main_v17 (broadcastInDim S1024x128x256 ![] bcast_S_S1024x128x256 : (⟨S_, .f32⟩ : BufTy).Contents (Elt F) → (⟨S1024x128x256, .f32⟩ : BufTy).Contents (Elt F)),
    binary main_v17 main_v14 main_v18 (mulf : (⟨S1024x128x256, .f32⟩ : BufTy).Contents (Elt F) → (⟨S1024x128x256, .f32⟩ : BufTy).Contents (Elt F) → (⟨S1024x128x256, .f32⟩ : BufTy).Contents (Elt F)),
    TRef.ternary (TRef.of (T := ⟨S1024x128x256, .i1⟩) main_v16) (TRef.of (T := ⟨S1024x128x256, .f32⟩) main_v14) (TRef.of (T := ⟨S1024x128x256, .f32⟩) main_v18) (TRef.of (T := ⟨S1024x128x256, .f32⟩) main_v19) select,
    binary main_arg5 main_v19 main_v20 ((fun l r => Host.dotGeneral dot_S64x128_S1024x128x256_S64x1024x256_1_1_0_02_n_n none l r) : (⟨S64x128, .f32⟩ : BufTy).Contents (Elt F) → (⟨S1024x128x256, .f32⟩ : BufTy).Contents (Elt F) → (⟨S64x1024x256, .f32⟩ : BufTy).Contents (Elt F)),
    unary main_v20 main_v21 ((transpose S1024x64x256 [1, 0, 2] · transposes_S64x1024x256_S1024x64x256_1_0_2) : (⟨S64x1024x256, .f32⟩ : BufTy).Contents (Elt F) → (⟨S1024x64x256, .f32⟩ : BufTy).Contents (Elt F)),
    unary main_arg6 main_v22 (broadcastInDim S1x64x1 ![1] bcast_S64_S1x64x1_1 : (⟨S64, .f32⟩ : BufTy).Contents (Elt F) → (⟨S1x64x1, .f32⟩ : BufTy).Contents (Elt F)),
    unary main_v22 main_v23 (broadcastInDim S1024x64x256 ![0, 1, 2] bcast_S1x64x1_S1024x64x256_0_1_2 : (⟨S1x64x1, .f32⟩ : BufTy).Contents (Elt F) → (⟨S1024x64x256, .f32⟩ : BufTy).Contents (Elt F)),
    binary main_v21 main_v23 main_v24 (addf : (⟨S1024x64x256, .f32⟩ : BufTy).Contents (Elt F) → (⟨S1024x64x256, .f32⟩ : BufTy).Contents (Elt F) → (⟨S1024x64x256, .f32⟩ : BufTy).Contents (Elt F)),
    nullary main_cst_3 (constant S_ .f32 0xFF800000#32) ]

/-- @main's operations 31 … 60 of 124 (window `main_part0`). -/
abbrev ops_part0_1 : List (HloOp τ sig (Elt F)) :=
  [ binary main_v24 main_cst_3 main_v25 ((fun x v => Host.reduce FloatOps.maximumf x v reducesTo_S1024x64x256_S1024x64_d2 h_S_) : (⟨S1024x64x256, .f32⟩ : BufTy).Contents (Elt F) → (⟨S_, .f32⟩ : BufTy).Contents (Elt F) → (⟨S1024x64, .f32⟩ : BufTy).Contents (Elt F)),
    binary main_v25 main_v25 main_v26 (mulf : (⟨S1024x64, .f32⟩ : BufTy).Contents (Elt F) → (⟨S1024x64, .f32⟩ : BufTy).Contents (Elt F) → (⟨S1024x64, .f32⟩ : BufTy).Contents (Elt F)),
    nullary main_cst_4 (constant S_ .f32 0x00000000#32),
    binary main_v26 main_cst_4 main_v27 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v27 main_v28 (broadcastInDim S1024x1 ![0] bcast_S1024_S1024x1_0 : (⟨S1024, .f32⟩ : BufTy).Contents (Elt F) → (⟨S1024x1, .f32⟩ : BufTy).Contents (Elt F)),
    binary main_arg7 main_arg7 main_v29 (mulf : (⟨S8192x64, .f32⟩ : BufTy).Contents (Elt F) → (⟨S8192x64, .f32⟩ : BufTy).Contents (Elt F) → (⟨S8192x64, .f32⟩ : BufTy).Contents (Elt F)),
    nullary main_cst_5 (constant S_ .f32 0x00000000#32),
    binary main_v29 main_cst_5 main_v30 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v30 main_v31 (broadcastInDim S1x8192 ![1] bcast_S8192_S1x8192_1 : (⟨S8192, .f32⟩ : BufTy).Contents (Elt F) → (⟨S1x8192, .f32⟩ : BufTy).Contents (Elt F)),
    unary main_v28 main_v32 (broadcastInDim S1024x8192 ![0, 1] bcast_S1024x1_S1024x8192_0_1 : (⟨S1024x1, .f32⟩ : BufTy).Contents (Elt F) → (⟨S1024x8192, .f32⟩ : BufTy).Contents (Elt F)),
    unary main_v31 main_v33 (broadcastInDim S1024x8192 ![0, 1] bcast_S1x8192_S1024x8192_0_1 : (⟨S1x8192, .f32⟩ : BufTy).Contents (Elt F) → (⟨S1024x8192, .f32⟩ : BufTy).Contents (Elt F)),
    binary main_v32 main_v33 main_v34 (addf : (⟨S1024x8192, .f32⟩ : BufTy).Contents (Elt F) → (⟨S1024x8192, .f32⟩ : BufTy).Contents (Elt F) → (⟨S1024x8192, .f32⟩ : BufTy).Contents (Elt F)),
    unary main_arg7 main_v35 ((transpose S64x8192 [1, 0] · transposes_S8192x64_S64x8192_1_0) : (⟨S8192x64, .f32⟩ : BufTy).Contents (Elt F) → (⟨S64x8192, .f32⟩ : BufTy).Contents (Elt F)),
    binary main_v25 main_v35 main_v36 ((fun l r => Host.dotGeneral dot_S1024x64_S64x8192_S1024x8192_1_0_0_1_n_n none l r) : (⟨S1024x64, .f32⟩ : BufTy).Contents (Elt F) → (⟨S64x8192, .f32⟩ : BufTy).Contents (Elt F) → (⟨S1024x8192, .f32⟩ : BufTy).Contents (Elt F)),
    nullary main_cst_6 (constant S_ .f32 0x40000000#32),
    unary main_cst_6 main_v37 (broadcastInDim S1024x8192 ![] bcast_S_S1024x8192 : (⟨S_, .f32⟩ : BufTy).Contents (Elt F) → (⟨S1024x8192, .f32⟩ : BufTy).Contents (Elt F)),
    binary main_v37 main_v36 main_v38 (mulf : (⟨S1024x8192, .f32⟩ : BufTy).Contents (Elt F) → (⟨S1024x8192, .f32⟩ : BufTy).Contents (Elt F) → (⟨S1024x8192, .f32⟩ : BufTy).Contents (Elt F)),
    binary main_v34 main_v38 main_v39 (subf : (⟨S1024x8192, .f32⟩ : BufTy).Contents (Elt F) → (⟨S1024x8192, .f32⟩ : BufTy).Contents (Elt F) → (⟨S1024x8192, .f32⟩ : BufTy).Contents (Elt F)),
    TRef.nullary (TRef.of (T := ⟨S1024x8192, .i32⟩) main_call2_v0) (iotaInDim S1024x8192 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S1024x8192, .f32⟩) main_v39) (TRef.of (T := ⟨S1024x8192, .i32⟩) main_call2_v0) (TRef.of (T := ⟨S_, .f32⟩) main_call2_cst) (TRef.of (T := ⟨S_, .i32⟩) main_call2_c) (TRef.of (T := ⟨S1024, .f32⟩) main_call2_v1_0) (fun x y u v j => (Host.argReduce reducer_argmin_f32_i32 x y u v reducesTo_S1024x8192_S1024_d1 h_S_ j).1),
    TRef.quaternary (TRef.of (T := ⟨S1024x8192, .f32⟩) main_v39) (TRef.of (T := ⟨S1024x8192, .i32⟩) main_call2_v0) (TRef.of (T := ⟨S_, .f32⟩) main_call2_cst) (TRef.of (T := ⟨S_, .i32⟩) main_call2_c) (TRef.of (T := ⟨S1024, .i32⟩) main_v40) (fun x y u v j => (Host.argReduce reducer_argmin_f32_i32 x y u v reducesTo_S1024x8192_S1024_d1 h_S_ j).2),
    TRef.nullary (TRef.of (T := ⟨S_, .i32⟩) main_call3_c) (constantI S_ 32 0#32),
    TRef.unary (TRef.of (T := ⟨S_, .i32⟩) main_call3_c) (TRef.of (T := ⟨S1024, .i32⟩) main_call3_v0) (broadcastInDim S1024 ![] bcast_S_S1024),
    TRef.binary (TRef.of (T := ⟨S1024, .i32⟩) main_v40) (TRef.of (T := ⟨S1024, .i32⟩) main_call3_v0) (TRef.of (T := ⟨S1024, .i1⟩) main_call3_v1) (cmpi .slt),
    TRef.nullary (TRef.of (T := ⟨S_, .i32⟩) main_call3_c_0) (constantI S_ 32 8192#32),
    TRef.unary (TRef.of (T := ⟨S_, .i32⟩) main_call3_c_0) (TRef.of (T := ⟨S1024, .i32⟩) main_call3_v2) (broadcastInDim S1024 ![] bcast_S_S1024),
    TRef.binary (TRef.of (T := ⟨S1024, .i32⟩) main_v40) (TRef.of (T := ⟨S1024, .i32⟩) main_call3_v2) (TRef.of (T := ⟨S1024, .i32⟩) main_call3_v3) addi,
    TRef.ternary (TRef.of (T := ⟨S1024, .i1⟩) main_call3_v1) (TRef.of (T := ⟨S1024, .i32⟩) main_call3_v3) (TRef.of (T := ⟨S1024, .i32⟩) main_v40) (TRef.of (T := ⟨S1024, .i32⟩) main_call3_v4) select ]

/-- @main's operations 61 … 86 of 124 (window `main_part0`). -/
abbrev ops_part0_2 : List (HloOp τ sig (Elt F)) :=
  [ TRef.unary (TRef.of (T := ⟨S1024, .i32⟩) main_call3_v4) (TRef.of (T := ⟨S1024x1, .i32⟩) main_call3_v5) (broadcastInDim S1024x1 ![0] bcast_S1024_S1024x1_0),
    TRef.nullary (TRef.of (T := ⟨S1, .i32⟩) main_call3_c_1) (constantI S1 32 8191#32),
    TRef.nullary (TRef.of (T := ⟨S_, .i32⟩) main_call3_c_2) (constantI S_ 32 0#32),
    TRef.unary (TRef.of (T := ⟨S_, .i32⟩) main_call3_c_2) (TRef.of (T := ⟨S1024x1, .i32⟩) main_call3_v6) (broadcastInDim S1024x1 ![] bcast_S_S1024x1),
    TRef.binary (TRef.of (T := ⟨S1024x1, .i32⟩) main_call3_v5) (TRef.of (T := ⟨S1024x1, .i32⟩) main_call3_v6) (TRef.of (T := ⟨S1024x1, .i1⟩) main_call3_v7) (cmpi .sge),
    TRef.unary (TRef.of (T := ⟨S1, .i32⟩) main_call3_c_1) (TRef.of (T := ⟨S1x1, .i32⟩) main_call3_v8) (broadcastInDim S1x1 ![1] bcast_S1_S1x1_1),
    TRef.unary (TRef.of (T := ⟨S1x1, .i32⟩) main_call3_v8) (TRef.of (T := ⟨S1024x1, .i32⟩) main_call3_v9) (broadcastInDim S1024x1 ![0, 1] bcast_S1x1_S1024x1_0_1),
    TRef.binary (TRef.of (T := ⟨S1024x1, .i32⟩) main_call3_v5) (TRef.of (T := ⟨S1024x1, .i32⟩) main_call3_v9) (TRef.of (T := ⟨S1024x1, .i1⟩) main_call3_v10) (cmpi .sle),
    TRef.binary (TRef.of (T := ⟨S1024x1, .i1⟩) main_call3_v7) (TRef.of (T := ⟨S1024x1, .i1⟩) main_call3_v10) (TRef.of (T := ⟨S1024x1, .i1⟩) main_call3_v11) andi,
    TRef.nullary (TRef.of (T := ⟨S_, .i1⟩) main_call3_c_3) (constantI S_ 1 1#1),
    TRef.binary (TRef.of (T := ⟨S1024x1, .i1⟩) main_call3_v11) (TRef.of (T := ⟨S_, .i1⟩) main_call3_c_3) (TRef.of (T := ⟨S1024, .i1⟩) main_call3_v12) (fun x v => Host.reduce IntOp.andi x v reducesTo_S1024x1_S1024_d1 h_S_),
    TRef.binary (TRef.of (T := ⟨S8192x64, .f32⟩) main_arg7) (TRef.of (T := ⟨S1024x1, .i32⟩) main_call3_v5) (TRef.of (T := ⟨S1024x64, .f32⟩) main_call3_v13) (fun x i => Host.gather gather_S8192x64_S1024x1_S1024x64_1_0_n_n_0_1_164 x i),
    TRef.unary (TRef.of (T := ⟨S1024, .i1⟩) main_call3_v12) (TRef.of (T := ⟨S1024x64, .i1⟩) main_call3_v14) (broadcastInDim S1024x64 ![0] bcast_S1024_S1024x64_0),
    TRef.nullary (TRef.of (T := ⟨S_, .f32⟩) main_call3_cst) (constant S_ .f32 0x7FC00000#32),
    TRef.unary (TRef.of (T := ⟨S_, .f32⟩) main_call3_cst) (TRef.of (T := ⟨S1024x64, .f32⟩) main_call3_v15) (broadcastInDim S1024x64 ![] bcast_S_S1024x64),
    TRef.ternary (TRef.of (T := ⟨S1024x64, .i1⟩) main_call3_v14) (TRef.of (T := ⟨S1024x64, .f32⟩) main_call3_v13) (TRef.of (T := ⟨S1024x64, .f32⟩) main_call3_v15) (TRef.of (T := ⟨S1024x64, .f32⟩) main_v41) select,
    binary main_v41 main_v25 main_v42 (subf : (⟨S1024x64, .f32⟩ : BufTy).Contents (Elt F) → (⟨S1024x64, .f32⟩ : BufTy).Contents (Elt F) → (⟨S1024x64, .f32⟩ : BufTy).Contents (Elt F)),
    binary main_v42 main_v42 main_v43 (mulf : (⟨S1024x64, .f32⟩ : BufTy).Contents (Elt F) → (⟨S1024x64, .f32⟩ : BufTy).Contents (Elt F) → (⟨S1024x64, .f32⟩ : BufTy).Contents (Elt F)),
    nullary main_cst_7 (constant S_ .f32 0x00000000#32),
    binary main_v43 main_cst_7 main_v44 ((fun x v => Host.reduceAdd x v reducesTo_S1024x64_S_d0_1 h_S_) : (⟨S1024x64, .f32⟩ : BufTy).Contents (Elt F) → (⟨S_, .f32⟩ : BufTy).Contents (Elt F) → (⟨S_, .f32⟩ : BufTy).Contents (Elt F)),
    nullary main_cst_8 (constant S_ .f32 0x47800000#32),
    binary main_v44 main_cst_8 main_v45 (Host.divf : (⟨S_, .f32⟩ : BufTy).Contents (Elt F) → (⟨S_, .f32⟩ : BufTy).Contents (Elt F) → (⟨S_, .f32⟩ : BufTy).Contents (Elt F)),
    binary main_v41 main_v25 main_v46 (subf : (⟨S1024x64, .f32⟩ : BufTy).Contents (Elt F) → (⟨S1024x64, .f32⟩ : BufTy).Contents (Elt F) → (⟨S1024x64, .f32⟩ : BufTy).Contents (Elt F)),
    binary main_v46 main_v46 main_v47 (mulf : (⟨S1024x64, .f32⟩ : BufTy).Contents (Elt F) → (⟨S1024x64, .f32⟩ : BufTy).Contents (Elt F) → (⟨S1024x64, .f32⟩ : BufTy).Contents (Elt F)),
    nullary main_cst_9 (constant S_ .f32 0x00000000#32),
    binary main_v47 main_cst_9 main_v48 ((fun x v => Host.reduceAdd x v reducesTo_S1024x64_S_d0_1 h_S_) : (⟨S1024x64, .f32⟩ : BufTy).Contents (Elt F) → (⟨S_, .f32⟩ : BufTy).Contents (Elt F) → (⟨S_, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 87 … 124 of 124 (window `main_part1`). -/
abbrev ops_part1 : List (HloOp τ sig (Elt F)) :=
  [ nullary main_cst_10 (constant S_ .f32 0x47800000#32),
    binary main_v48 main_cst_10 main_v49 (Host.divf : (⟨S_, .f32⟩ : BufTy).Contents (Elt F) → (⟨S_, .f32⟩ : BufTy).Contents (Elt F) → (⟨S_, .f32⟩ : BufTy).Contents (Elt F)),
    nullary main_cst_11 (constant S_ .f32 0x3E800000#32),
    binary main_cst_11 main_v49 main_v50 (mulf : (⟨S_, .f32⟩ : BufTy).Contents (Elt F) → (⟨S_, .f32⟩ : BufTy).Contents (Elt F) → (⟨S_, .f32⟩ : BufTy).Contents (Elt F)),
    binary main_v45 main_v50 main_v51 (addf : (⟨S_, .f32⟩ : BufTy).Contents (Elt F) → (⟨S_, .f32⟩ : BufTy).Contents (Elt F) → (⟨S_, .f32⟩ : BufTy).Contents (Elt F)),
    binary main_v41 main_v25 main_v52 (subf : (⟨S1024x64, .f32⟩ : BufTy).Contents (Elt F) → (⟨S1024x64, .f32⟩ : BufTy).Contents (Elt F) → (⟨S1024x64, .f32⟩ : BufTy).Contents (Elt F)),
    binary main_v25 main_v52 main_v53 (addf : (⟨S1024x64, .f32⟩ : BufTy).Contents (Elt F) → (⟨S1024x64, .f32⟩ : BufTy).Contents (Elt F) → (⟨S1024x64, .f32⟩ : BufTy).Contents (Elt F)),
    unary main_v53 main_v54 (broadcastInDim S1024x64x1 ![0, 1] bcast_S1024x64_S1024x64x1_0_1 : (⟨S1024x64, .f32⟩ : BufTy).Contents (Elt F) → (⟨S1024x64x1, .f32⟩ : BufTy).Contents (Elt F)),
    binary main_arg8 main_v54 main_v55 ((fun l r => Host.dotGeneral dot_S64x128_S1024x64x1_S128x1024x1_0_1_1_02_n_n none l r) : (⟨S64x128, .f32⟩ : BufTy).Contents (Elt F) → (⟨S1024x64x1, .f32⟩ : BufTy).Contents (Elt F) → (⟨S128x1024x1, .f32⟩ : BufTy).Contents (Elt F)),
    unary main_v55 main_v56 ((transpose S1024x128x1 [1, 0, 2] · transposes_S128x1024x1_S1024x128x1_1_0_2) : (⟨S128x1024x1, .f32⟩ : BufTy).Contents (Elt F) → (⟨S1024x128x1, .f32⟩ : BufTy).Contents (Elt F)),
    unary main_arg9 main_v57 (broadcastInDim S1x128x1 ![1] bcast_S128_S1x128x1_1 : (⟨S128, .f32⟩ : BufTy).Contents (Elt F) → (⟨S1x128x1, .f32⟩ : BufTy).Contents (Elt F)),
    unary main_v57 main_v58 (broadcastInDim S1024x128x1 ![0, 1, 2] bcast_S1x128x1_S1024x128x1_0_1_2 : (⟨S1x128x1, .f32⟩ : BufTy).Contents (Elt F) → (⟨S1024x128x1, .f32⟩ : BufTy).Contents (Elt F)),
    binary main_v56 main_v58 main_v59 (addf : (⟨S1024x128x1, .f32⟩ : BufTy).Contents (Elt F) → (⟨S1024x128x1, .f32⟩ : BufTy).Contents (Elt F) → (⟨S1024x128x1, .f32⟩ : BufTy).Contents (Elt F)),
    nullary main_cst_12 (constant S_ .f32 0x00000000#32),
    unary main_cst_12 main_v60 (broadcastInDim S1024x128x1 ![] bcast_S_S1024x128x1 : (⟨S_, .f32⟩ : BufTy).Contents (Elt F) → (⟨S1024x128x1, .f32⟩ : BufTy).Contents (Elt F)),
    binary main_v59 main_v60 main_v61 (cmpf .oge : (⟨S1024x128x1, .f32⟩ : BufTy).Contents (Elt F) → (⟨S1024x128x1, .f32⟩ : BufTy).Contents (Elt F) → (⟨S1024x128x1, .i1⟩ : BufTy).Contents (Elt F)),
    nullary main_cst_13 (constant S_ .f32 0x3A83126F#32),
    unary main_cst_13 main_v62 (broadcastInDim S1024x128x1 ![] bcast_S_S1024x128x1 : (⟨S_, .f32⟩ : BufTy).Contents (Elt F) → (⟨S1024x128x1, .f32⟩ : BufTy).Contents (Elt F)),
    binary main_v62 main_v59 main_v63 (mulf : (⟨S1024x128x1, .f32⟩ : BufTy).Contents (Elt F) → (⟨S1024x128x1, .f32⟩ : BufTy).Contents (Elt F) → (⟨S1024x128x1, .f32⟩ : BufTy).Contents (Elt F)),
    TRef.ternary (TRef.of (T := ⟨S1024x128x1, .i1⟩) main_v61) (TRef.of (T := ⟨S1024x128x1, .f32⟩) main_v59) (TRef.of (T := ⟨S1024x128x1, .f32⟩) main_v63) (TRef.of (T := ⟨S1024x128x1, .f32⟩) main_v64) select,
    binary main_arg10 main_v64 main_v65 ((fun l r => Host.dotGeneral dot_S128x64_S1024x128x1_S64x1024x1_0_1_1_02_n_n none l r) : (⟨S128x64, .f32⟩ : BufTy).Contents (Elt F) → (⟨S1024x128x1, .f32⟩ : BufTy).Contents (Elt F) → (⟨S64x1024x1, .f32⟩ : BufTy).Contents (Elt F)),
    unary main_v65 main_v66 ((transpose S1024x64x1 [1, 0, 2] · transposes_S64x1024x1_S1024x64x1_1_0_2) : (⟨S64x1024x1, .f32⟩ : BufTy).Contents (Elt F) → (⟨S1024x64x1, .f32⟩ : BufTy).Contents (Elt F)),
    unary main_arg11 main_v67 (broadcastInDim S1x64x1 ![1] bcast_S64_S1x64x1_1 : (⟨S64, .f32⟩ : BufTy).Contents (Elt F) → (⟨S1x64x1, .f32⟩ : BufTy).Contents (Elt F)),
    unary main_v67 main_v68 (broadcastInDim S1024x64x1 ![0, 1, 2] bcast_S1x64x1_S1024x64x1_0_1_2 : (⟨S1x64x1, .f32⟩ : BufTy).Contents (Elt F) → (⟨S1024x64x1, .f32⟩ : BufTy).Contents (Elt F)),
    binary main_v66 main_v68 main_v69 (addf : (⟨S1024x64x1, .f32⟩ : BufTy).Contents (Elt F) → (⟨S1024x64x1, .f32⟩ : BufTy).Contents (Elt F) → (⟨S1024x64x1, .f32⟩ : BufTy).Contents (Elt F)),
    nullary main_cst_14 (constant S_ .f32 0x00000000#32),
    unary main_cst_14 main_v70 (broadcastInDim S1024x64x1 ![] bcast_S_S1024x64x1 : (⟨S_, .f32⟩ : BufTy).Contents (Elt F) → (⟨S1024x64x1, .f32⟩ : BufTy).Contents (Elt F)),
    binary main_v69 main_v70 main_v71 (cmpf .oge : (⟨S1024x64x1, .f32⟩ : BufTy).Contents (Elt F) → (⟨S1024x64x1, .f32⟩ : BufTy).Contents (Elt F) → (⟨S1024x64x1, .i1⟩ : BufTy).Contents (Elt F)),
    nullary main_cst_15 (constant S_ .f32 0x3A83126F#32),
    unary main_cst_15 main_v72 (broadcastInDim S1024x64x1 ![] bcast_S_S1024x64x1 : (⟨S_, .f32⟩ : BufTy).Contents (Elt F) → (⟨S1024x64x1, .f32⟩ : BufTy).Contents (Elt F)),
    binary main_v72 main_v69 main_v73 (mulf : (⟨S1024x64x1, .f32⟩ : BufTy).Contents (Elt F) → (⟨S1024x64x1, .f32⟩ : BufTy).Contents (Elt F) → (⟨S1024x64x1, .f32⟩ : BufTy).Contents (Elt F)),
    TRef.ternary (TRef.of (T := ⟨S1024x64x1, .i1⟩) main_v71) (TRef.of (T := ⟨S1024x64x1, .f32⟩) main_v69) (TRef.of (T := ⟨S1024x64x1, .f32⟩) main_v73) (TRef.of (T := ⟨S1024x64x1, .f32⟩) main_v74) select,
    binary main_arg12 main_v74 main_v75 ((fun l r => Host.dotGeneral dot_S64x128_S1024x64x1_S128x1024x1_0_1_1_02_n_n none l r) : (⟨S64x128, .f32⟩ : BufTy).Contents (Elt F) → (⟨S1024x64x1, .f32⟩ : BufTy).Contents (Elt F) → (⟨S128x1024x1, .f32⟩ : BufTy).Contents (Elt F)),
    unary main_v75 main_v76 ((transpose S1024x128x1 [1, 0, 2] · transposes_S128x1024x1_S1024x128x1_1_0_2) : (⟨S128x1024x1, .f32⟩ : BufTy).Contents (Elt F) → (⟨S1024x128x1, .f32⟩ : BufTy).Contents (Elt F)),
    unary main_arg13 main_v77 (broadcastInDim S1x128x1 ![1] bcast_S128_S1x128x1_1 : (⟨S128, .f32⟩ : BufTy).Contents (Elt F) → (⟨S1x128x1, .f32⟩ : BufTy).Contents (Elt F)),
    unary main_v77 main_v78 (broadcastInDim S1024x128x1 ![0, 1, 2] bcast_S1x128x1_S1024x128x1_0_1_2 : (⟨S1x128x1, .f32⟩ : BufTy).Contents (Elt F) → (⟨S1024x128x1, .f32⟩ : BufTy).Contents (Elt F)),
    binary main_v76 main_v78 main_v79 (addf : (⟨S1024x128x1, .f32⟩ : BufTy).Contents (Elt F) → (⟨S1024x128x1, .f32⟩ : BufTy).Contents (Elt F) → (⟨S1024x128x1, .f32⟩ : BufTy).Contents (Elt F)),
    nullary main_c (constantI S_ 32 64#32) ]

/-- @main's 124 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., unary_bufs_sub .., binary_bufs_sub .., nullary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨binary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., nullary_bufs_sub .., binary_bufs_sub .., nullary_bufs_sub .., binary_bufs_sub .., binary_bufs_sub .., binary_bufs_sub .., nullary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨nullary_bufs_sub .., binary_bufs_sub .., nullary_bufs_sub .., binary_bufs_sub .., binary_bufs_sub .., binary_bufs_sub .., binary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., unary_bufs_sub .., binary_bufs_sub .., nullary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h
    exacts [List.forall_iff_forall_mem.mp ops_part0_0_sub op h, List.forall_iff_forall_mem.mp ops_part0_1_sub op h, List.forall_iff_forall_mem.mp ops_part0_2_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_fresh op h]

set_option maxRecDepth 8192 in
/-- `main_v4`'s composed term of the arguments (named: it is used 3 times). -/
def res_main_v4 (V0 : Valuation τ sig (Elt F)) : (Proc.devRef .tc main_v4 : DevRef τ sig).ty.Contents (Elt F) :=
  addf (transpose S1024x64x256 [1, 0, 2] (Host.dotGeneral dot_S64x128_S1024x128x256_S64x1024x256_1_1_0_02_n_n none (V0 (Proc.devRef .tc main_arg1)) (V0 (Proc.devRef .tc main_arg0))) transposes_S64x1024x256_S1024x64x256_1_0_2) (broadcastInDim S1024x64x256 ![0, 1, 2] bcast_S1x64x1_S1024x64x256_0_1_2 (broadcastInDim S1x64x1 ![1] bcast_S64_S1x64x1_1 (V0 (Proc.devRef .tc main_arg2))))

set_option maxRecDepth 8192 in
/-- `main_v14`'s composed term of the arguments (named: it is used 3 times). -/
def res_main_v14 (V0 : Valuation τ sig (Elt F)) : (Proc.devRef .tc main_v14 : DevRef τ sig).ty.Contents (Elt F) :=
  addf (transpose S1024x128x256 [1, 0, 2] (Host.dotGeneral dot_S128x64_S1024x64x256_S128x1024x256_1_1_0_02_n_n none (V0 (Proc.devRef .tc main_arg3)) (select (cmpf .oge (res_main_v4 V0) (broadcastInDim S1024x64x256 ![] bcast_S_S1024x64x256 (constant S_ .f32 0x00000000#32))) (res_main_v4 V0) (mulf (broadcastInDim S1024x64x256 ![] bcast_S_S1024x64x256 (constant S_ .f32 0x3A83126F#32)) (res_main_v4 V0)))) transposes_S128x1024x256_S1024x128x256_1_0_2) (broadcastInDim S1024x128x256 ![0, 1, 2] bcast_S1x128x1_S1024x128x256_0_1_2 (broadcastInDim S1x128x1 ![1] bcast_S128_S1x128x1_1 (V0 (Proc.devRef .tc main_arg4))))

set_option maxRecDepth 8192 in
/-- `main_v25`'s composed term of the arguments (named: it is used 7 times). -/
def res_main_v25 (V0 : Valuation τ sig (Elt F)) : (Proc.devRef .tc main_v25 : DevRef τ sig).ty.Contents (Elt F) :=
  Host.reduce FloatOps.maximumf (addf (transpose S1024x64x256 [1, 0, 2] (Host.dotGeneral dot_S64x128_S1024x128x256_S64x1024x256_1_1_0_02_n_n none (V0 (Proc.devRef .tc main_arg5)) (select (cmpf .oge (res_main_v14 V0) (broadcastInDim S1024x128x256 ![] bcast_S_S1024x128x256 (constant S_ .f32 0x00000000#32))) (res_main_v14 V0) (mulf (broadcastInDim S1024x128x256 ![] bcast_S_S1024x128x256 (constant S_ .f32 0x3A83126F#32)) (res_main_v14 V0)))) transposes_S64x1024x256_S1024x64x256_1_0_2) (broadcastInDim S1024x64x256 ![0, 1, 2] bcast_S1x64x1_S1024x64x256_0_1_2 (broadcastInDim S1x64x1 ![1] bcast_S64_S1x64x1_1 (V0 (Proc.devRef .tc main_arg6))))) (constant S_ .f32 0xFF800000#32) reducesTo_S1024x64x256_S1024x64_d2 h_S_

set_option maxRecDepth 8192 in
/-- `main_v39`'s composed term of the arguments (named: it is used 2 times). -/
def res_main_v39 (V0 : Valuation τ sig (Elt F)) : (Proc.devRef .tc main_v39 : DevRef τ sig).ty.Contents (Elt F) :=
  subf (addf (broadcastInDim S1024x8192 ![0, 1] bcast_S1024x1_S1024x8192_0_1 (broadcastInDim S1024x1 ![0] bcast_S1024_S1024x1_0 (Host.reduceAdd (mulf (res_main_v25 V0) (res_main_v25 V0)) (constant S_ .f32 0x00000000#32) reducesTo_S1024x64_S1024_d1 h_S_))) (broadcastInDim S1024x8192 ![0, 1] bcast_S1x8192_S1024x8192_0_1 (broadcastInDim S1x8192 ![1] bcast_S8192_S1x8192_1 (Host.reduceAdd (mulf (V0 (Proc.devRef .tc main_arg7)) (V0 (Proc.devRef .tc main_arg7))) (constant S_ .f32 0x00000000#32) reducesTo_S8192x64_S8192_d1 h_S_)))) (mulf (broadcastInDim S1024x8192 ![] bcast_S_S1024x8192 (constant S_ .f32 0x40000000#32)) (Host.dotGeneral dot_S1024x64_S64x8192_S1024x8192_1_0_0_1_n_n none (res_main_v25 V0) (transpose S64x8192 [1, 0] (V0 (Proc.devRef .tc main_arg7)) transposes_S8192x64_S64x8192_1_0)))

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S1024x8192 32 1

set_option maxRecDepth 8192 in
/-- `main_call2_cst`'s composed term of the arguments (named: it is used 2 times). -/
def res_main_call2_cst (V0 : Valuation τ sig (Elt F)) : (Proc.devRef .tc main_call2_cst : DevRef τ sig).ty.Contents (Elt F) :=
  constant S_ .f32 0x7F800000#32

set_option maxRecDepth 8192 in
/-- `main_call2_c`'s composed term of the arguments (named: it is used 2 times). -/
def res_main_call2_c (V0 : Valuation τ sig (Elt F)) : (Proc.devRef .tc main_call2_c : DevRef τ sig).ty.Contents (Elt F) :=
  constantI S_ 32 0#32

set_option maxRecDepth 8192 in
/-- `main_v40`'s composed term of the arguments (named: it is used 3 times). -/
def res_main_v40 (V0 : Valuation τ sig (Elt F)) : (Proc.devRef .tc main_v40 : DevRef τ sig).ty.Contents (Elt F) :=
  (fun j => (Host.argReduce reducer_argmin_f32_i32 (res_main_v39 V0) (res_main_call2_v0 V0) (res_main_call2_cst V0) (res_main_call2_c V0) reducesTo_S1024x8192_S1024_d1 h_S_ j).2)

set_option maxRecDepth 8192 in
/-- `main_call3_v5`'s composed term of the arguments (named: it is used 3 times). -/
def res_main_call3_v5 (V0 : Valuation τ sig (Elt F)) : (Proc.devRef .tc main_call3_v5 : DevRef τ sig).ty.Contents (Elt F) :=
  broadcastInDim S1024x1 ![0] bcast_S1024_S1024x1_0 (select (cmpi .slt (res_main_v40 V0) (broadcastInDim S1024 ![] bcast_S_S1024 (constantI S_ 32 0#32))) (addi (res_main_v40 V0) (broadcastInDim S1024 ![] bcast_S_S1024 (constantI S_ 32 8192#32))) (res_main_v40 V0))

set_option maxRecDepth 8192 in
/-- `main_v41`'s composed term of the arguments (named: it is used 3 times). -/
def res_main_v41 (V0 : Valuation τ sig (Elt F)) : (Proc.devRef .tc main_v41 : DevRef τ sig).ty.Contents (Elt F) :=
  select (broadcastInDim S1024x64 ![0] bcast_S1024_S1024x64_0 (Host.reduce IntOp.andi (andi (cmpi .sge (res_main_call3_v5 V0) (broadcastInDim S1024x1 ![] bcast_S_S1024x1 (constantI S_ 32 0#32))) (cmpi .sle (res_main_call3_v5 V0) (broadcastInDim S1024x1 ![0, 1] bcast_S1x1_S1024x1_0_1 (broadcastInDim S1x1 ![1] bcast_S1_S1x1_1 (constantI S1 32 8191#32))))) (constantI S_ 1 1#1) reducesTo_S1024x1_S1024_d1 h_S_)) (Host.gather gather_S8192x64_S1024x1_S1024x64_1_0_n_n_0_1_164 (V0 (Proc.devRef .tc main_arg7)) (res_main_call3_v5 V0)) (broadcastInDim S1024x64 ![] bcast_S_S1024x64 (constant S_ .f32 0x7FC00000#32))

set_option maxRecDepth 8192 in
/-- `main_v42`'s composed term of the arguments (named: it is used 2 times). -/
def res_main_v42 (V0 : Valuation τ sig (Elt F)) : (Proc.devRef .tc main_v42 : DevRef τ sig).ty.Contents (Elt F) :=
  subf (res_main_v41 V0) (res_main_v25 V0)

set_option maxRecDepth 8192 in
/-- `main_v46`'s composed term of the arguments (named: it is used 2 times). -/
def res_main_v46 (V0 : Valuation τ sig (Elt F)) : (Proc.devRef .tc main_v46 : DevRef τ sig).ty.Contents (Elt F) :=
  subf (res_main_v41 V0) (res_main_v25 V0)

set_option maxRecDepth 8192 in
/-- `main_v59`'s composed term of the arguments (named: it is used 3 times). -/
def res_main_v59 (V0 : Valuation τ sig (Elt F)) : (Proc.devRef .tc main_v59 : DevRef τ sig).ty.Contents (Elt F) :=
  addf (transpose S1024x128x1 [1, 0, 2] (Host.dotGeneral dot_S64x128_S1024x64x1_S128x1024x1_0_1_1_02_n_n none (V0 (Proc.devRef .tc main_arg8)) (broadcastInDim S1024x64x1 ![0, 1] bcast_S1024x64_S1024x64x1_0_1 (addf (res_main_v25 V0) (subf (res_main_v41 V0) (res_main_v25 V0))))) transposes_S128x1024x1_S1024x128x1_1_0_2) (broadcastInDim S1024x128x1 ![0, 1, 2] bcast_S1x128x1_S1024x128x1_0_1_2 (broadcastInDim S1x128x1 ![1] bcast_S128_S1x128x1_1 (V0 (Proc.devRef .tc main_arg9))))

set_option maxRecDepth 8192 in
/-- `main_v69`'s composed term of the arguments (named: it is used 3 times). -/
def res_main_v69 (V0 : Valuation τ sig (Elt F)) : (Proc.devRef .tc main_v69 : DevRef τ sig).ty.Contents (Elt F) :=
  addf (transpose S1024x64x1 [1, 0, 2] (Host.dotGeneral dot_S128x64_S1024x128x1_S64x1024x1_0_1_1_02_n_n none (V0 (Proc.devRef .tc main_arg10)) (select (cmpf .oge (res_main_v59 V0) (broadcastInDim S1024x128x1 ![] bcast_S_S1024x128x1 (constant S_ .f32 0x00000000#32))) (res_main_v59 V0) (mulf (broadcastInDim S1024x128x1 ![] bcast_S_S1024x128x1 (constant S_ .f32 0x3A83126F#32)) (res_main_v59 V0)))) transposes_S64x1024x1_S1024x64x1_1_0_2) (broadcastInDim S1024x64x1 ![0, 1, 2] bcast_S1x64x1_S1024x64x1_0_1_2 (broadcastInDim S1x64x1 ![1] bcast_S64_S1x64x1_1 (V0 (Proc.devRef .tc main_arg11))))

/-- `res_main_v25` by its position among the values @main returns, 2 counting from 0: the name for hand proofs to cite, since
    a re-print renumbers `main_v25`. An abbreviation: it unfolds to the `res_main_v25` that `run` states. -/
abbrev res_out2 (V0 : Valuation τ sig (Elt F)) : (Proc.devRef .tc main_v25 : DevRef τ sig).ty.Contents (Elt F) := res_main_v25 V0

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_cst, main_v5, main_v6, main_cst_0, main_v7, main_v8, main_v9, main_v10, main_v11, main_v12, main_v13, main_v14, main_cst_1, main_v15, main_v16, main_cst_2, main_v17, main_v18, main_v19, main_v20, main_v21, main_v22, main_v23, main_v24, main_cst_3]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
theorem val0_1_main_arg7 (V0 : Valuation τ sig (Elt F)) : val0_1 V0 (no_index (Proc.devRef .tc main_arg7)) = V0 (Proc.devRef .tc main_arg7) :=
  (val0_1_keep V0 main_arg7 (by decide)).trans (val0_main_arg7 V0)
theorem val0_1_main_arg8 (V0 : Valuation τ sig (Elt F)) : val0_1 V0 (no_index (Proc.devRef .tc main_arg8)) = V0 (Proc.devRef .tc main_arg8) :=
  (val0_1_keep V0 main_arg8 (by decide)).trans (val0_main_arg8 V0)
theorem val0_1_main_arg9 (V0 : Valuation τ sig (Elt F)) : val0_1 V0 (no_index (Proc.devRef .tc main_arg9)) = V0 (Proc.devRef .tc main_arg9) :=
  (val0_1_keep V0 main_arg9 (by decide)).trans (val0_main_arg9 V0)
theorem val0_1_main_arg10 (V0 : Valuation τ sig (Elt F)) : val0_1 V0 (no_index (Proc.devRef .tc main_arg10)) = V0 (Proc.devRef .tc main_arg10) :=
  (val0_1_keep V0 main_arg10 (by decide)).trans (val0_main_arg10 V0)
theorem val0_1_main_arg11 (V0 : Valuation τ sig (Elt F)) : val0_1 V0 (no_index (Proc.devRef .tc main_arg11)) = V0 (Proc.devRef .tc main_arg11) :=
  (val0_1_keep V0 main_arg11 (by decide)).trans (val0_main_arg11 V0)
theorem val0_1_main_arg12 (V0 : Valuation τ sig (Elt F)) : val0_1 V0 (no_index (Proc.devRef .tc main_arg12)) = V0 (Proc.devRef .tc main_arg12) :=
  (val0_1_keep V0 main_arg12 (by decide)).trans (val0_main_arg12 V0)
theorem val0_1_main_arg13 (V0 : Valuation τ sig (Elt F)) : val0_1 V0 (no_index (Proc.devRef .tc main_arg13)) = V0 (Proc.devRef .tc main_arg13) :=
  (val0_1_keep V0 main_arg13 (by decide)).trans (val0_main_arg13 V0)
set_option maxRecDepth 8192 in
set_option maxHeartbeats 2000000 in
theorem val0_1_main_v24 (V0 : Valuation τ sig (Elt F)) : val0_1 V0 (no_index (Proc.devRef .tc main_v24)) = addf (transpose S1024x64x256 [1, 0, 2] (Host.dotGeneral dot_S64x128_S1024x128x256_S64x1024x256_1_1_0_02_n_n none (V0 (Proc.devRef .tc main_arg5)) (select (cmpf .oge (res_main_v14 V0) (broadcastInDim S1024x128x256 ![] bcast_S_S1024x128x256 (constant S_ .f32 0x00000000#32))) (res_main_v14 V0) (mulf (broadcastInDim S1024x128x256 ![] bcast_S_S1024x128x256 (constant S_ .f32 0x3A83126F#32)) (res_main_v14 V0)))) transposes_S64x1024x256_S1024x64x256_1_0_2) (broadcastInDim S1024x64x256 ![0, 1, 2] bcast_S1x64x1_S1024x64x256_0_1_2 (broadcastInDim S1x64x1 ![1] bcast_S64_S1x64x1_1 (V0 (Proc.devRef .tc main_arg6)))) := by
  unfold val0_1
  simp only [ops_part0_0, TRef.ternary, TRef.toBuf, TRef.ofBuf, cast_eq]
  after_results_simp
  simp only [val0_main_arg6, val0_main_arg4, val0_main_arg2, val0_main_arg0, val0_main_arg1, val0_main_arg3, val0_main_arg5] <;> rfl
set_option maxRecDepth 8192 in
set_option maxHeartbeats 2000000 in
theorem val0_1_main_cst_3 (V0 : Valuation τ sig (Elt F)) : val0_1 V0 (no_index (Proc.devRef .tc main_cst_3)) = constant S_ .f32 0xFF800000#32 := by
  unfold val0_1
  simp only [ops_part0_0, TRef.ternary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v25, main_v26, main_cst_4, main_v27, main_v28, main_v29, main_cst_5, main_v30, main_v31, main_v32, main_v33, main_v34, main_v35, main_v36, main_cst_6, main_v37, main_v38, main_v39, main_call2_v0, main_call2_cst, main_call2_c, main_call2_v1_0, main_v40, main_call3_c, main_call3_v0, main_call3_v1, main_call3_c_0, main_call3_v2, main_call3_v3, main_call3_v4]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
theorem val0_2_main_arg7 (V0 : Valuation τ sig (Elt F)) : val0_2 V0 (no_index (Proc.devRef .tc main_arg7)) = V0 (Proc.devRef .tc main_arg7) :=
  (val0_2_keep V0 main_arg7 (by decide)).trans (val0_1_main_arg7 V0)
theorem val0_2_main_arg8 (V0 : Valuation τ sig (Elt F)) : val0_2 V0 (no_index (Proc.devRef .tc main_arg8)) = V0 (Proc.devRef .tc main_arg8) :=
  (val0_2_keep V0 main_arg8 (by decide)).trans (val0_1_main_arg8 V0)
theorem val0_2_main_arg9 (V0 : Valuation τ sig (Elt F)) : val0_2 V0 (no_index (Proc.devRef .tc main_arg9)) = V0 (Proc.devRef .tc main_arg9) :=
  (val0_2_keep V0 main_arg9 (by decide)).trans (val0_1_main_arg9 V0)
theorem val0_2_main_arg10 (V0 : Valuation τ sig (Elt F)) : val0_2 V0 (no_index (Proc.devRef .tc main_arg10)) = V0 (Proc.devRef .tc main_arg10) :=
  (val0_2_keep V0 main_arg10 (by decide)).trans (val0_1_main_arg10 V0)
theorem val0_2_main_arg11 (V0 : Valuation τ sig (Elt F)) : val0_2 V0 (no_index (Proc.devRef .tc main_arg11)) = V0 (Proc.devRef .tc main_arg11) :=
  (val0_2_keep V0 main_arg11 (by decide)).trans (val0_1_main_arg11 V0)
theorem val0_2_main_arg12 (V0 : Valuation τ sig (Elt F)) : val0_2 V0 (no_index (Proc.devRef .tc main_arg12)) = V0 (Proc.devRef .tc main_arg12) :=
  (val0_2_keep V0 main_arg12 (by decide)).trans (val0_1_main_arg12 V0)
theorem val0_2_main_arg13 (V0 : Valuation τ sig (Elt F)) : val0_2 V0 (no_index (Proc.devRef .tc main_arg13)) = V0 (Proc.devRef .tc main_arg13) :=
  (val0_2_keep V0 main_arg13 (by decide)).trans (val0_1_main_arg13 V0)
set_option maxRecDepth 8192 in
set_option maxHeartbeats 2000000 in
theorem val0_2_main_v25 (V0 : Valuation τ sig (Elt F)) : val0_2 V0 (no_index (Proc.devRef .tc main_v25)) = res_main_v25 V0 := by
  unfold val0_2
  simp only [ops_part0_1, TRef.binary, TRef.nullary, TRef.quaternary, TRef.ternary, TRef.unary, TRef.toBuf, TRef.ofBuf, cast_eq]
  after_results_simp
  simp only [val0_1_main_cst_3, val0_1_main_v24] <;> rfl
set_option maxRecDepth 8192 in
set_option maxHeartbeats 2000000 in
theorem val0_2_main_call3_v4 (V0 : Valuation τ sig (Elt F)) : val0_2 V0 (no_index (Proc.devRef .tc main_call3_v4)) = select (cmpi .slt (res_main_v40 V0) (broadcastInDim S1024 ![] bcast_S_S1024 (constantI S_ 32 0#32))) (addi (res_main_v40 V0) (broadcastInDim S1024 ![] bcast_S_S1024 (constantI S_ 32 8192#32))) (res_main_v40 V0) := by
  unfold val0_2
  simp only [ops_part0_1, TRef.binary, TRef.nullary, TRef.quaternary, TRef.ternary, TRef.unary, TRef.toBuf, TRef.ofBuf, cast_eq]
  after_results_simp
  simp only [val0_1_main_arg7, val0_1_main_cst_3, val0_1_main_v24] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v41, main_v42, main_v43, main_cst_7, main_v44, main_cst_8, main_v45, main_v46, main_v47, main_cst_9, main_v48]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_arg5 (V0 : Valuation τ sig (Elt F)) : val1 V0 (no_index (Proc.devRef .tc main_arg5)) = V0 (Proc.devRef .tc main_arg5) :=
  (val1_keep V0 main_arg5 (by decide)).trans (val0_2_main_arg5 V0)
theorem val1_main_arg6 (V0 : Valuation τ sig (Elt F)) : val1 V0 (no_index (Proc.devRef .tc main_arg6)) = V0 (Proc.devRef .tc main_arg6) :=
  (val1_keep V0 main_arg6 (by decide)).trans (val0_2_main_arg6 V0)
theorem val1_main_arg7 (V0 : Valuation τ sig (Elt F)) : val1 V0 (no_index (Proc.devRef .tc main_arg7)) = V0 (Proc.devRef .tc main_arg7) :=
  (val1_keep V0 main_arg7 (by decide)).trans (val0_2_main_arg7 V0)
theorem val1_main_arg8 (V0 : Valuation τ sig (Elt F)) : val1 V0 (no_index (Proc.devRef .tc main_arg8)) = V0 (Proc.devRef .tc main_arg8) :=
  (val1_keep V0 main_arg8 (by decide)).trans (val0_2_main_arg8 V0)
theorem val1_main_arg9 (V0 : Valuation τ sig (Elt F)) : val1 V0 (no_index (Proc.devRef .tc main_arg9)) = V0 (Proc.devRef .tc main_arg9) :=
  (val1_keep V0 main_arg9 (by decide)).trans (val0_2_main_arg9 V0)
theorem val1_main_arg10 (V0 : Valuation τ sig (Elt F)) : val1 V0 (no_index (Proc.devRef .tc main_arg10)) = V0 (Proc.devRef .tc main_arg10) :=
  (val1_keep V0 main_arg10 (by decide)).trans (val0_2_main_arg10 V0)
theorem val1_main_arg11 (V0 : Valuation τ sig (Elt F)) : val1 V0 (no_index (Proc.devRef .tc main_arg11)) = V0 (Proc.devRef .tc main_arg11) :=
  (val1_keep V0 main_arg11 (by decide)).trans (val0_2_main_arg11 V0)
theorem val1_main_arg12 (V0 : Valuation τ sig (Elt F)) : val1 V0 (no_index (Proc.devRef .tc main_arg12)) = V0 (Proc.devRef .tc main_arg12) :=
  (val1_keep V0 main_arg12 (by decide)).trans (val0_2_main_arg12 V0)
theorem val1_main_arg13 (V0 : Valuation τ sig (Elt F)) : val1 V0 (no_index (Proc.devRef .tc main_arg13)) = V0 (Proc.devRef .tc main_arg13) :=
  (val1_keep V0 main_arg13 (by decide)).trans (val0_2_main_arg13 V0)
theorem val1_main_v25 (V0 : Valuation τ sig (Elt F)) : val1 V0 (no_index (Proc.devRef .tc main_v25)) = res_main_v25 V0 :=
  (val1_keep V0 main_v25 (by decide)).trans (val0_2_main_v25 V0)
set_option maxRecDepth 8192 in
set_option maxHeartbeats 2000000 in
theorem val1_main_v41 (V0 : Valuation τ sig (Elt F)) : val1 V0 (no_index (Proc.devRef .tc main_v41)) = res_main_v41 V0 := by
  unfold val1
  simp only [ops_part0_2, TRef.binary, TRef.nullary, TRef.ternary, TRef.unary, TRef.toBuf, TRef.ofBuf, cast_eq]
  after_results_simp
  simp only [val0_2_main_call3_v4, val0_2_main_arg7] <;> rfl
set_option maxRecDepth 8192 in
set_option maxHeartbeats 2000000 in
theorem val1_main_v45 (V0 : Valuation τ sig (Elt F)) : val1 V0 (no_index (Proc.devRef .tc main_v45)) = Host.divf (Host.reduceAdd (mulf (res_main_v42 V0) (res_main_v42 V0)) (constant S_ .f32 0x00000000#32) reducesTo_S1024x64_S_d0_1 h_S_) (constant S_ .f32 0x47800000#32) := by
  unfold val1
  simp only [ops_part0_2, TRef.binary, TRef.nullary, TRef.ternary, TRef.unary, TRef.toBuf, TRef.ofBuf, cast_eq]
  after_results_simp
  simp only [val0_2_main_v25, val0_2_main_call3_v4, val0_2_main_arg7] <;> rfl
set_option maxRecDepth 8192 in
set_option maxHeartbeats 2000000 in
theorem val1_main_v48 (V0 : Valuation τ sig (Elt F)) : val1 V0 (no_index (Proc.devRef .tc main_v48)) = Host.reduceAdd (mulf (res_main_v46 V0) (res_main_v46 V0)) (constant S_ .f32 0x00000000#32) reducesTo_S1024x64_S_d0_1 h_S_ := by
  unfold val1
  simp only [ops_part0_2, TRef.binary, TRef.nullary, TRef.ternary, TRef.unary, TRef.toBuf, TRef.ofBuf, cast_eq]
  after_results_simp
  simp only [val0_2_main_v25, val0_2_main_call3_v4, val0_2_main_arg7] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_cst_10, main_v49, main_cst_11, main_v50, main_v51, main_v52, main_v53, main_v54, main_v55, main_v56, main_v57, main_v58, main_v59, main_cst_12, main_v60, main_v61, main_cst_13, main_v62, main_v63, main_v64, main_v65, main_v66, main_v67, main_v68, main_v69, main_cst_14, main_v70, main_v71, main_cst_15, main_v72, main_v73, main_v74, main_v75, main_v76, main_v77, main_v78, main_v79, main_c]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_v25 (V0 : Valuation τ sig (Elt F)) : val2 V0 (no_index (Proc.devRef .tc main_v25)) = res_main_v25 V0 :=
  (val2_keep V0 main_v25 (by decide)).trans (val1_main_v25 V0)
set_option maxRecDepth 8192 in
set_option maxHeartbeats 2000000 in
theorem val2_main_v51 (V0 : Valuation τ sig (Elt F)) : val2 V0 (no_index (Proc.devRef .tc main_v51)) = addf (Host.divf (Host.reduceAdd (mulf (res_main_v42 V0) (res_main_v42 V0)) (constant S_ .f32 0x00000000#32) reducesTo_S1024x64_S_d0_1 h_S_) (constant S_ .f32 0x47800000#32)) (mulf (constant S_ .f32 0x3E800000#32) (Host.divf (Host.reduceAdd (mulf (res_main_v46 V0) (res_main_v46 V0)) (constant S_ .f32 0x00000000#32) reducesTo_S1024x64_S_d0_1 h_S_) (constant S_ .f32 0x47800000#32))) := by
  unfold val2
  simp only [ops_part1, TRef.ternary, TRef.toBuf, TRef.ofBuf, cast_eq]
  after_results_simp
  simp only [val1_main_v48, val1_main_v45] <;> rfl
set_option maxRecDepth 8192 in
set_option maxHeartbeats 2000000 in
theorem val2_main_v79 (V0 : Valuation τ sig (Elt F)) : val2 V0 (no_index (Proc.devRef .tc main_v79)) = addf (transpose S1024x128x1 [1, 0, 2] (Host.dotGeneral dot_S64x128_S1024x64x1_S128x1024x1_0_1_1_02_n_n none (V0 (Proc.devRef .tc main_arg12)) (select (cmpf .oge (res_main_v69 V0) (broadcastInDim S1024x64x1 ![] bcast_S_S1024x64x1 (constant S_ .f32 0x00000000#32))) (res_main_v69 V0) (mulf (broadcastInDim S1024x64x1 ![] bcast_S_S1024x64x1 (constant S_ .f32 0x3A83126F#32)) (res_main_v69 V0)))) transposes_S128x1024x1_S1024x128x1_1_0_2) (broadcastInDim S1024x128x1 ![0, 1, 2] bcast_S1x128x1_S1024x128x1_0_1_2 (broadcastInDim S1x128x1 ![1] bcast_S128_S1x128x1_1 (V0 (Proc.devRef .tc main_arg13)))) := by
  unfold val2
  simp only [ops_part1, TRef.ternary, TRef.toBuf, TRef.ofBuf, cast_eq]
  after_results_simp
  simp only [val1_main_arg13, val1_main_arg11, val1_main_arg9, val1_main_v41, val1_main_v25, val1_main_arg8, val1_main_arg10, val1_main_arg12] <;> rfl
set_option maxRecDepth 8192 in
set_option maxHeartbeats 2000000 in
theorem val2_main_c (V0 : Valuation τ sig (Elt F)) : val2 V0 (no_index (Proc.devRef .tc main_c)) = constantI S_ 32 64#32 := by
  unfold val2
  simp only [ops_part1, TRef.ternary, TRef.toBuf, TRef.ofBuf, cast_eq]
  after_results_simp
  all_goals rfl

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79) = addf (transpose S1024x128x1 [1, 0, 2] (Host.dotGeneral dot_S64x128_S1024x64x1_S128x1024x1_0_1_1_02_n_n none ((launchContents m c) (Proc.devRef .tc main_arg12)) (select (cmpf .oge (res_main_v69 (launchContents m c)) (broadcastInDim S1024x64x1 ![] bcast_S_S1024x64x1 (constant S_ .f32 0x00000000#32))) (res_main_v69 (launchContents m c)) (mulf (broadcastInDim S1024x64x1 ![] bcast_S_S1024x64x1 (constant S_ .f32 0x3A83126F#32)) (res_main_v69 (launchContents m c))))) transposes_S128x1024x1_S1024x128x1_1_0_2) (broadcastInDim S1024x128x1 ![0, 1, 2] bcast_S1x128x1_S1024x128x1_0_1_2 (broadcastInDim S1x128x1 ![1] bcast_S128_S1x128x1_1 ((launchContents m c) (Proc.devRef .tc main_arg13))))
      ∧ r.2.mem ((c.tc : Thread nD τ).loc main_v51) = addf (Host.divf (Host.reduceAdd (mulf (res_main_v42 (launchContents m c)) (res_main_v42 (launchContents m c))) (constant S_ .f32 0x00000000#32) reducesTo_S1024x64_S_d0_1 h_S_) (constant S_ .f32 0x47800000#32)) (mulf (constant S_ .f32 0x3E800000#32) (Host.divf (Host.reduceAdd (mulf (res_main_v46 (launchContents m c)) (res_main_v46 (launchContents m c))) (constant S_ .f32 0x00000000#32) reducesTo_S1024x64_S_d0_1 h_S_) (constant S_ .f32 0x47800000#32)))
      ∧ r.2.mem ((c.tc : Thread nD τ).loc main_v25) = res_main_v25 (launchContents m c)
      ∧ r.2.mem ((c.tc : Thread nD τ).loc main_c) = constantI S_ 32 64#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v79).trans ((congrFun (after_ops (launchContents m c)) (Proc.devRef .tc main_v79)).trans (val2_main_v79 (launchContents m c))),
      (h c main_v51).trans ((congrFun (after_ops (launchContents m c)) (Proc.devRef .tc main_v51)).trans (val2_main_v51 (launchContents m c))),
      (h c main_v25).trans ((congrFun (after_ops (launchContents m c)) (Proc.devRef .tc main_v25)).trans (val2_main_v25 (launchContents m c))),
      (h c main_c).trans ((congrFun (after_ops (launchContents m c)) (Proc.devRef .tc main_c)).trans (val2_main_c (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c))),
      (h c main_arg3).trans ((congrFun (after_ops (launchContents m c)) (Proc.devRef .tc main_arg3)).trans (val2_main_arg3 (launchContents m c))),
      (h c main_arg4).trans ((congrFun (after_ops (launchContents m c)) (Proc.devRef .tc main_arg4)).trans (val2_main_arg4 (launchContents m c))),
      (h c main_arg5).trans ((congrFun (after_ops (launchContents m c)) (Proc.devRef .tc main_arg5)).trans (val2_main_arg5 (launchContents m c))),
      (h c main_arg6).trans ((congrFun (after_ops (launchContents m c)) (Proc.devRef .tc main_arg6)).trans (val2_main_arg6 (launchContents m c))),
      (h c main_arg7).trans ((congrFun (after_ops (launchContents m c)) (Proc.devRef .tc main_arg7)).trans (val2_main_arg7 (launchContents m c))),
      (h c main_arg8).trans ((congrFun (after_ops (launchContents m c)) (Proc.devRef .tc main_arg8)).trans (val2_main_arg8 (launchContents m c))),
      (h c main_arg9).trans ((congrFun (after_ops (launchContents m c)) (Proc.devRef .tc main_arg9)).trans (val2_main_arg9 (launchContents m c))),
      (h c main_arg10).trans ((congrFun (after_ops (launchContents m c)) (Proc.devRef .tc main_arg10)).trans (val2_main_arg10 (launchContents m c))),
      (h c main_arg11).trans ((congrFun (after_ops (launchContents m c)) (Proc.devRef .tc main_arg11)).trans (val2_main_arg11 (launchContents m c))),
      (h c main_arg12).trans ((congrFun (after_ops (launchContents m c)) (Proc.devRef .tc main_arg12)).trans (val2_main_arg12 (launchContents m c))),
      (h c main_arg13).trans ((congrFun (after_ops (launchContents m c)) (Proc.devRef .tc main_arg13)).trans (val2_main_arg13 (launchContents m c)))⟩)
    (run_seq scopedRefs_eq scopedSems_eq defs main (fun _ => ops) main_eq (fun _ => ops_sub) m ρ fun _ => ops_fresh)

end Cert.ReferenceIdeal.Value

end
-- ==== Proof.MathR.lean ====
/- The reference's terms read at an index, as the plain formulas. -/
module

public import proofs.«01_k».proof.Proof.RefRun
public import proofs.«01_k».proof.Proof.Nets
public import Idealize.ShloMosaic.Lib.Routing.OpsPair
public import Idealize.ShloMosaic.Lib.Routing.Ops

@[expose] public section

set_option maxRecDepth 16384

noncomputable section

namespace Cert.Proof.M

open Idealize.ShloMosaic Cert.ReferenceIdeal Cert.ReferenceIdeal.Gen Cert.ReferenceIdeal.Value

/-! ## The operations on arrays of their own -/

/-- The reference's rectifier of an array. -/
theorem lkR (a : EReal) : (if 0 ≤ a then a else Ideal.ofBits FTy.f32 981668463#32 * a) = lk a := lk_ite a

theorem e1_at (w : FVec Ideal S64x128 .f32) (x : FVec Ideal S1024x128x256 .f32) (b : FVec Ideal S64 .f32)
    (i : Fin 1024) (o : Fin 64) (l : Fin 256) :
    addf (transpose S1024x64x256 [1, 0, 2] (Host.dotGeneral dot_S64x128_S1024x128x256_S64x1024x256_1_1_0_02_n_n none w x) transposes_S64x1024x256_S1024x64x256_1_0_2) (broadcastInDim S1024x64x256 ![0, 1, 2] bcast_S1x64x1_S1024x64x256_0_1_2 (broadcastInDim S1x64x1 ![1] bcast_S64_S1x64x1_1 b)) (ix3 i o l)
      = (∑ c, x (ix3 i c l) * w (ix2 o c)) + b (ix1 o) := by
  pointwise
  simp only [mul_comm]

theorem e2_at (w : FVec Ideal S128x64 .f32) (h : FVec Ideal S1024x64x256 .f32) (b : FVec Ideal S128 .f32)
    (i : Fin 1024) (o : Fin 128) (l : Fin 256) :
    addf (transpose S1024x128x256 [1, 0, 2] (Host.dotGeneral dot_S128x64_S1024x64x256_S128x1024x256_1_1_0_02_n_n none w (select (cmpf .oge h (broadcastInDim S1024x64x256 ![] bcast_S_S1024x64x256 (constant S_ .f32 0x00000000#32))) h (mulf (broadcastInDim S1024x64x256 ![] bcast_S_S1024x64x256 (constant S_ .f32 0x3A83126F#32)) h))) transposes_S128x1024x256_S1024x128x256_1_0_2) (broadcastInDim S1024x128x256 ![0, 1, 2] bcast_S1x128x1_S1024x128x256_0_1_2 (broadcastInDim S1x128x1 ![1] bcast_S128_S1x128x1_1 b)) (ix3 i o l)
      = (∑ p, lk (h (ix3 i p l)) * w (ix2 o p)) + b (ix1 o) := by
  pointwise
  simp only [lkR]
  simp only [mul_comm]

theorem e3_at (w : FVec Ideal S64x128 .f32) (h : FVec Ideal S1024x128x256 .f32) (b : FVec Ideal S64 .f32)
    (i : Fin 1024) (o : Fin 64) :
    Host.reduce FloatOps.maximumf (addf (transpose S1024x64x256 [1, 0, 2] (Host.dotGeneral dot_S64x128_S1024x128x256_S64x1024x256_1_1_0_02_n_n none w (select (cmpf .oge h (broadcastInDim S1024x128x256 ![] bcast_S_S1024x128x256 (constant S_ .f32 0x00000000#32))) h (mulf (broadcastInDim S1024x128x256 ![] bcast_S_S1024x128x256 (constant S_ .f32 0x3A83126F#32)) h))) transposes_S64x1024x256_S1024x64x256_1_0_2) (broadcastInDim S1024x64x256 ![0, 1, 2] bcast_S1x64x1_S1024x64x256_0_1_2 (broadcastInDim S1x64x1 ![1] bcast_S64_S1x64x1_1 b))) (constant (F := Ideal) S_ .f32 0xFF800000#32) reducesTo_S1024x64x256_S1024x64_d2 h_S_ (ix2 i o)
      = Finset.fold max (Ideal.ofBits .f32 0xFF800000#32) (fun l : Fin 256 => (∑ q, lk (h (ix3 i q l)) * w (ix2 o q)) + b (ix1 o)) Finset.univ := by
  pointwise
  simp only [lkR]
  simp only [mul_comm]

theorem d_at (z : FVec Ideal S1024x64 .f32) (cb : FVec Ideal S8192x64 .f32) (i : Fin 1024) (k : Fin 8192) :
    subf (addf (broadcastInDim S1024x8192 ![0, 1] bcast_S1024x1_S1024x8192_0_1 (broadcastInDim S1024x1 ![0] bcast_S1024_S1024x1_0 (Host.reduceAdd (mulf z z) (constant S_ .f32 0x00000000#32) reducesTo_S1024x64_S1024_d1 h_S_))) (broadcastInDim S1024x8192 ![0, 1] bcast_S1x8192_S1024x8192_0_1 (broadcastInDim S1x8192 ![1] bcast_S8192_S1x8192_1 (Host.reduceAdd (mulf cb cb) (constant S_ .f32 0x00000000#32) reducesTo_S8192x64_S8192_d1 h_S_)))) (mulf (broadcastInDim S1024x8192 ![] bcast_S_S1024x8192 (constant S_ .f32 0x40000000#32)) (Host.dotGeneral dot_S1024x64_S64x8192_S1024x8192_1_0_0_1_n_n none z (transpose S64x8192 [1, 0] cb transposes_S8192x64_S64x8192_1_0))) (ix2 i k)
      = dst (fun x => z (ix2 i x)) (fun k x => cb (ix2 k x)) k := by
  unfold dst
  pointwise

theorem c1_at (w : FVec Ideal S64x128 .f32) (z q : FVec Ideal S1024x64 .f32) (b : FVec Ideal S128 .f32) (i : Fin 1024) (o : Fin 128) :
    addf (transpose S1024x128x1 [1, 0, 2] (Host.dotGeneral dot_S64x128_S1024x64x1_S128x1024x1_0_1_1_02_n_n none w (broadcastInDim S1024x64x1 ![0, 1] bcast_S1024x64_S1024x64x1_0_1 (addf z (subf q z)))) transposes_S128x1024x1_S1024x128x1_1_0_2) (broadcastInDim S1024x128x1 ![0, 1, 2] bcast_S1x128x1_S1024x128x1_0_1_2 (broadcastInDim S1x128x1 ![1] bcast_S128_S1x128x1_1 b)) (ix3 i o 0)
      = (∑ c, (z (ix2 i c) + (q (ix2 i c) - z (ix2 i c))) * w (ix2 c o)) + b (ix1 o) := by
  pointwise
  simp only [mul_comm]

theorem c2_at (w : FVec Ideal S128x64 .f32) (h : FVec Ideal S1024x128x1 .f32) (b : FVec Ideal S64 .f32) (i : Fin 1024) (o : Fin 64) :
    addf (transpose S1024x64x1 [1, 0, 2] (Host.dotGeneral dot_S128x64_S1024x128x1_S64x1024x1_0_1_1_02_n_n none w (select (cmpf .oge h (broadcastInDim S1024x128x1 ![] bcast_S_S1024x128x1 (constant S_ .f32 0x00000000#32))) h (mulf (broadcastInDim S1024x128x1 ![] bcast_S_S1024x128x1 (constant S_ .f32 0x3A83126F#32)) h))) transposes_S64x1024x1_S1024x64x1_1_0_2) (broadcastInDim S1024x64x1 ![0, 1, 2] bcast_S1x64x1_S1024x64x1_0_1_2 (broadcastInDim S1x64x1 ![1] bcast_S64_S1x64x1_1 b)) (ix3 i o 0)
      = (∑ p, lk (h (ix3 i p 0)) * w (ix2 p o)) + b (ix1 o) := by
  pointwise
  simp only [lkR]
  simp only [mul_comm]

theorem c3_at (w : FVec Ideal S64x128 .f32) (h : FVec Ideal S1024x64x1 .f32) (b : FVec Ideal S128 .f32) (i : Fin 1024) (o : Fin 128) :
    addf (transpose S1024x128x1 [1, 0, 2] (Host.dotGeneral dot_S64x128_S1024x64x1_S128x1024x1_0_1_1_02_n_n none w (select (cmpf .oge h (broadcastInDim S1024x64x1 ![] bcast_S_S1024x64x1 (constant S_ .f32 0x00000000#32))) h (mulf (broadcastInDim S1024x64x1 ![] bcast_S_S1024x64x1 (constant S_ .f32 0x3A83126F#32)) h))) transposes_S128x1024x1_S1024x128x1_1_0_2) (broadcastInDim S1024x128x1 ![0, 1, 2] bcast_S1x128x1_S1024x128x1_0_1_2 (broadcastInDim S1x128x1 ![1] bcast_S128_S1x128x1_1 b)) (ix3 i o 0)
      = (∑ p, lk (h (ix3 i p 0)) * w (ix2 p o)) + b (ix1 o) := by
  pointwise
  simp only [lkR]
  simp only [mul_comm]

/-- The reference's loss, whose mean divides by the number of entries where the kernel multiplies by its reciprocal. -/
theorem l_at (z q : FVec Ideal S1024x64 .f32) (j : S_.Idx) :
    addf (Host.divf (Host.reduceAdd (mulf (subf q z) (subf q z)) (constant S_ .f32 0x00000000#32) reducesTo_S1024x64_S_d0_1 h_S_) (constant S_ .f32 0x47800000#32))
      (mulf (constant S_ .f32 0x3E800000#32) (Host.divf (Host.reduceAdd (mulf (subf q z) (subf q z)) (constant S_ .f32 0x00000000#32) reducesTo_S1024x64_S_d0_1 h_S_) (constant S_ .f32 0x47800000#32))) j
      = loss (fun i c => z (ix2 i c)) (fun i c => q (ix2 i c)) := by
  unfold loss
  pointwise
  rw [num_word, inv_word]
  simp only [Ideal.div_coe (show (65536 : ℝ) ≠ 0 by norm_num)]

/-- The reference's search at row `i`. -/
theorem arg_at (d : FVec Ideal S1024x8192 .f32) (i : Fin 1024) (f : Fin 8192 → EReal) (hf : ∀ k, d (ix2 i k) = f k)
    {k : Fin 8192} (hk : FirstMin f k) :
    (Host.argReduce reducer_argmin_f32_i32 d (iotaInDim S1024x8192 32 1) (constant S_ .f32 0x7F800000#32 : FVec Ideal S_ .f32)
      (constantI S_ 32 0#32) reducesTo_S1024x8192_S1024_d1 h_S_ (ix1 i)).2 = BitVec.ofNat 32 k.val := by
  rw [Ideal.argReduce_eq_reduce2, Host.reduce2_eq_foldl_fiber]
  have hs : (reducer_argmin_f32_i32 : Ideal .f32 × BitVec 32 → Ideal .f32 × BitVec 32 → Ideal .f32 × BitVec 32) = step := by
    funext a b
    unfold reducer_argmin_f32_i32 step
    simp only [Ideal.cmpf_def, Ideal.cmp, WordCmp.cmpi_slt_eq, ne_eq, not_true_eq_false, decide_false, BitVec.ofBool_false]
    by_cases h1 : a.1 < b.1
    · have h2 : ¬ a.1 = b.1 := ne_of_lt h1
      simp [h1, h2, IntOp.ori, IntOp.andi, Scalar.select]
    · by_cases h2 : a.1 = b.1 <;> by_cases h3 : a.2.toInt < b.2.toInt <;>
        simp [h1, h2, h3, IntOp.ori, IntOp.andi, Scalar.select]
  rw [hs]
  have hL := search (n := 8192) (by norm_num) (by norm_num) f
    (Host.argReduceFiber d (iotaInDim S1024x8192 32 1) reducesTo_S1024x8192_S1024_d1 (ix1 i)) (fun x => by
      unfold Host.argReduceFiber
      simp only [List.mem_map, List.mem_filter, List.mem_finRange, true_and, decide_eq_true_eq]
      constructor
      · rintro ⟨n, hn, rfl⟩
        obtain ⟨q, hq⟩ := (Shape.ReducesTo.fiber_r2_a1 reducesTo_S1024x8192_S1024_d1 (ix1 i) _).1 hn
        refine ⟨q, ?_⟩
        rw [← hq]
        exact Prod.ext (hf q) rfl
      · rintro ⟨q, rfl⟩
        refine ⟨S1024x8192.rowMajor (ix2 i q), ?_, ?_⟩
        · rw [Equiv.symm_apply_apply]
          exact (Shape.ReducesTo.fiber_r2_a1 reducesTo_S1024x8192_S1024_d1 (ix1 i) _).2 ⟨q, rfl⟩
        · rw [Equiv.symm_apply_apply]
          exact Prod.ext (hf q) rfl)
  obtain ⟨k', hk', e⟩ := hL
  rw [hk.unique hk', ← e]
  have : (constant S_ .f32 0x7F800000#32 : FVec Ideal S_ .f32) (Shape.Idx.first h_S_) = ⊤ := inf_word
  rw [this]
  rfl

theorem arg_at' (d : FVec Ideal S1024x8192 .f32) (y : IVec S1024x8192 32) (t : FVec Ideal S_ .f32) (n : IVec S_ 32)
    (hy : y = iotaInDim S1024x8192 32 1) (ht : t = (constant S_ .f32 0x7F800000#32 : FVec Ideal S_ .f32)) (hn : n = constantI S_ 32 0#32)
    (i : Fin 1024) (f : Fin 8192 → EReal) (hf : ∀ k, d (ix2 i k) = f k) {k : Fin 8192} (hk : FirstMin f k) :
    (Host.argReduce reducer_argmin_f32_i32 d y t n reducesTo_S1024x8192_S1024_d1 h_S_ (ix1 i)).2 = BitVec.ofNat 32 k.val := by
  subst hy ht hn
  exact arg_at d i f hf hk

/-- The reference's table look-up at a row whose index is in range. -/
theorem take_at (cb : FVec Ideal S8192x64 .f32) (ix : IVec S1024x1 32) (i : Fin 1024) (o : Fin 64) (k : Fin 8192)
    (h : ix (ix2 i 0) = BitVec.ofNat 32 k.val) :
    select (broadcastInDim S1024x64 ![0] bcast_S1024_S1024x64_0 (Host.reduce IntOp.andi (andi (cmpi .sge ix (broadcastInDim S1024x1 ![] bcast_S_S1024x1 (constantI S_ 32 0#32))) (cmpi .sle ix (broadcastInDim S1024x1 ![0, 1] bcast_S1x1_S1024x1_0_1 (broadcastInDim S1x1 ![1] bcast_S1_S1x1_1 (constantI S1 32 8191#32))))) (constantI S_ 1 1#1) reducesTo_S1024x1_S1024_d1 h_S_)) (Host.gather gather_S8192x64_S1024x1_S1024x64_1_0_n_n_0_1_164 cb ix) (broadcastInDim S1024x64 ![] bcast_S_S1024x64 (constant S_ .f32 0x7FC00000#32)) (ix2 i o)
      = cb (ix2 k o) := by
  have g := Routing.gather_row gather_S8192x64_S1024x1_S1024x64_1_0_n_n_0_1_164 rfl rfl rfl rfl rfl cb ix i o k
    (by rw [← ix2_eq_valueIdx]; exact h) (by norm_num)
  rw [← ix2_eq_valueIdx, ← ix2_eq_valueIdx] at g
  pointwise
  rw [show (Finset.univ : Finset (Fin 1)) = {0} from rfl, Finset.fold_singleton, h, g]
  have := k.isLt
  rw [(WordCmp.cmpi_sge_ofNat_eq_one_iff (w := 32) (a := k.val) (b := 0) (by omega) (by omega)).2 (by omega),
    (WordCmp.cmpi_sle_ofNat_eq_one_iff (w := 32) (a := k.val) (b := 8191) (by omega) (by omega)).2 (by omega)]
  rfl

theorem wrap_at (v : IVec S1024 32) (i : Fin 1024) (k : Fin 8192) (h : v (ix1 i) = BitVec.ofNat 32 k.val) :
    broadcastInDim S1024x1 ![0] bcast_S1024_S1024x1_0 (select (cmpi .slt v (broadcastInDim S1024 ![] bcast_S_S1024 (constantI S_ 32 0#32))) (addi v (broadcastInDim S1024 ![] bcast_S_S1024 (constantI S_ 32 8192#32))) v) (ix2 i 0)
      = BitVec.ofNat 32 k.val := by
  pointwise
  rw [h]
  refine Routing.wrap_of_lt _ _ ?_
  have := k.isLt
  rw [BitVec.toNat_ofNat, Nat.mod_eq_of_lt (by omega)]
  omega

/-! ## The run's named terms -/

variable (V : Valuation τ sig (Elt Ideal))

def A0 : FVec Ideal S1024x128x256 .f32 := V (Proc.devRef .tc main_arg0)
def A1 : FVec Ideal S64x128 .f32 := V (Proc.devRef .tc main_arg1)
def A2 : FVec Ideal S64 .f32 := V (Proc.devRef .tc main_arg2)
def A3 : FVec Ideal S128x64 .f32 := V (Proc.devRef .tc main_arg3)
def A4 : FVec Ideal S128 .f32 := V (Proc.devRef .tc main_arg4)
def A5 : FVec Ideal S64x128 .f32 := V (Proc.devRef .tc main_arg5)
def A6 : FVec Ideal S64 .f32 := V (Proc.devRef .tc main_arg6)
def A7 : FVec Ideal S8192x64 .f32 := V (Proc.devRef .tc main_arg7)
def A8 : FVec Ideal S64x128 .f32 := V (Proc.devRef .tc main_arg8)
def A9 : FVec Ideal S128 .f32 := V (Proc.devRef .tc main_arg9)
def A10 : FVec Ideal S128x64 .f32 := V (Proc.devRef .tc main_arg10)
def A11 : FVec Ideal S64 .f32 := V (Proc.devRef .tc main_arg11)
def A12 : FVec Ideal S64x128 .f32 := V (Proc.devRef .tc main_arg12)
def A13 : FVec Ideal S128 .f32 := V (Proc.devRef .tc main_arg13)
def rH1 : FVec Ideal S1024x64x256 .f32 := res_main_v4 V
def rH2 : FVec Ideal S1024x128x256 .f32 := res_main_v14 V
def rZ : FVec Ideal S1024x64 .f32 := res_main_v25 V
def rD : FVec Ideal S1024x8192 .f32 := res_main_v39 V
def rI : IVec S1024 32 := res_main_v40 V
def rJ : IVec S1024x1 32 := res_main_call3_v5 V
def rQ : FVec Ideal S1024x64 .f32 := res_main_v41 V
def rG1 : FVec Ideal S1024x128x1 .f32 := res_main_v59 V
def rG2 : FVec Ideal S1024x64x1 .f32 := res_main_v69 V

theorem rH1_at (i : Fin 1024) (o : Fin 64) (l : Fin 256) :
    rH1 V (ix3 i o l) = (∑ c, A0 V (ix3 i c l) * A1 V (ix2 o c)) + A2 V (ix1 o) :=
  e1_at (A1 V) (A0 V) (A2 V) i o l

theorem rH2_at (i : Fin 1024) (o : Fin 128) (l : Fin 256) :
    rH2 V (ix3 i o l) = (∑ p, lk (rH1 V (ix3 i p l)) * A3 V (ix2 o p)) + A4 V (ix1 o) :=
  e2_at (A3 V) (rH1 V) (A4 V) i o l

theorem rZ_at (i : Fin 1024) (o : Fin 64) :
    rZ V (ix2 i o) = enc (fun c l => A0 V (ix3 i c l)) (fun p c => A1 V (ix2 p c)) (fun p => A2 V (ix1 p)) (fun q p => A3 V (ix2 q p))
      (fun q => A4 V (ix1 q)) (fun q p => A5 V (ix2 q p)) (fun q => A6 V (ix1 q)) o := by
  refine (e3_at (A5 V) (rH2 V) (A6 V) i o).trans ?_
  unfold enc
  simp only [rH2_at, rH1_at]

theorem rD_at (i : Fin 1024) (k : Fin 8192) :
    rD V (ix2 i k) = dst (fun x => rZ V (ix2 i x)) (fun k x => A7 V (ix2 k x)) k :=
  d_at (rZ V) (A7 V) i k

theorem rI_eq : rI V = fun j => (Host.argReduce reducer_argmin_f32_i32 (rD V) (res_main_call2_v0 V) (res_main_call2_cst V) (res_main_call2_c V) reducesTo_S1024x8192_S1024_d1 h_S_ j).2 := rfl

theorem rI_iota : (res_main_call2_v0 V : IVec S1024x8192 32) = iotaInDim S1024x8192 32 1 := rfl
theorem rI_top : (res_main_call2_cst V : FVec Ideal S_ .f32) = (constant S_ .f32 0x7F800000#32 : FVec Ideal S_ .f32) := rfl
theorem rI_zero : (res_main_call2_c V : IVec S_ 32) = constantI S_ 32 0#32 := rfl

theorem rI_at (i : Fin 1024) {k : Fin 8192} (hk : FirstMin (dst (fun x => rZ V (ix2 i x)) (fun k x => A7 V (ix2 k x))) k) :
    rI V (ix1 i) = BitVec.ofNat 32 k.val :=
  (congrFun (rI_eq V) (ix1 i)).trans (arg_at' (rD V) _ _ _ (rI_iota V) (rI_top V) (rI_zero V) i _ (rD_at V i) hk)

theorem rQ_at (i : Fin 1024) (o : Fin 64) {k : Fin 8192}
    (hk : FirstMin (dst (fun x => rZ V (ix2 i x)) (fun k x => A7 V (ix2 k x))) k) :
    rQ V (ix2 i o) = A7 V (ix2 k o) :=
  take_at (A7 V) (rJ V) i o k (wrap_at (rI V) i k (rI_at V i hk))

theorem rG1_at (i : Fin 1024) (o : Fin 128) :
    rG1 V (ix3 i o 0) = (∑ c, (rZ V (ix2 i c) + (rQ V (ix2 i c) - rZ V (ix2 i c))) * A8 V (ix2 c o)) + A9 V (ix1 o) :=
  c1_at (A8 V) (rZ V) (rQ V) (A9 V) i o

theorem rG2_at (i : Fin 1024) (o : Fin 64) :
    rG2 V (ix3 i o 0) = (∑ p, lk (rG1 V (ix3 i p 0)) * A10 V (ix2 p o)) + A11 V (ix1 o) :=
  c2_at (A10 V) (rG1 V) (A11 V) i o

/-- The reference's first result. -/
def rO : FVec Ideal S1024x128x1 .f32 :=
  addf (transpose S1024x128x1 [1, 0, 2] (Host.dotGeneral dot_S64x128_S1024x64x1_S128x1024x1_0_1_1_02_n_n none (A12 V) (select (cmpf .oge (rG2 V) (broadcastInDim S1024x64x1 ![] bcast_S_S1024x64x1 (constant S_ .f32 0x00000000#32))) (rG2 V) (mulf (broadcastInDim S1024x64x1 ![] bcast_S_S1024x64x1 (constant S_ .f32 0x3A83126F#32)) (rG2 V)))) transposes_S128x1024x1_S1024x128x1_1_0_2) (broadcastInDim S1024x128x1 ![0, 1, 2] bcast_S1x128x1_S1024x128x1_0_1_2 (broadcastInDim S1x128x1 ![1] bcast_S128_S1x128x1_1 (A13 V)))

theorem rO_at (i : Fin 1024) (o : Fin 128) :
    rO V (ix3 i o 0) = dec (fun c => rZ V (ix2 i c) + (rQ V (ix2 i c) - rZ V (ix2 i c))) (fun c p => A8 V (ix2 c p)) (fun p => A9 V (ix1 p))
      (fun c p => A10 V (ix2 c p)) (fun p => A11 V (ix1 p)) (fun c p => A12 V (ix2 c p)) (fun p => A13 V (ix1 p)) o := by
  refine (c3_at (A12 V) (rG2 V) (A13 V) i o).trans ?_
  unfold dec
  simp only [rG2_at, rG1_at]

/-- The reference's second result. -/
def rL : FVec Ideal S_ .f32 :=
  addf (Host.divf (Host.reduceAdd (mulf (subf (rQ V) (rZ V)) (subf (rQ V) (rZ V))) (constant S_ .f32 0x00000000#32) reducesTo_S1024x64_S_d0_1 h_S_) (constant S_ .f32 0x47800000#32))
      (mulf (constant S_ .f32 0x3E800000#32) (Host.divf (Host.reduceAdd (mulf (subf (rQ V) (rZ V)) (subf (rQ V) (rZ V))) (constant S_ .f32 0x00000000#32) reducesTo_S1024x64_S_d0_1 h_S_) (constant S_ .f32 0x47800000#32)))

theorem rL_at (j : S_.Idx) : rL V j = loss (fun i c => rZ V (ix2 i c)) (fun i c => rQ V (ix2 i c)) :=
  l_at (rZ V) (rQ V) j

end Cert.Proof.M
-- ==== Proof.Agree.lean ====
/- The two programs' results are equal when their arguments are: both are the plain formulas of the arguments. -/
module

public import proofs.«01_k».proof.Proof.KValue
public import proofs.«01_k».proof.Proof.MathR

@[expose] public section

set_option maxRecDepth 16384

noncomputable section

namespace Cert.Proof.M

open Idealize.ShloMosaic Idealize.ShloMosaic.TcCoe Idealize.SL.Sem

variable (m : (ℓ : Loc Cert.KernelIdeal.nD Cert.KernelIdeal.τ Cert.KernelIdeal.sig) → Buf (Elt Ideal) ℓ) (c : Dev Cert.KernelIdeal.nD)
variable (V : Valuation Cert.ReferenceIdeal.τ Cert.ReferenceIdeal.sig (Elt Ideal))

/-- The reference's arguments are the kernel's. -/
structure Agree : Prop where
  a0 : A0 V = K.X0 m c
  a1 : A1 V = K.X1 m c
  a2 : A2 V = K.X2 m c
  a3 : A3 V = K.X3 m c
  a4 : A4 V = K.X4 m c
  a5 : A5 V = K.X5 m c
  a6 : A6 V = K.X6 m c
  a7 : A7 V = K.X7 m c
  a8 : A8 V = K.X8 m c
  a9 : A9 V = K.X9 m c
  a10 : A10 V = K.X10 m c
  a11 : A11 V = K.X11 m c
  a12 : A12 V = K.X12 m c
  a13 : A13 V = K.X13 m c

variable {m c V} (h : Agree m c V)
include h

theorem z_eq (r : Fin 1024) (o : Fin 64) : rZ V (ix2 r o) = K.zK m c r o := by
  rw [rZ_at, h.a0, h.a1, h.a2, h.a3, h.a4, h.a5, h.a6]; rfl

theorem q_eq (r : Fin 1024) (x : Fin 64) : rQ V (ix2 r x) = K.X7 m c (ix2 (K.kk m c r) x) := by
  rw [← h.a7]
  refine rQ_at V r x ?_
  simp only [z_eq h]
  rw [h.a7]
  exact K.kk_min m c r

theorem o_eq (r : Fin 1024) (o : Fin 128) : rO V (ix3 r o 0) = K.oK m c r o := by
  rw [rO_at, h.a8, h.a9, h.a10, h.a11, h.a12, h.a13]
  simp only [z_eq h, q_eq h]
  rfl

theorem l_eq (j : Cert.ReferenceIdeal.S_.Idx) : rL V j = K.lK m c := by
  rw [rL_at]
  simp only [z_eq h, q_eq h]
  rfl

theorem out0 : rO V = K.W9 m c (Proc.devRef .tc Cert.KernelIdeal.main_v19) := by
  funext j
  have e : j = ix3 (j 0) (j 1) 0 := by
    funext a
    match a with
    | 0 => rfl
    | 1 => rfl
    | 2 => exact Subsingleton.elim (α := Fin 1) _ _
  rw [e]
  exact (o_eq h (j 0) (j 1)).trans (K.W9_o m c (j 0) (j 1)).symm

theorem out1 : rL V = K.W9 m c (Proc.devRef .tc Cert.KernelIdeal.main_v20) :=
  (funext fun j => l_eq h j : rL V = fun _ => K.lK m c).trans (K.W9_l m c).symm

theorem out2 : rZ V = K.W9 m c (Proc.devRef .tc Cert.KernelIdeal.main_v3) := by
  refine Eq.trans ?_ (K.W9_z m c).symm
  funext j
  exact (congrArg (rZ V) (eq_ix2 j)).trans (z_eq h (j 0) (j 1))

end Cert.Proof.M

end
-- ==== Proof.BRegions.lean ====
/- The decoder's TensorCore region of `rebuild`, at a parameter `V` — the TensorCore's buffer contents when the region is
   entered —, at a parameter `O` — the signals the core owes the SparseCores meanwhile — and at a bound `B` on the waits it
   has recorded: each window's block at a point (`iblk1`), what the body leaves in each output's buffer (`out1_W`), the
   body's triple (`sound_kernel1`), the region's proof data (`dat1`) and its obligation (`body_obligation1`). -/
module

public import proofs.«01_k».proof.Proof.Gen.RebuildIdeal.Launch
public import proofs.«01_k».proof.Proof.Gen.RebuildIdeal.Skeleton
public import proofs.«01_k».proof.Proof.Gen.RebuildIdeal.Points
public import Idealize.ShloMosaic.Lib.Pipeline.FrameBody
public import Idealize.ShloMosaic.Lib.Pipeline.RegionsLoop
public import Idealize.ShloMosaic.Lib.Pipeline.FrameSuffix
public import Idealize.ShloMosaic.Lib.SparseCore.Quiescent
public import Idealize.ShloMosaic.Lib.SparseCore.Ops
public import Idealize.ShloMosaic.Lib.Ring
public import Idealize.ShloMosaic.Lib.Tactic
public import Idealize.ShloMosaic.Lib.WordCmp

@[expose] public section

-- a rectangle of these extents is looked through once per coordinate of its long axes
set_option maxRecDepth 16384

noncomputable section

namespace Cert.Proof.B

open Cert.RebuildIdeal Cert.RebuildIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources: the handshakes with the SparseCores, the pipelines' rounds, the transfers' counters. -/
abbrev UH : Type := URounds (GSem nD τ sig) ℕ
abbrev UU : Type := UH × (UR sig nD τ × Counters)

local notation "𝕄" => MT nD τ sig (HIx 1) (Elt F) ℕ UU ℕ

/-- A region's invariant: what it scopes beyond its windows' buffers, and the generator register at some state. -/
def ΦR {gr W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

section Regions
-- the TensorCore's buffer contents when a region is entered: the parameter every region's half is stated at, which
-- the run instantiates per region
variable (V : (c : Dev nD) → (b : Ref sig .tc) → Buf (Elt F) ((c : Thread nD τ).loc b))
-- what the core owes the SparseCores while the region runs, and a bound on the waits it has recorded
variable (O : (c : Dev nD) → CellTallies nD τ sig (HIx 1)) (B : (c : Dev nD) → Set (SemLoc sig × HIx 1))

/-! # The region of @main: `cc1__decoder_kernel`, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) (HIx 1) ℕ UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) (HIx 1) ℕ UU ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) (HIx 1) ℕ UU ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) (HIx 1) ℕ UU ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) (HIx 1) ℕ UU ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) (HIx 1) ℕ UU ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1024x64 := Rect.unit (s := S1024x64) ![0, 0] S1024x64.size inb_S1024x64_S1024x64_0_0
abbrev r1_1 : Rect S1024x128 := Rect.unit (s := S1024x128) ![0, 0] S1024x64.size inb_S1024x128_S1024x64_0_0
abbrev r1_2 : Rect S1x1 := Rect.unit (s := S1x1) ![0, 0] S1x1.size inb_S1x1_S1x1_0_0
abbrev r1_3 : Rect S64x128 := Rect.unit (s := S64x128) ![0, 0] S64x128.size inb_S64x128_S64x128_0_0
abbrev r1_4 : Rect S1x128 := Rect.unit (s := S1x128) ![0, 0] S1x128.size inb_S1x128_S1x128_0_0
abbrev r1_5 : Rect S128x64 := Rect.unit (s := S128x64) ![0, 0] S128x64.size inb_S128x64_S128x64_0_0
abbrev r1_6 : Rect S1x64 := Rect.unit (s := S1x64) ![0, 0] S1x64.size inb_S1x64_S1x64_0_0
abbrev r1_7 : Rect S1024x128 := Rect.unit (s := S1024x128) ![0, 0] S1024x128.size inb_S1024x128_S1024x128_0_0

/-! ## What the body leaves in each output window's buffer -/

/-- Window 8's staging buffer after the body, from the input windows' blocks: its 1 store as pieces, LAST
    FIRST (Lib/Pipeline/FrameBody.lean `View.canon`; the payloads are the skeleton's). -/
def out1_8 (x0 : Vec F S1024x64 .f32) (x1 : Vec F S1024x128 .f32) (x2 : Vec F S64x128 .f32) (x3 : Vec F S1x128 .f32) (x4 : Vec F S128x64 .f32) (x5 : Vec F S1x64 .f32) (x6 : Vec F S64x128 .f32) (x7 : Vec F S1x128 .f32) : Vec F S1024x128 .f32 :=
  View.canon [⟨r1_7, k1_pay1 (k1_pay4 (View.ld x0 r1_0) (View.ld x1 r1_1) (View.ld x2 r1_3) (View.ld x3 r1_4) (View.ld x4 r1_5) (View.ld x5 r1_6)) (View.ld x6 r1_3) (constant S1024x128 .f32 0x00000000#32) (View.ld x7 r1_4)⟩]

/-- Its stores tile the buffer, so they cover it. -/
theorem cover1_8 (p0 : Vec F S1024x128 .f32) (y : S1024x128.Idx) :
    ∃ pc ∈ ([⟨r1_7, p0⟩] : List (View.Piece (Elt F) S1024x128 .f32)), y ∈ pc.1.set :=
  View.cover_of_tiled [⟨r1_7, p0⟩] S1024x128.size (by rfl) y

/-- Window 9's staging buffer after the body, from the input windows' blocks: its 1 store as pieces, LAST
    FIRST (Lib/Pipeline/FrameBody.lean `View.canon`; the payloads are the skeleton's). -/
def out1_9 (x0 : Vec F S1024x64 .f32) (x1 : Vec F S1024x128 .f32) (x2 : Vec F S64x128 .f32) (x3 : Vec F S1x128 .f32) (x4 : Vec F S128x64 .f32) (x5 : Vec F S1x64 .f32) (x6 : Vec F S64x128 .f32) (x7 : Vec F S1x128 .f32) : Vec F S1x1 .f32 :=
  View.canon [⟨r1_2, k1_pay3 (View.ld x0 r1_0) (View.ld x1 r1_1)⟩]

/-- Its stores tile the buffer, so they cover it. -/
theorem cover1_9 (p0 : Vec F S1x1 .f32) (y : S1x1.Idx) :
    ∃ pc ∈ ([⟨r1_2, p0⟩] : List (View.Piece (Elt F) S1x1 .f32)), y ∈ pc.1.set :=
  View.cover_of_tiled [⟨r1_2, p0⟩] S1x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S1024x64 .f32) (harg1 : arg1.IsWhole) (arg2 : Memref sig .tc .vmem S1024x128 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S128x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1x1 .f32) (harg10 : arg10.IsWhole)
    (x0 : Vec F S1024x64 .f32) (x1 : Vec F S1024x128 .f32) (x2 : Vec F S64x128 .f32) (x3 : Vec F S1x128 .f32) (x4 : Vec F S128x64 .f32) (x5 : Vec F S1x64 .f32) (x6 : Vec F S64x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7) ∗ owns (c : Thread nD τ) arg10 fullShare (out1_9 x0 x1 x2 x3 x4 x5 x6 x7)) -∗ K ⟨⟩))
      ⊢ wp frame (wpE (defs₀ (F := F)) Variants.none c none) E (cc1__decoder_kernel i arg1 harg1 arg2 harg2 arg3 harg3 arg4 harg4 arg5 harg5 arg6 harg6 arg7 harg7 arg8 harg8 arg9 harg9 arg10 harg10) K := by
  simp only [cc1__decoder_kernel_eq_skeleton]; unfold cc1__decoder_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-! ## The pipeline's proof data -/

/-- The proof data of pipeline 2 on core `c`: the arrays as the region finds them (`V`); after the body at
    point `t` each input's buffer at its block and each output's at `out1_W` of the input blocks; the invariant the
    class's (`ΦR`: the scoped rest and the generator register, untouched); `O c` owed;
    full shares. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t) (iblk1 V c 6 t) (iblk1 V c 7 t)
  Φ _ := ΦR spec1 c
  q _ := fullShare
  owed _ := O c
  recorded _ := B c

/-- The proof data's arrays are the region-entry contents, by projecting the definition (`dsimp`): a region record cites
    this for its arrays rather than have Lean unfold `V`, the fold through @main up to the region's entry. -/
theorem A_eq1 (c : Dev nD) (w : Fin cfg1.W) : (dat1 V O B c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V O B c).after 0 t = iblk1 V c 0 t := by dsimp only [dat1]
theorem after1_1 (c : Dev nD) (t : Fin cfg1.N) : (dat1 V O B c).after 1 t = iblk1 V c 1 t := by dsimp only [dat1]
theorem after1_2 (c : Dev nD) (t : Fin cfg1.N) : (dat1 V O B c).after 2 t = iblk1 V c 2 t := by dsimp only [dat1]
theorem after1_3 (c : Dev nD) (t : Fin cfg1.N) : (dat1 V O B c).after 3 t = iblk1 V c 3 t := by dsimp only [dat1]
theorem after1_4 (c : Dev nD) (t : Fin cfg1.N) : (dat1 V O B c).after 4 t = iblk1 V c 4 t := by dsimp only [dat1]
theorem after1_5 (c : Dev nD) (t : Fin cfg1.N) : (dat1 V O B c).after 5 t = iblk1 V c 5 t := by dsimp only [dat1]
theorem after1_6 (c : Dev nD) (t : Fin cfg1.N) : (dat1 V O B c).after 6 t = iblk1 V c 6 t := by dsimp only [dat1]
theorem after1_7 (c : Dev nD) (t : Fin cfg1.N) : (dat1 V O B c).after 7 t = iblk1 V c 7 t := by dsimp only [dat1]
theorem after1_8 (c : Dev nD) (t : Fin cfg1.N) : (dat1 V O B c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V O B c).after 9 t = out1_9 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not (`beforeK_W_of`). -/
theorem before1_0 (c : Dev nD) (t : Fin cfg1.N) (d) : (dat1 V O B c).before 0 t d = iblk1 V c 0 t :=
  before1_0_of V (dat1 V O B c) (A_eq1 V O B c 0) (after1_0 V O B c) t d
theorem before1_1 (c : Dev nD) (t : Fin cfg1.N) (d) : (dat1 V O B c).before 1 t d = iblk1 V c 1 t :=
  before1_1_of V (dat1 V O B c) (A_eq1 V O B c 1) (after1_1 V O B c) t d
theorem before1_2 (c : Dev nD) (t : Fin cfg1.N) (d) : (dat1 V O B c).before 2 t d = iblk1 V c 2 t :=
  before1_2_of V (dat1 V O B c) (A_eq1 V O B c 2) (after1_2 V O B c) t d
theorem before1_3 (c : Dev nD) (t : Fin cfg1.N) (d) : (dat1 V O B c).before 3 t d = iblk1 V c 3 t :=
  before1_3_of V (dat1 V O B c) (A_eq1 V O B c 3) (after1_3 V O B c) t d
theorem before1_4 (c : Dev nD) (t : Fin cfg1.N) (d) : (dat1 V O B c).before 4 t d = iblk1 V c 4 t :=
  before1_4_of V (dat1 V O B c) (A_eq1 V O B c 4) (after1_4 V O B c) t d
theorem before1_5 (c : Dev nD) (t : Fin cfg1.N) (d) : (dat1 V O B c).before 5 t d = iblk1 V c 5 t :=
  before1_5_of V (dat1 V O B c) (A_eq1 V O B c 5) (after1_5 V O B c) t d
theorem before1_6 (c : Dev nD) (t : Fin cfg1.N) (d) : (dat1 V O B c).before 6 t d = iblk1 V c 6 t :=
  before1_6_of V (dat1 V O B c) (A_eq1 V O B c 6) (after1_6 V O B c) t d
theorem before1_7 (c : Dev nD) (t : Fin cfg1.N) (d) : (dat1 V O B c).before 7 t d = iblk1 V c 7 t :=
  before1_7_of V (dat1 V O B c) (A_eq1 V O B c 7) (after1_7 V O B c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V O B c).Φ t.castSucc ∗ (dat1 V O B c).owesAt none t.castSucc
    ∗ (∃ d, owns (c : Thread nD τ) (st1_0 t) fullShare ((dat1 V O B c).before 0 t d))
    ∗ (∃ d, owns (c : Thread nD τ) (st1_1 t) fullShare ((dat1 V O B c).before 1 t d))
    ∗ (∃ d, owns (c : Thread nD τ) (st1_2 t) fullShare ((dat1 V O B c).before 2 t d))
    ∗ (∃ d, owns (c : Thread nD τ) (st1_3 t) fullShare ((dat1 V O B c).before 3 t d))
    ∗ (∃ d, owns (c : Thread nD τ) (st1_4 t) fullShare ((dat1 V O B c).before 4 t d))
    ∗ (∃ d, owns (c : Thread nD τ) (st1_5 t) fullShare ((dat1 V O B c).before 5 t d))
    ∗ (∃ d, owns (c : Thread nD τ) (st1_6 t) fullShare ((dat1 V O B c).before 6 t d))
    ∗ (∃ d, owns (c : Thread nD τ) (st1_7 t) fullShare ((dat1 V O B c).before 7 t d))
    ∗ (∃ d, owns (c : Thread nD τ) (st1_8 t) fullShare ((dat1 V O B c).before 8 t d))
    ∗ (∃ d, owns (c : Thread nD τ) (st1_9 t) fullShare ((dat1 V O B c).before 9 t d)))

/-- and what it returns. -/
def bodyPost1 (c : Dev nD) (t : Fin cfg1.N) : sProp 𝕄 :=
  iprop((dat1 V O B c).Φ t.succ ∗ (dat1 V O B c).owesAt none t.succ
    ∗ owns (c : Thread nD τ) (st1_0 t) fullShare ((dat1 V O B c).after 0 t)
    ∗ owns (c : Thread nD τ) (st1_1 t) fullShare ((dat1 V O B c).after 1 t)
    ∗ owns (c : Thread nD τ) (st1_2 t) fullShare ((dat1 V O B c).after 2 t)
    ∗ owns (c : Thread nD τ) (st1_3 t) fullShare ((dat1 V O B c).after 3 t)
    ∗ owns (c : Thread nD τ) (st1_4 t) fullShare ((dat1 V O B c).after 4 t)
    ∗ owns (c : Thread nD τ) (st1_5 t) fullShare ((dat1 V O B c).after 5 t)
    ∗ owns (c : Thread nD τ) (st1_6 t) fullShare ((dat1 V O B c).after 6 t)
    ∗ owns (c : Thread nD τ) (st1_7 t) fullShare ((dat1 V O B c).after 7 t)
    ∗ owns (c : Thread nD τ) (st1_8 t) fullShare ((dat1 V O B c).after 8 t)
    ∗ owns (c : Thread nD τ) (st1_9 t) fullShare ((dat1 V O B c).after 9 t))

/-- The body at any point: the inputs' memrefs hold their blocks (`before1_W`), so `sound_kernel1` applies; the invariant and
    the core's `owes` pass through unread. -/
theorem sound_body1 (c : Dev nD) (t : Fin cfg1.N) :
    bodyPre1 V O B c t ⊢ wp frame (wpE (defs₀ (F := F)) Variants.none c none) Set.univ (bodyAt1 t) (fun _ => bodyPost1 V O B c t) := by
  unfold bodyPre1 bodyPost1 bodyAt1
  simp only [before1_0, before1_1, before1_2, before1_3, before1_4, before1_5, before1_6, before1_7]
  rw [show (dat1 V O B c).Φ t.succ = (dat1 V O B c).Φ t.castSucc from rfl,
    show (dat1 V O B c).owesAt none t.succ = (dat1 V O B c).owesAt none t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rfl

/-- The library's body obligation, at every point: the body's triple restated (Lib/Pipeline/FrameBody.lean `triple_restated`). -/
theorem body_obligation1 (c : Dev nD) : BodyObligation (dat1 (F := F) V O B c) (defs₀ (F := F)) Variants.none none Set.univ := fun t => by
  rw [bigSep_W1, bigSep_W1, defs₀_row1]
  exact triple_restated (sound_body1 V O B c t) rfl .rfl fun _ => .rfl

end Regions

end Cert.Proof.B

end
-- ==== Proof.BTile.lean ====
/- The SparseCore call of `rebuild`: 2 SparseCores × 16 tiles, each tile fetching its 32 row numbers, gathering those rows of
   the table and writing them out to its 32 rows of the result. The tile's body is run once, at a symbolic tile; the table and
   the list of row numbers are read by every tile under a share, the result is split by rows. What a tile leaves in its rows is
   stated as one function of the table and the list (`gath`). -/
module

public import proofs.«01_k».proof.Proof.BRegions
public import Idealize.ShloMosaic.Lib.SparseCore.Stream
public import Idealize.ShloMosaic.Lib.SparseCore.FromWhole
public import Idealize.ShloMosaic.Lib.StableHlo.Run
public import Idealize.ShloMosaic.Lib.Pipeline.Kit

@[expose] public section

noncomputable section

namespace Cert.Proof.B

open Cert.RebuildIdeal Cert.RebuildIdeal.Gen
open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The program as the launch sees it -/

abbrev ΛP : Labels := Pipeline.Sig Λ₀ (Fin 1) fun p => (pcfgs (F := F) p).Adm
abbrev KK : SparseCore.Cfg τ sig (ΛP (F := F)) 1 := sc (F := F)
abbrev DD [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (KK (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The three arrays of the call and how they are cut -/

abbrev tLoc (d : Dev nD) : Loc nD τ sig := (SparseCore.T d).loc main_v1
abbrev iLoc (d : Dev nD) : Loc nD τ sig := (SparseCore.T d).loc main_arg1
abbrev oLoc (d : Dev nD) : Loc nD τ sig := (SparseCore.T d).loc main_v2

local notation "tV" => (Memref.whole Cert.RebuildIdeal.main_v1_scv : Memref Cert.RebuildIdeal.sig Kind.scVector Space.hbm Cert.RebuildIdeal.S8192x128 EltTy.f32)
local notation "iV" => (Memref.whole Cert.RebuildIdeal.main_arg1_scv : Memref Cert.RebuildIdeal.sig Kind.scVector Space.hbm Cert.RebuildIdeal.S1024 EltTy.i32)
local notation "oV" => (Memref.whole Cert.RebuildIdeal.main_v2_scv : Memref Cert.RebuildIdeal.sig Kind.scVector Space.hbm Cert.RebuildIdeal.S1024x128 EltTy.f32)
local notation "sV" => (Memref.whole Cert.RebuildIdeal.cc0_scratch0 : Memref Cert.RebuildIdeal.sig Kind.scVector Space.vmem Cert.RebuildIdeal.S32 EltTy.i32)
local notation "rV" => (Memref.whole Cert.RebuildIdeal.cc0_scratch1 : Memref Cert.RebuildIdeal.sig Kind.scVector Space.vmem Cert.RebuildIdeal.S32x128 EltTy.f32)

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev orowK (L : grid0.Coords) : Rect S1024x128 := Rect.unit (s := S1024x128) (k0_off2 L) S32x128.size (k0_off2_inb L)
abbrev irowK (L : grid0.Coords) : Rect S1024 := Rect.unit (s := S1024) (k0_off1 L) S32.size (k0_off1_inb L)
/-- The rows of the result a tile writes. -/
abbrev oSet (L : grid0.Coords) : Finset S1024x128.Idx := ((oV).view.slice (orowK L)).set

theorem oSet_eq (L : grid0.Coords) : oSet L = (orowK L).set := by
  show ((View.whole (main_v2_scv : Ref sig .scVector)).slice (orowK L)).set = _
  rw [View.set_slice]; exact Finset.map_refl

theorem mem_oSet (L : grid0.Coords) (y : S1024x128.Idx) :
    y ∈ oSet L ↔ 64 * (L 1).val + 32 * (L 0).val ≤ (y 0).val ∧ (y 0).val < 64 * (L 1).val + 32 * (L 0).val + 32 := by
  rw [oSet_eq, Rect.mem_set_unit, k0_off2_eq]
  constructor
  · intro h; exact h 0
  · intro h a
    match a with
    | ⟨0, _⟩ => exact h
    | ⟨1, _⟩ => exact ⟨Nat.zero_le _, by simpa using (y 1).isLt⟩

/-- A tile's share of the table and of the list. -/
def sh (p : Fin 2 × Fin 16) : PosShare TreeShare := pieceOf fullShare (2 * 16) (by decide) (finProdFinEquiv p)

theorem pts_shares {ℓ : Loc nD τ sig} (f : Buf (Elt F) ℓ) :
    (ℓ ↦{fullShare} f : sProp 𝕄) = bigSep Finset.univ fun p : Fin 2 × Fin 16 => ℓ ↦{sh p} f := by
  rw [pointsTo_piecesOf Finset.univ f (o := 2 * 16) (by decide) fullShare,
    bigSep_univ_equiv finProdFinEquiv (fun j : Fin (2 * 16) => (ℓ ↦{pieceOf fullShare (2 * 16) (by decide) j} f : sProp 𝕄))]
  rfl

theorem pts_rows (d : Dev nD) (f : Buf (Elt F) (oLoc d)) :
    (oLoc d ↦{fullShare} f : sProp 𝕄) = bigSep Finset.univ fun p : Fin 2 × Fin 16 => oLoc d ↦[oSet (coordsV p.1 p.2)]{fullShare} f := by
  have hd : ∀ p ∈ (Finset.univ : Finset (Fin 2 × Fin 16)), ∀ p' ∈ (Finset.univ : Finset (Fin 2 × Fin 16)), p ≠ p' →
      Disjoint (oSet (coordsV p.1 p.2)) (oSet (coordsV p'.1 p'.2)) := by
    intro p _ p' _ hne
    rw [Finset.disjoint_left]
    intro y h h'
    rw [mem_oSet] at h h'
    apply hne
    have e0 : ∀ q : Fin 2 × Fin 16, ((coordsV q.1 q.2) 0).val = q.1.val := fun _ => rfl
    have e1 : ∀ q : Fin 2 × Fin 16, ((coordsV q.1 q.2) 1).val = q.2.val := fun _ => rfl
    rw [e0, e1] at h h'
    have := p.1.isLt; have := p'.1.isLt; have := p.2.isLt; have := p'.2.isLt
    refine Prod.ext (Fin.ext ?_) (Fin.ext ?_) <;> omega
  have hc : (Finset.univ : Finset (Fin 2 × Fin 16)).biUnion (fun p => oSet (coordsV p.1 p.2)) = Finset.univ := by
    ext y
    simp only [Finset.mem_biUnion, Finset.mem_univ, true_and, iff_true]
    have hy : (y 0).val < 1024 := (y 0).isLt
    refine ⟨(⟨(y 0).val / 32 % 2, by omega⟩, ⟨(y 0).val / 64, by omega⟩), ?_⟩
    rw [mem_oSet]
    show 64 * ((y 0).val / 64) + 32 * ((y 0).val / 32 % 2) ≤ _ ∧ _ < 64 * ((y 0).val / 64) + 32 * ((y 0).val / 32 % 2) + 32
    omega
  rw [← pointsTo_biUnion Finset.univ (ℓ := oLoc d) (fun p : Fin 2 × Fin 16 => oSet (coordsV p.1 p.2)) hd, hc]; try rfl

/-! ## What the call computes -/

/-- Row `k`, column `l` of the table; entry `k` of the list. -/
abbrev tix (k : Fin 8192) (l : Fin 128) : S8192x128.Idx := fun | 0 => k | 1 => l
abbrev lix (k : Fin 1024) : S1024.Idx := fun | 0 => k

/-- The gathered rows: row `y 0` of the result is the row of the table that entry `y 0` of the list names. -/
def gath (tab : S8192x128.Idx → Elt F .f32) (ixs : S1024.Idx → BitVec 32) : S1024x128.Idx → Elt F .f32 := fun y =>
  tab (tix ⟨(ixs (lix (y 0))).toNat % 8192, Nat.mod_lt _ (by decide)⟩ (y 1))

variable (tab : (d : Dev nD) → Buf (Elt F) (tLoc d)) (ixs : (d : Dev nD) → Buf (Elt F) (iLoc d)) (old : (d : Dev nD) → Buf (Elt F) (oLoc d))

abbrev goR (d : Dev nD) (p : Fin 2 × Fin 16) : sProp 𝕄 :=
  iprop((tLoc d ↦{sh p} tab d) ∗ (iLoc d ↦{sh p} ixs d) ∗ (oLoc d ↦[oSet (coordsV p.1 p.2)]{fullShare} old d))
abbrev tdR (d : Dev nD) (p : Fin 2 × Fin 16) : sProp 𝕄 :=
  iprop((tLoc d ↦{sh p} tab d) ∗ (iLoc d ↦{sh p} ixs d) ∗ (oLoc d ↦[oSet (coordsV p.1 p.2)]{fullShare} (gath (tab d) (ixs d) : Buf (Elt F) (oLoc d))))

theorem go_all (d : Dev nD) :
    (iprop((tLoc d ↦{fullShare} tab d) ∗ (iLoc d ↦{fullShare} ixs d) ∗ (oLoc d ↦{fullShare} old d)) : sProp 𝕄)
      = bigSep Finset.univ fun c : Fin 2 => bigSep Finset.univ fun i : Fin 16 => goR tab ixs old d (c, i) := by
  rw [← bigSep_univ_prod (fun p : Fin 2 × Fin 16 => goR tab ixs old d p), bigSep_sep', bigSep_sep', ← pts_shares, ← pts_shares, ← pts_rows]
theorem td_all (d : Dev nD) :
    (iprop((tLoc d ↦{fullShare} tab d) ∗ (iLoc d ↦{fullShare} ixs d) ∗ (oLoc d ↦{fullShare} (gath (tab d) (ixs d) : Buf (Elt F) (oLoc d)))) : sProp 𝕄)
      = bigSep Finset.univ fun c : Fin 2 => bigSep Finset.univ fun i : Fin 16 => tdR tab ixs d (c, i) := by
  rw [← bigSep_univ_prod (fun p : Fin 2 × Fin 16 => tdR tab ixs d p), bigSep_sep', bigSep_sep', ← pts_shares, ← pts_shares, ← pts_rows]

theorem nSub_zero : (KK (F := F)).nSub 0 = 16 := rfl
theorem nCore_zero : (KK (F := F)).nCore 0 = 2 := rfl

variable [FloatOps F]

/-- What the handshakes carry: a SparseCore gets its tiles' parts and brings them back written. -/
def PP : (KK (F := F)).Pay (nD := nD) (Val := Elt F) (Name := ℕ) (U := UU) where
  st := fun q d c => match q with | 0 => bigSep Finset.univ fun i : Fin 16 => goR tab ixs old d (Fin.cast nCore_zero c, i)
  dn := fun q d c => match q with | 0 => bigSep Finset.univ fun i : Fin 16 => tdR tab ixs d (Fin.cast nCore_zero c, i)
  go := fun q d c i => match q with | 0 => goR tab ixs old d (Fin.cast nCore_zero c, Fin.cast nSub_zero i)
  td := fun q d c i => match q with | 0 => tdR tab ixs d (Fin.cast nCore_zero c, Fin.cast nSub_zero i)
  x := fun _ _ => iprop(emp)

instance PP_storable : (PP (F := F) tab ixs old).IsStorable where
  st q d c := match q with
    | 0 => (inferInstance : BI.Storable (upEmb : UEmb _ 𝕄) (bigSep Finset.univ fun i : Fin 16 => goR tab ixs old d (Fin.cast nCore_zero c, i)))
  dn q d c := match q with
    | 0 => (inferInstance : BI.Storable (upEmb : UEmb _ 𝕄) (bigSep Finset.univ fun i : Fin 16 => tdR tab ixs d (Fin.cast nCore_zero c, i)))
  go q d c i := match q with
    | 0 => (inferInstance : BI.Storable (upEmb : UEmb _ 𝕄) (goR tab ixs old d (Fin.cast nCore_zero c, Fin.cast nSub_zero i)))
  td q d c i := match q with
    | 0 => (inferInstance : BI.Storable (upEmb : UEmb _ 𝕄) (tdR tab ixs d (Fin.cast nCore_zero c, Fin.cast nSub_zero i)))

theorem vecSplit : (KK (F := F)).VecSplit' (PP tab ixs old) 0 := by
  intro d c
  show (bigSep Finset.univ fun i : Fin 16 => goR tab ixs old d (Fin.cast nCore_zero c, i)) ⊢ |={Set.univ}=> iprop(
      (bigSep Finset.univ fun i : Fin 16 => goR tab ixs old d (Fin.cast nCore_zero c, i))
      ∗ ((bigSep Finset.univ fun i : Fin 16 => tdR tab ixs d (Fin.cast nCore_zero c, i))
          -∗ (bigSep Finset.univ fun i : Fin 16 => tdR tab ixs d (Fin.cast nCore_zero c, i))))
  iintro H; imodintro
  isplitl [H]; · iexact H
  iintro H; iexact H

theorem st_eq (d : Dev nD) : (bigSep Finset.univ fun c : Fin ((KK (F := F)).nCore 0) => (PP tab ixs old).st 0 d c)
    = (iprop((tLoc d ↦{fullShare} tab d) ∗ (iLoc d ↦{fullShare} ixs d) ∗ (oLoc d ↦{fullShare} old d)) : sProp 𝕄) :=
  (go_all tab ixs old d).symm
theorem dn_eq (d : Dev nD) : (bigSep Finset.univ fun c : Fin ((KK (F := F)).nCore 0) => (PP tab ixs old).dn 0 d c)
    = (iprop((tLoc d ↦{fullShare} tab d) ∗ (iLoc d ↦{fullShare} ixs d) ∗ (oLoc d ↦{fullShare} (gath (tab d) (ixs d) : Buf (Elt F) (oLoc d)))) : sProp 𝕄) :=
  (td_all tab ixs d).symm

/-! ## The tile's own scratch and semaphores -/

section Tile

variable (d : Dev nD) (L : grid0.Coords)

abbrev cV (L : grid0.Coords) : Fin τ.nSC := (L 0).castLE hcore0
abbrev jV (L : grid0.Coords) : Fin τ.nSub := (L 1).castLE hsub0

abbrev iRowK (L : grid0.Coords) : Memref sig .scVector .hbm S32 .i32 := (iV).slice (irowK L) (fun _ => rfl)
abbrev oRowK (L : grid0.Coords) : Memref sig .scVector .hbm S32x128 .f32 := (oV).slice (orowK L) (fun _ => rfl)
abbrev tAllK : Memref sig .scVector .hbm S8192x128 .f32 := (tV).slice (Rect.unit (s := S8192x128) ![0, 0] S8192x128.size inb_S8192x128_S8192x128_0_0) (fun _ => rfl)

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
/-- The three semaphores of the body are among the tile's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the tile's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

end Cert.Proof.B

end
-- ==== Proof.BBody.lean ====
/- The body of one tile of the SparseCore call, at a symbolic tile, and the obligation the launch asks of it. -/
module

public import proofs.«01_k».proof.Proof.BTile

@[expose] public section

noncomputable section

namespace Cert.Proof.B

open Cert.RebuildIdeal Cert.RebuildIdeal.Gen
open Idealize.ShloMosaic Idealize.ShloMosaic.Tactic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ
local notation "tV" => (Memref.whole Cert.RebuildIdeal.main_v1_scv : Memref Cert.RebuildIdeal.sig Kind.scVector Space.hbm Cert.RebuildIdeal.S8192x128 EltTy.f32)
local notation "iV" => (Memref.whole Cert.RebuildIdeal.main_arg1_scv : Memref Cert.RebuildIdeal.sig Kind.scVector Space.hbm Cert.RebuildIdeal.S1024 EltTy.i32)
local notation "oV" => (Memref.whole Cert.RebuildIdeal.main_v2_scv : Memref Cert.RebuildIdeal.sig Kind.scVector Space.hbm Cert.RebuildIdeal.S1024x128 EltTy.f32)
local notation "sV" => (Memref.whole Cert.RebuildIdeal.cc0_scratch0 : Memref Cert.RebuildIdeal.sig Kind.scVector Space.vmem Cert.RebuildIdeal.S32 EltTy.i32)
local notation "rV" => (Memref.whole Cert.RebuildIdeal.cc0_scratch1 : Memref Cert.RebuildIdeal.sig Kind.scVector Space.vmem Cert.RebuildIdeal.S32x128 EltTy.f32)

section Tile

variable (d : Dev nD) (L : grid0.Coords)

/-- The row numbers a tile has fetched, entry by entry of the list. -/
theorem read_list (ix : Buf (Elt F) (iLoc d)) (j : S32.Idx) :
    (iRowK L).view.read (Elt F) ix j = ix ((iRowK L).view.emb j) :=
  (View.read_apply _ _).trans (cast_eq _ _)

theorem inb_of (ix : Buf (Elt F) (iLoc d)) (hin : ∀ j, (ix j : BitVec 32).toNat < 8192)
    (fs : Buf (Elt F) ((V d (cV L) (jV L)).loc cc0_scratch0)) (pay : S32.Idx → Elt F .i32)
    (hpay : pay = (iRowK L).view.read (Elt F) ix) :
    ∀ x, ((sV).view.read (Elt F) (View.write (Elt F) (sV).view fs pay Finset.univ) x).toNat < S8192x128.size gathers_S8192x128_S32x128.axis := by
  subst hpay; intro x
  rw [View.write_whole_univ]
  simp only [Memref.view_whole, View.read_whole]
  rw [read_list]
  exact hin _

theorem emb_orow (x : S32x128.Idx) (a : Fin 2) : (((oRowK L).view.emb x) a).val = ![64 * (L 1).val + 32 * (L 0).val, 0] a + (x a).val := by
  have h : (((oRowK L).view.emb x) a).val = (k0_off2 L) a + (x a).val := by
    exact (Rect.emb_apply (orowK L) x a).trans (congrArg ((k0_off2 L) a + ·) (one_mul (x a).val))
  rw [h, k0_off2_eq]
theorem emb_irow (x : S32.Idx) (a : Fin 1) : (((iRowK L).view.emb x) a).val = ![64 * (L 1).val + 32 * (L 0).val] a + (x a).val := by
  have h : (((iRowK L).view.emb x) a).val = (k0_off1 L) a + (x a).val := by
    exact (Rect.emb_apply (irowK L) x a).trans (congrArg ((k0_off1 L) a + ·) (one_mul (x a).val))
  rw [h, k0_off1_eq]
theorem emb_tall (x : S8192x128.Idx) : tAllK.view.emb x = x := by
  funext a; apply Fin.ext
  show (((Rect.unit (s := S8192x128) ![0, 0] S8192x128.size inb_S8192x128_S8192x128_0_0).emb x) a).val = _
  rw [Rect.emb_apply]
  match a with
  | ⟨0, _⟩ => show 0 + 1 * _ = _; omega
  | ⟨1, _⟩ => show 0 + 1 * _ = _; omega

/-- Entry `k` of a tile's part of the list. -/
abbrev wix (k : Fin 32) : S32.Idx := fun | 0 => k

/-- The rows a tile has gathered are those its entries of the list name. -/
theorem row_value (tb : Buf (Elt F) (tLoc d)) (ix : Buf (Elt F) (iLoc d)) (hin : ∀ j, (ix j : BitVec 32).toNat < 8192)
    (fs : Buf (Elt F) ((V d (cV L) (jV L)).loc cc0_scratch0)) (h1) (h2) (x : S32x128.Idx) :
    gatherPayload gathers_S8192x128_S32x128 (View.read (Elt F) tAllK.view tb)
      (rows (View.read (Elt F) (sV).view (View.write (Elt F) (sV).view fs (View.read (Elt F) (iRowK L).view ix) Finset.univ)) h1 h2) x
      = gath tb ix ((oRowK L).view.emb x) := by
  unfold gatherPayload
  rw [View.read_apply]
  refine (cast_eq _ _).trans ?_
  rw [emb_tall]
  unfold gath
  refine congrArg tb ?_
  have hk : ∀ k : Fin 32, ((View.read (Elt F) (sV).view (View.write (Elt F) (sV).view fs (View.read (Elt F) (iRowK L).view ix) Finset.univ)) (wix k) : BitVec 32)
      = ix ((iRowK L).view.emb (wix k)) := by
    intro k
    rw [View.write_whole_univ]
    simp only [Memref.view_whole, View.read_whole]
    exact read_list d L ix _
  have hsym : ∀ k : Fin 32, S32.rowMajor.symm (k.cast h1.symm) = wix k := by
    intro k
    apply S32.rowMajor.injective
    rw [Equiv.apply_symm_apply]
    apply Fin.ext
    rw [Shape.rowMajor_val_one]; rfl
  funext b
  apply Fin.ext
  match b with
  | ⟨0, hb⟩ =>
    have e := congrArg Fin.val (Shape.Gathers.idx_axis gathers_S8192x128_S32x128 (rows (View.read (Elt F) (sV).view (View.write (Elt F) (sV).view fs (View.read (Elt F) (iRowK L).view ix) Finset.univ)) h1 h2) x)
    refine e.trans ?_
    refine ((congrArg BitVec.toNat ((congrArg _ (hsym (x 0))).trans (hk (x 0)))).trans ?_).trans (Nat.mod_eq_of_lt (hin (lix (((oRowK L).view.emb x) 0)))).symm
    refine congrArg (fun j => BitVec.toNat (ix j : BitVec 32)) ?_
    funext a; apply Fin.ext
    match a with
    | ⟨0, _⟩ => exact (emb_irow L _ 0).trans (emb_orow L x 0).symm
  | ⟨1, hb⟩ =>
    refine (Shape.Gathers.idx_of_ne gathers_S8192x128_S32x128 _ x ⟨1, hb⟩ Nat.one_ne_zero).trans ?_
    refine Eq.trans ?_ (emb_orow L x 1).symm
    show (x 1).val = 0 + (x 1).val
    omega

theorem row_out (tb : Buf (Elt F) (tLoc d)) (ix : Buf (Elt F) (iLoc d)) (ol : Buf (Elt F) (oLoc d)) (hin : ∀ j, (ix j : BitVec 32).toNat < 8192)
    (fs : Buf (Elt F) ((V d (cV L) (jV L)).loc cc0_scratch0)) (fr : Buf (Elt F) ((V d (cV L) (jV L)).loc cc0_scratch1)) {h1} {h2} (pay : S32x128.Idx → Elt F .f32)
    (hpay : pay = View.read (Elt F) (rV).view (View.write (Elt F) (rV).view fr (gatherPayload gathers_S8192x128_S32x128 (View.read (Elt F) tAllK.view tb)
      (rows (View.read (Elt F) (sV).view (View.write (Elt F) (sV).view fs (View.read (Elt F) (iRowK L).view ix) Finset.univ)) h1 h2)) Finset.univ)) :
    ((oRowK L).view.loc (V d (cV L) (jV L)) ↦[(oRowK L).view.set]{fullShare}
        ((oRowK L).view.writes (Elt F) ol [⟨Rect.whole S32x128, pay⟩] : Buf (Elt F) (oLoc d)) : sProp 𝕄)
      ⊢ (oLoc d ↦[oSet L]{fullShare} (gath tb ix : Buf (Elt F) (oLoc d))) := by
  refine Entails.of_eq (pointsTo_congr ?_)
  intro y hy
  obtain ⟨x, -, rfl⟩ := Finset.mem_map.mp hy
  have h := congrFun (View.read_writes_whole (Val := Elt F) (oRowK L).view ol pay) x
  rw [View.read_apply] at h
  refine ((cast_eq _ _).symm.trans h).trans ?_
  rw [hpay, View.write_whole_univ]
  simp only [Memref.view_whole, View.read_whole]
  exact row_value d L tb ix hin fs h1 h2 x

variable [FloatOps F]
variable (tab : (d : Dev nD) → Buf (Elt F) (tLoc d)) (ixs : (d : Dev nD) → Buf (Elt F) (iLoc d)) (old : (d : Dev nD) → Buf (Elt F) (oLoc d))

omit [FloatOps F] in
theorem hN : ∀ h : S8192x128.Gathers 0 S32x128, ∑ j, ((rV).slice (S32x128.rowRect h.axis' j) (S32x128.stride_rowRect h.axis' j)).view.dmaCredit
      = (rV).view.dmaCredit := by decide

set_option maxHeartbeats 4000000 in
/-- One tile's run: it leaves in its rows the rows of the table that its part of the list names. -/
theorem tile_body (q : PosShare TreeShare) (hin : ∀ d j, (ixs d j : BitVec 32).toNat < 8192) (O : CellTallies nD τ sig (HIx 1)) (W : Waits sig (HIx 1)) (hO : ∀ g, O g none = 0) :
    (iprop(levAts (KK (F := F)).L (KK (F := F)).lev ∗ emp
        ∗ ((tLoc d ↦{q} tab d) ∗ (iLoc d ↦{q} ixs d) ∗ (oLoc d ↦[oSet L]{fullShare} old d))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_gk L tV (Memref.isWhole_whole _) iV (Memref.isWhole_whole _) oV (Memref.isWhole_whole _)
            sV (Memref.isWhole_whole _) rV (Memref.isWhole_whole _) cc0_scratch2 cc0_scoped0 cc0_scoped1)
          fun _ => iprop(((tLoc d ↦{q} tab d) ∗ (iLoc d ↦{q} ixs d) ∗ (oLoc d ↦[oSet L]{fullShare} (gath (tab d) (ixs d) : Buf (Elt F) (oLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gk_eq_skeleton]; unfold cc0_gk_skel
  rw [(KK (F := F)).scopedBufs_V facts d (cV L) (jV L), SparseCore.Cfg.scopedSems0_V (Val := Elt F) d (cV L) (jV L), ownSems0_V, ownBufs_V]
  iintro ⟨#Hlv, -, ⟨Hx, Hi, Ho⟩, ⟨⟨%fs, Hs⟩, ⟨%fr, Hr⟩, Hbufs⟩, ⟨HsemA, HsemB, HsemC, Hsems⟩, HO⟩
  ihave Hmw := (show levAts (KK (F := F)).L (KK (F := F)).lev ⊢ Transfers.MayWaits (V d (cV L) (jV L)) (default : HIx 1) O from
    (KK (F := F)).mayWaits_none (thr := V d (cV L) (jV L)) hO) $$ Hlv
  ihave His := (pointsTo_split_subset (q := q) (f := ixs d) (S := Finset.univ) (Finset.subset_univ (iRowK L).view.set)).1 $$ Hi
  icases His with ⟨Hi, Hir⟩
  ihave Hi' := (Entails.of_eq (show ((iLoc d ↦[(iRowK L).view.set]{q} ixs d) : sProp 𝕄)
      = (iRowK L).view.loc (V d (cV L) (jV L)) ↦[(iRowK L).view.set]{q} ixs d from rfl)) $$ Hi
  ihave Ho' := (Entails.of_eq (show ((oLoc d ↦[oSet L]{fullShare} old d) : sProp 𝕄)
      = (oRowK L).view.loc (V d (cV L) (jV L)) ↦[(oRowK L).view.set]{fullShare} old d from rfl)) $$ Ho
  ihave Hx' := (Entails.of_eq (show ((tLoc d ↦{q} tab d) : sProp 𝕄)
      = tAllK.view.loc (V d (cV L) (jV L)) ↦{q} tab d from rfl)) $$ Hx
  ihave Hs' := (Entails.of_eq (show (((V d (cV L) (jV L)).loc cc0_scratch0 ↦{fullShare} fs) : sProp 𝕄)
      = (sV).view.loc (V d (cV L) (jV L)) ↦{fullShare} fs from rfl)) $$ Hs
  ihave Hr' := (Entails.of_eq (show (((V d (cV L) (jV L)).loc cc0_scratch1 ↦{fullShare} fr) : sProp 𝕄)
      = (rV).view.loc (V d (cV L) (jV L)) ↦{fullShare} fr from rfl)) $$ Hr
  sl_exec
  iapply (SparseCore.wp_gatherFromWhole countersEmb 𝒱₀ (V d (cV L) (jV L)) none (hg := gathers_S8192x128_S32x128) (default : HIx 1)
      (rV).view.dmaCredit (hN _) (by decide) (inb_of d L (ixs d) (hin d) fs _ rfl)) $$ [Hx' Hr' Hs' HsemB]
  · isplitl [Hx']; · iexact Hx'
    isplitl [Hr']; · iexact Hr'
    isplitl [Hs']; · iexact Hs'
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hx', Hs'⟩, HsemB, HO⟩
  sl_exec
  sl_step
  isplitl [Hir Hx' Ho']
  · isplitl [Hx']; · iexact Hx'
    isplitl [Hir]; · iexact Hir
    iapply (row_out d L (tab d) (ixs d) (old d) (hin d) fs fr (tile_body.sl.dma0_1 d L tab ixs hin fs fr) rfl) $$ Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

theorem defs₀_vector (c : Fin τ.nSC) (s : Fin τ.nSub) :
    defs₀ (F := F) (.scVector c s) 0 ()
      = SparseCore.onTile hcore0 hsub0 (fun c s => cc0_gk (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hin : ∀ d j, (ixs d j : BitVec 32).toNat < 8192) : (KK (F := F)).TileObl (DD (F := F)) 𝒱 (PP tab ixs old) v₀ 0 := by
  intro d c i O W hO _ _
  simp only [show (PP (F := F) tab ixs old).ox = fun _ _ => 0 from rfl, add_zero]
  have hci : ((KK (F := F)).core 0 c).val < grid0.bound 0 ∧ ((KK (F := F)).sub 0 i).val < grid0.bound 1 := ⟨c.isLt, i.isLt⟩
  change _ ⊢ wp _ _ _ (Pipeline.liftProg (defs₀ (F := F) (.scVector ((KK (F := F)).core 0 c) ((KK (F := F)).sub 0 i)) 0 ())) _
  refine BI.Entails.trans ?_ (Pipeline.wp_liftProg (DD (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) tab ixs old (sh (Fin.cast nCore_zero c, Fin.cast nSub_zero i)) hin O W hO).trans (wp_mono frame _ _ fun _ => weaken_waits)

end Tile

end Cert.Proof.B

end
-- ==== Proof.BChain.lean ====
/- The buffers' contents along the program of `rebuild`, from the launch to the return: what each stretch of host operations, each
   TensorCore region and the SparseCore call makes of them, and that no argument array changes. Then the region as a record
   over those contents, the core's debts to the SparseCores riding along. -/
module

public import proofs.«01_k».proof.Proof.BRegions
public import proofs.«01_k».proof.Proof.BBody

@[expose] public section

set_option maxRecDepth 16384

noncomputable section

namespace Cert.Proof.B

open Cert.RebuildIdeal Cert.RebuildIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-! ## The stretches of host operations -/

/-- Stretch 1. -/
abbrev ops1 : List (HloOp τ sig (Elt F)) :=
  [ StableHlo.nullary main_cst (constant S_ .f32 0x00000000#32),
    StableHlo.unary main_cst main_v0 (broadcastInDim S8192x64 ![] bcast_S_S8192x64 : (⟨S_, .f32⟩ : BufTy).Contents (Elt F) → (⟨S8192x64, .f32⟩ : BufTy).Contents (Elt F)),
    StableHlo.binary main_arg2 main_v0 main_v1 ((fun a b => concatenate S8192x128 1 [⟨S8192x64, a⟩, ⟨S8192x64, b⟩] concatenates_S8192x64_S8192x64_S8192x128_d1) : (⟨S8192x64, .f32⟩ : BufTy).Contents (Elt F) → (⟨S8192x64, .f32⟩ : BufTy).Contents (Elt F) → (⟨S8192x128, .f32⟩ : BufTy).Contents (Elt F)) ]
theorem ops1_sub : (ops1 : List (HloOp τ sig (Elt F))).Forall fun op => op.bufs ⊆ StableHlo.tcRefs τ sig :=
  ⟨StableHlo.nullary_bufs_sub .., StableHlo.unary_bufs_sub .., StableHlo.binary_bufs_sub ..⟩
/-- Stretch 2. -/
abbrev ops2 : List (HloOp τ sig (Elt F)) :=
  [ StableHlo.reshape main_arg4 main_v3 (rfl : (.f32 : EltTy) = .f32) shapeCasts_S128_S1x128,
    StableHlo.reshape main_arg6 main_v4 (rfl : (.f32 : EltTy) = .f32) shapeCasts_S64_S1x64,
    StableHlo.reshape main_arg8 main_v5 (rfl : (.f32 : EltTy) = .f32) shapeCasts_S128_S1x128 ]
theorem ops2_sub : (ops2 : List (HloOp τ sig (Elt F))).Forall fun op => op.bufs ⊆ StableHlo.tcRefs τ sig :=
  ⟨StableHlo.reshape_bufs_sub .., StableHlo.reshape_bufs_sub .., StableHlo.reshape_bufs_sub ..⟩
/-- Stretch 3. -/
abbrev ops3 : List (HloOp τ sig (Elt F)) :=
  [ StableHlo.reshape main_v6_0 main_v7 (rfl : (.f32 : EltTy) = .f32) shapeCasts_S1024x128_S1024x128x1,
    StableHlo.reshape main_v6_1 main_v8 (rfl : (.f32 : EltTy) = .f32) shapeCasts_S1x1_S_ ]
theorem ops3_sub : (ops3 : List (HloOp τ sig (Elt F))).Forall fun op => op.bufs ⊆ StableHlo.tcRefs τ sig :=
  ⟨StableHlo.reshape_bufs_sub .., StableHlo.reshape_bufs_sub ..⟩

/-- The argument arrays. -/
abbrev argRefs : List (Ref sig .tc) := [main_arg0, main_arg1, main_arg2, main_arg3, main_arg4, main_arg5, main_arg6, main_arg7, main_arg8]

theorem ops1_fresh : (ops1 : List (HloOp τ sig (Elt F))).Forall fun op => op.fresh = ∅ := by
  simp only [List.Forall]; repeat' constructor
/-- What stretch 1 writes. -/
abbrev wr1 : List (Ref sig .tc) := [main_cst, main_v0, main_v1]
theorem ops1_writes : (ops1 : List (HloOp τ sig (Elt F))).Forall fun op => op.writes ⊆ (wr1.map (Proc.devRef (τ := τ) .tc)).toFinset :=
  StableHlo.forall_writes_sub_of_map rfl
theorem ops1_args : ∀ a ∈ argRefs, a ∉ wr1 := ListAll.forall_mem_of_all_decide (by decide +kernel)
theorem ops2_fresh : (ops2 : List (HloOp τ sig (Elt F))).Forall fun op => op.fresh = ∅ := by
  simp only [List.Forall]; repeat' constructor
/-- What stretch 2 writes. -/
abbrev wr2 : List (Ref sig .tc) := [main_v3, main_v4, main_v5]
theorem ops2_writes : (ops2 : List (HloOp τ sig (Elt F))).Forall fun op => op.writes ⊆ (wr2.map (Proc.devRef (τ := τ) .tc)).toFinset :=
  StableHlo.forall_writes_sub_of_map rfl
theorem ops2_args : ∀ a ∈ argRefs, a ∉ wr2 := ListAll.forall_mem_of_all_decide (by decide +kernel)
theorem ops3_fresh : (ops3 : List (HloOp τ sig (Elt F))).Forall fun op => op.fresh = ∅ := by
  simp only [List.Forall]; repeat' constructor
/-- What stretch 3 writes. -/
abbrev wr3 : List (Ref sig .tc) := [main_v7, main_v8]
theorem ops3_writes : (ops3 : List (HloOp τ sig (Elt F))).Forall fun op => op.writes ⊆ (wr3.map (Proc.devRef (τ := τ) .tc)).toFinset :=
  StableHlo.forall_writes_sub_of_map rfl
theorem ops3_args : ∀ a ∈ argRefs, a ∉ wr3 := ListAll.forall_mem_of_all_decide (by decide +kernel)

/-! ## The contents at each boundary -/

variable (m : (ℓ : Loc nD τ sig) → Buf (Elt F) ℓ)

/-- A device's buffers at launch. -/
abbrev W0 : Dev nD → Valuation τ sig (Elt F) := fun c b => m (c, b)
theorem W0_args (c : Dev nD) : ∀ a ∈ argRefs, W0 m c (Proc.devRef .tc a) = m ((c : Thread nD τ).loc a) := fun _ _ => rfl

/-- What the core owes the SparseCores before call `n`. -/
abbrev OO (n : ℕ) (c : Dev nD) : CellTallies nD τ sig (HIx 1) := (KK (F := F)).Otc c n
/-- The waits it may have recorded by then. -/
abbrev BB (n : ℕ) (c : Dev nD) : Set (SemLoc sig × HIx 1) := {p | (KK (F := F)).lev ((T c : Thread nD τ), p.1) p.2 ≤ 8 * SparseCore.Cfg.Blocks.fst 1 1 n}

theorem OO_none (n : ℕ) (c : Dev nD) (g : GSem nD τ sig) : OO (F := F) n c g none = 0 := by
  by_contra h
  have h := SparseCore.Cfg.lev_of_Otc_pos (K := KK (F := F)) (d := c) (n := n) (g := g) (ι := none) (Nat.pos_of_ne_zero h)
  rw [SparseCore.Cfg.lev_none] at h; omega

/-- After stretch 1. -/
abbrev W1 : Dev nD → Valuation τ sig (Elt F) := fun c => StableHlo.after ops1 (W0 m c)
theorem W1_of (c : Dev nD) (r : Ref sig .tc) (h : r ∉ wr1) : W1 m c (Proc.devRef .tc r) = W0 m c (Proc.devRef .tc r) :=
  StableHlo.after_of_writes_sub ops1 _ ops1_writes h
theorem W1_args (c : Dev nD) : ∀ a ∈ argRefs, W1 m c (Proc.devRef .tc a) = m ((c : Thread nD τ).loc a) :=
  fun a ha => (W1_of m c a (ops1_args a ha)).trans (W0_args m c a ha)

/-- The table the SparseCores read, the rows they are asked for, and the array they write, before their call. -/
abbrev tabW (d : Dev nD) : Buf (Elt F) (tLoc d) := W1 m d (Proc.devRef .tc main_v1)
abbrev ixsW (d : Dev nD) : Buf (Elt F) (iLoc d) := W1 m d (Proc.devRef .tc main_arg1)
abbrev oldW (d : Dev nD) : Buf (Elt F) (oLoc d) := W1 m d (Proc.devRef .tc main_v2)
/-- After the SparseCore call: the gathered rows in the array they write. -/
def W2 (c : Dev nD) : Valuation τ sig (Elt F) :=
  Function.update (W1 m c) (Proc.devRef .tc main_v2) (gath (tabW m c) (ixsW m c) : Buf (Elt F) (oLoc c))
theorem W2_out (c : Dev nD) : W2 m c (Proc.devRef .tc main_v2) = (gath (tabW m c) (ixsW m c) : Buf (Elt F) (oLoc c)) := by
  unfold W2; exact Function.update_self _ _ _
theorem W2_of' (c : Dev nD) (b : DevRef τ sig) (h : b ≠ Proc.devRef .tc main_v2) : W2 m c b = W1 m c b := by
  unfold W2; exact Function.update_of_ne h _ _
theorem W2_of (c : Dev nD) (r : Ref sig .tc) (h : r ≠ main_v2) : W2 m c (Proc.devRef .tc r) = W1 m c (Proc.devRef .tc r) :=
  W2_of' m c _ fun e => h (Proc.devRef_injective _ e)
theorem W2_args (c : Dev nD) : ∀ a ∈ argRefs, W2 m c (Proc.devRef .tc a) = m ((c : Thread nD τ).loc a) :=
  fun a ha => (W2_of m c a (by revert a; exact ListAll.forall_mem_of_all_decide (by decide +kernel))).trans (W1_args m c a ha)

/-- After stretch 2. -/
abbrev W3 : Dev nD → Valuation τ sig (Elt F) := fun c => StableHlo.after ops2 (W2 m c)
theorem W3_of (c : Dev nD) (r : Ref sig .tc) (h : r ∉ wr2) : W3 m c (Proc.devRef .tc r) = W2 m c (Proc.devRef .tc r) :=
  StableHlo.after_of_writes_sub ops2 _ ops2_writes h
theorem W3_args (c : Dev nD) : ∀ a ∈ argRefs, W3 m c (Proc.devRef .tc a) = m ((c : Thread nD τ).loc a) :=
  fun a ha => (W3_of m c a (ops2_args a ha)).trans (W2_args m c a ha)

/-- The TensorCore's view of it, what the region is entered with. -/
abbrev V3 : (c : Dev nD) → (b : Ref sig .tc) → Buf (Elt F) ((c : Thread nD τ).loc b) := fun c b => W3 m c b
/-- After the region: its arrays at what its write-backs leave, the rest as before. -/
def W4 (c : Dev nD) : Valuation τ sig (Elt F) :=
  Pipeline.withArrays spec1 c (W3 m c) fun w => (dat1 (V3 m) (OO (F := F) 1) (BB (F := F) 1) c).arrAt w cfg1.N
theorem W4_arr (c : Dev nD) (w : Fin cfg1.W) :
    W4 m c (Proc.devRef .tc (Pipeline.arrRef spec1 w)) = (dat1 (V3 m) (OO (F := F) 1) (BB (F := F) 1) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (W4_arr m c w).trans (((dat1 (V3 m) (OO (F := F) 1) (BB (F := F) 1) c).arrAt_in w (h w rfl) _).trans (A_eq1 (V3 m) _ _ c w))
  · exact W4_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m c (Proc.devRef .tc a) = m ((c : Thread nD τ).loc a) :=
  fun a ha => (W4_of m c a (argsIn1 a ha)).trans (W3_args m c a ha)
abbrev V4 : (c : Dev nD) → (b : Ref sig .tc) → Buf (Elt F) ((c : Thread nD τ).loc b) := fun c b => W4 m c b
theorem hF1 (c : Dev nD) (w : Fin cfg1.W) : (dat1 (V3 m) (OO (F := F) 1) (BB (F := F) 1) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After stretch 3. -/
abbrev W5 : Dev nD → Valuation τ sig (Elt F) := fun c => StableHlo.after ops3 (W4 m c)
theorem W5_of (c : Dev nD) (r : Ref sig .tc) (h : r ∉ wr3) : W5 m c (Proc.devRef .tc r) = W4 m c (Proc.devRef .tc r) :=
  StableHlo.after_of_writes_sub ops3 _ ops3_writes h
theorem W5_args (c : Dev nD) : ∀ a ∈ argRefs, W5 m c (Proc.devRef .tc a) = m ((c : Thread nD τ).loc a) :=
  fun a ha => (W5_of m c a (ops3_args a ha)).trans (W4_args m c a ha)

/-! ## The proof data and the regions -/

abbrev adm : (p : Fin 1) → (pcfgs (F := F) p).Adm := fun p => (cfgs p).toPCfg_adm
/-- The region's proof data at the contents it is entered with. -/
def pdats : (p : Fin 1) → (c : Dev nD) → Dat τ (Elt F) (HIx 1) ℕ UU ℕ (Pipeline.pin (pcfgs (F := F)) adm p) c
  | ⟨0, _⟩ => fun c => dat1 (V3 m) (OO (F := F) 1) (BB (F := F) 1) c

/-- What rides beside the buffers: the generator register, and the debts before call `n` with the waits recorded. -/
def RR (n : ℕ) (c : Dev nD) : sProp 𝕄 :=
  iprop((∃ r, prngReg c r) ∗ ∃ W, ⌜(KK (F := F)).WBelow (T c) W (8 * SparseCore.Cfg.Blocks.fst 1 1 n)⌝ ∗ owes (T c : Thread nD τ) (OO (F := F) n c) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The region as a record: from every unscoped buffer at the contents before it to the same at the contents after. -/
def reg1 : Pipeline.RegionSeg (pcfgs (F := F)) adm (pdats m) none defs₀ 𝒱₀ (KK (F := F)).L (KK (F := F)).lev 0 where
  win := launch1.win.to₀
  block_pos := launch1.block_pos
  stage_whole := launch1.stage_whole
  K := PEmpty
  osem k := k.elim
  ho := Pipeline.OwnSemFacts.none _
  hbody c := (body_obligation1 (V3 m) (OO (F := F) 1) (BB (F := F) 1) c).loose
  hwaits c := BI.bigSep_intro_persistent fun w _ => BI.bigSep_intro_persistent fun s _ => BI.bigSep_intro_persistent fun t _ =>
    (KK (F := F)).mayWait_none _ (OO_none (F := F) 1 c)
  pre c := iprop(StableHlo.held (c : Thread nD τ) (Pipeline.ucRefs τ sig) (W3 m c) ∗ RR (F := F) 1 c)
  post c := iprop(StableHlo.held (c : Thread nD τ) (Pipeline.ucRefs τ sig) (W4 m c) ∗ RR (F := F) 1 c)
  X c := iprop(∃ r, prngReg c r)
  Y c := iprop(∃ r, prngReg c r)
  Z c := Pipeline.unscopedRest (Ix := HIx 1) (Name := ℕ) (U := UU) (Lvl := ℕ) spec1 c (V3 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V3 m c) (A_eq1 (V3 m) _ _ c)
    rw [Pipeline.unscopedBufs_held] at hsplit
    unfold RR
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun q hq => Or.inl (hW q hq)
      iexact HO
    isplitl [Hp]; · iexact Hp
    iexact Hrest
  hin c := by
    rw [show (pdats m 0 c).Φ 0 = ΦR spec1 c from rfl]; unfold ΦR
    iintro ⟨Hp, -, Hr⟩
    isplitl [Hr]; · iexact Hr
    iexact Hp
  hout c := by
    rw [Pipeline.ownSems0_none, show (pdats m 0 c).Φ (Fin.last _) = ΦR spec1 c from rfl]; unfold ΦR
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (V3 m c) (V4 m c) ((pdats m 0 c).arrAt · cfg1.N) (hF1 m c) (hrest1 m c)
    rw [Pipeline.unscopedBufs_held] at hjoin
    unfold RR
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro q hq
      rcases hW (show q ∈ (↑W : Set _) from hq) with h | ⟨w, s, rfl⟩
      · exact h
      · exact Nat.zero_le _
    iexact HO

end Cert.Proof.B
-- ==== Proof.BLaunch.lean ====
/- The launch: the ghost state dealt to the handshakes and to the region, the TensorCore's program from the launch to
   the return, and the program's run, every unscoped buffer read at its last contents. -/
module

public import proofs.«01_k».proof.Proof.BChain

@[expose] public section

set_option maxRecDepth 16384

noncomputable section

namespace Cert.Proof.B

open Cert.RebuildIdeal Cert.RebuildIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

/-- Where the region's rounds live. -/
abbrev EP : Emb (UR sig nD τ) 𝕄 := (Emb.inl : Emb (UR sig nD τ) (UR sig nD τ × Counters)).trans embR

variable (m : (ℓ : Loc nD τ sig) → Buf (Elt F) ℓ) (ρ : Dev nD → PrngReg)

/-! ## The ghost state -/

def u₀ : UU := (initOf (KK (F := F)).hsCells (KK (F := F)).hsToks,
  (initOf (Pipeline.cells cfgs cellOf_inj) (Pipeline.launchToks cfgs cellOf_inj), 1))

/-- What a device's program is dealt of the region's rounds. -/
abbrev GG (d : Dev nD) : sProp 𝕄 := Pipeline.ghostOn (pcfgs (F := F)) adm EP {0} d

abbrev PW := PP (F := F) (tabW m) (ixsW m) (oldW m)

set_option backward.isDefEq.respectTransparency.types false in
theorem deal_one (d : Dev nD) :
    iprop((bigSep Finset.univ fun p => Pipeline.cellsGhost cfgs EP p d) ∗ (bigSep Finset.univ fun p => Pipeline.toksInit cfgs EP p d)) ⊢ (GG d : sProp 𝕄) := by
  rw [← bigSep_sep' (Finset.univ : Finset (Fin 1)), show (Finset.univ : Finset (Fin 1)) = {0} by decide]
  unfold GG Pipeline.ghostOn Pipeline.PerCore.ghostOn
  simp only [bigSep_singleton]
  exact .rfl

set_option backward.isDefEq.respectTransparency.types false in
theorem deal :
    iprop((bigSep Finset.univ fun c : Dev nD => bigSep Finset.univ fun p => Pipeline.cellsGhost cfgs EP p c)
          ∗ (bigSep Finset.univ fun c : Dev nD => bigSep Finset.univ fun p => Pipeline.toksInit cfgs EP p c)) ⊢ (bigSep Finset.univ fun d : Dev nD => GG (F := F) d : sProp 𝕄) := by
  rw [← bigSep_sep' (Finset.univ : Finset (Dev nD))]
  exact bigSep_mono fun d _ => deal_one d

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (KK (F := F)).hsCells (KK (F := F)).hsToks)) ∗ (bigSep Finset.univ fun d : Dev nD => GG d)
        ∗ bigSep Finset.univ fun thr : Thread nD τ => bigSep Finset.univ fun q : Fin 1 => (PW m).x q thr) := by
  unfold u₀
  iintro Hu
  ihave H := (ownU_pair (initOf (KK (F := F)).hsCells (KK (F := F)).hsToks)
    ((initOf (Pipeline.cells cfgs cellOf_inj) (Pipeline.launchToks cfgs cellOf_inj), 1) : UR sig nD τ × Counters)) $$ Hu
  icases H with ⟨HH, HR⟩
  ihave H := (own_pair_emb embR (initOf (Pipeline.cells cfgs cellOf_inj) (Pipeline.launchToks cfgs cellOf_inj)) (1 : Counters)) $$ HR
  icases H with ⟨HP, -⟩
  imod (Pipeline.fund_ghost cfgs EP cellOf_inj) $$ HP with HG
  ihave HG := deal $$ HG
  imodintro
  isplitl [HH]; · iexact HH
  isplitl [HG]; · iexact HG
  rw [show (bigSep Finset.univ fun thr : Thread nD τ => bigSep Finset.univ fun q : Fin 1 => (PW (F := F) m).x q thr) = bigSep Finset.univ fun _ => iprop(emp) from
    bigSep_congr fun _ _ => bigSep_univ_of_subsingleton (0 : Fin 1), emps]
  iempintro

/-- No region runs before the SparseCore call. -/
theorem GA (d : Dev nD) : ⊢ (Pipeline.ghostOn (pcfgs (F := F)) adm EP ∅ d : sProp 𝕄) := by
  unfold Pipeline.ghostOn Pipeline.PerCore.ghostOn
  rw [BI.bigSep_empty]
  exact .rfl

/-! ## The program -/

/-- A stretch of host operations as a segment. -/
abbrev hseg (n : ℕ) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (KK (F := F)).L (KK (F := F)).lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (RR (F := F) n)

abbrev Segs := List (Pipeline.Seg (pcfgs (F := F)) adm (pdats m) none defs₀ 𝒱₀ (KK (F := F)).L (KK (F := F)).lev)

/-- Up to the SparseCore call, -/
abbrev segsA : Segs m :=
  [ .host (hseg 0 ops1 ops1_sub ops1_fresh (W0 m)) ]
/-- and from it to the return. -/
abbrev segsB : Segs m :=
  [ .host (hseg 1 ops2 ops2_sub ops2_fresh (W2 m)), .region (reg1 m), .host (hseg 1 ops3 ops3_sub ops3_fresh (W4 m)) ]

theorem main_run (d : Dev nD) : main (F := F) d
    = (SparseCore.liftProg (Q := 1) (Pipeline.Seg.run (segsA m)) >>= fun _ => (KK (F := F)).run d 0 >>= fun _ => SparseCore.liftProg (Q := 1) (Pipeline.Seg.run (segsB m))) := by
  chain_rfl

/-- The thread's state between segments. -/
abbrev TS (n : ℕ) (W : Dev nD → Valuation τ sig (Elt F)) (c : Dev nD) : sProp 𝕄 :=
  iprop(StableHlo.held (c : Thread nD τ) (Pipeline.ucRefs τ sig) (W c) ∗ RR (F := F) n c)

instance : (EP (F := F)).LandsIn (upEmb : UEmb _ 𝕄) := by unfold EP; infer_instance

theorem runA [∀ e, Nonempty (Elt F e)] (d : Dev nD) (Q : PUnit → sProp 𝕄) :
    iprop((iprop(boundary (d.tc : Thread nD τ) ∗ TS 0 (W1 m) d) -∗ Q ⟨⟩) ∗ boundary (d.tc : Thread nD τ) ∗ TS 0 (W0 m) d
        ∗ levAts (KK (F := F)).L (KK (F := F)).lev ∗ Pipeline.ghostOn (pcfgs (F := F)) adm EP ∅ d)
      ⊢ wp frame (wpE (DD (F := F)) 𝒱 (d.tc : Thread nD τ) none) Set.univ (Pipeline.Seg.run (segsA m)) Q :=
  Pipeline.wp_segs (pcfgs (F := F)) adm (pdats m) none cellOf_inj EP defs₀ 𝒱₀ (KK (F := F)).L (KK (F := F)).lev d (segsA m) ∅
    (TS 0 (W0 m)) (TS 0 (W1 m))
    (by simp only [segsA, Pipeline.Seg.pipes_host, Pipeline.Seg.pipes_region, Pipeline.Seg.pipes_nil]; decide)
    (by simp only [segsA, Pipeline.Seg.pipes_host, Pipeline.Seg.pipes_region, Pipeline.Seg.pipes_nil]; decide)
    ⟨fun _ => .rfl, fun _ => .rfl⟩

theorem runB [∀ e, Nonempty (Elt F e)] (d : Dev nD) (Q : PUnit → sProp 𝕄) :
    iprop((iprop(boundary (d.tc : Thread nD τ) ∗ TS 1 (W5 m) d) -∗ Q ⟨⟩) ∗ boundary (d.tc : Thread nD τ) ∗ TS 1 (W2 m) d
        ∗ levAts (KK (F := F)).L (KK (F := F)).lev ∗ Pipeline.ghostOn (pcfgs (F := F)) adm EP {0} d)
      ⊢ wp frame (wpE (DD (F := F)) 𝒱 (d.tc : Thread nD τ) none) Set.univ (Pipeline.Seg.run (segsB m)) Q :=
  Pipeline.wp_segs (pcfgs (F := F)) adm (pdats m) none cellOf_inj EP defs₀ 𝒱₀ (KK (F := F)).L (KK (F := F)).lev d (segsB m) {0}
    (TS 1 (W2 m)) (TS 1 (W5 m))
    (by simp only [segsB, Pipeline.Seg.pipes_host, Pipeline.Seg.pipes_region, Pipeline.Seg.pipes_nil]; decide)
    (by simp only [segsB, Pipeline.Seg.pipes_host, Pipeline.Seg.pipes_region, Pipeline.Seg.pipes_nil]; decide)
    ⟨fun _ => .rfl, fun _ => .rfl, fun _ => .rfl, fun _ => .rfl⟩

/-! ### The call: its three arrays out of the buffers and back -/

abbrev rT : DevRef τ sig := Proc.devRef .tc main_v1
abbrev rI : DevRef τ sig := Proc.devRef .tc main_arg1
abbrev rO : DevRef τ sig := Proc.devRef .tc main_v2
/-- The buffers the call does not touch. -/
abbrev others : Finset (DevRef τ sig) := ((Pipeline.ucRefs τ sig \ {rT}) \ {rI}) \ {rO}

theorem uc_cut : Pipeline.ucRefs τ sig = insert rT (insert rI (insert rO others)) := by
  have h1 : rT ∈ Pipeline.ucRefs τ sig := mem_uc main_v1 (by decide)
  have h2 : rI ∈ Pipeline.ucRefs τ sig := mem_uc main_arg1 (by decide)
  have h3 : rO ∈ Pipeline.ucRefs τ sig := mem_uc main_v2 (by decide)
  ext b
  simp only [Finset.mem_insert, Finset.mem_sdiff, Finset.mem_singleton]
  constructor
  · intro hb
    by_cases e1 : b = rT; · exact .inl e1
    by_cases e2 : b = rI; · exact .inr (.inl e2)
    by_cases e3 : b = rO; · exact .inr (.inr (.inl e3))
    exact .inr (.inr (.inr ⟨⟨⟨hb, e1⟩, e2⟩, e3⟩))
  · rintro (rfl | rfl | rfl | ⟨⟨⟨hb, -⟩, -⟩, -⟩)
    exacts [h1, h2, h3, hb]

theorem neTI : rT ≠ rI := fun e => absurd (Proc.devRef_injective _ e) (by decide)
theorem neTO : rT ≠ rO := fun e => absurd (Proc.devRef_injective _ e) (by decide)
theorem neIO : rI ≠ rO := fun e => absurd (Proc.devRef_injective _ e) (by decide)

theorem held_cut (d : Dev nD) (W : Valuation τ sig (Elt F)) :
    (StableHlo.held (d.tc : Thread nD τ) (Pipeline.ucRefs τ sig) W : sProp 𝕄)
      = iprop((tLoc d ↦{fullShare} (W rT : Buf (Elt F) (tLoc d))) ∗ (iLoc d ↦{fullShare} (W rI : Buf (Elt F) (iLoc d)))
          ∗ (oLoc d ↦{fullShare} (W rO : Buf (Elt F) (oLoc d))) ∗ StableHlo.held (d.tc : Thread nD τ) others W) := by
  rw [uc_cut]; unfold StableHlo.held
  rw [SparseCore.bigSep_insert' (by simp [neTI, neTO]), SparseCore.bigSep_insert' (by simp [neIO]),
    SparseCore.bigSep_insert' (by simp)]

theorem held_others (d : Dev nD) :
    (StableHlo.held (d.tc : Thread nD τ) others (W2 m d) : sProp 𝕄) = StableHlo.held (d.tc : Thread nD τ) others (W1 m d) := by
  unfold StableHlo.held
  refine bigSep_congr fun b hb => ?_
  rw [W2_of' m d b (fun e => (Finset.mem_sdiff.mp hb).2 (Finset.mem_singleton.mpr e))]

theorem call_st (d : Dev nD) : (StableHlo.held (d.tc : Thread nD τ) (Pipeline.ucRefs τ sig) (W1 m d) : sProp 𝕄)
    ⊢ iprop((bigSep Finset.univ fun c : Fin ((KK (F := F)).nCore 0) => (PW m).st 0 d c) ∗ StableHlo.held (d.tc : Thread nD τ) others (W1 m d)) := by
  rw [held_cut, st_eq (tabW m) (ixsW m) (oldW m) d]
  iintro ⟨H1, H2, H3, H4⟩
  isplitr [H4]
  · isplitl [H1]; · iexact H1
    isplitl [H2]; · iexact H2
    iexact H3
  · iexact H4

theorem call_dn (d : Dev nD) : iprop((bigSep Finset.univ fun c : Fin ((KK (F := F)).nCore 0) => (PW m).dn 0 d c) ∗ StableHlo.held (d.tc : Thread nD τ) others (W1 m d))
    ⊢ (StableHlo.held (d.tc : Thread nD τ) (Pipeline.ucRefs τ sig) (W2 m d) : sProp 𝕄) := by
  rw [held_cut, dn_eq (tabW m) (ixsW m) (oldW m) d, held_others, W2_out, W2_of' m d rT neTO, W2_of' m d rI neIO]
  iintro ⟨⟨H1, H2, H3⟩, H4⟩
  isplitl [H1]; · iexact H1
  isplitl [H2]; · iexact H2
  isplitl [H3]; · iexact H3
  iexact H4

/-- What a device's program keeps at the return: every unscoped buffer at its last contents. -/
abbrev FIN (d : Dev nD) : sProp 𝕄 := StableHlo.held (d.tc : Thread nD τ) (Pipeline.ucRefs τ sig) (W5 m d)

theorem hmain [∀ e, Nonempty (Elt F e)] (κ : GSem nD τ sig → ℕ) (d : Dev nD) :
    iprop((KK (F := F)).ctx EH (PW m) κ ∗ (KK (F := F)).tcSt EH d 0 ∗ (KK (F := F)).tcRes m ρ d ∗ GG d)
      ⊢ wp frame (wpE ((KK (F := F)).defs (DD (F := F))) 𝒱 (SparseCore.T d) none) Set.univ (main d)
          fun _ => iprop((KK (F := F)).tcSt EH d 1 ∗ FIN m d ∗ (KK (F := F)).tcEnd d) := by
  unfold SparseCore.Cfg.tcRes SparseCore.Cfg.tcEnd
  rw [main_run m d, show unscopedBufs d (fun b => m ((SparseCore.T d).loc b)) = StableHlo.held (d.tc : Thread nD τ) (Pipeline.ucRefs τ sig) (W0 m d)
        from Pipeline.unscopedBufs_held d (W0 m d)]
  simp only [wp_bind]
  iintro ⟨#Hctx, Hst, ⟨Hb, Hbufs, Hts, Hprng⟩, HGB⟩
  ihave #Hlev := (SparseCore.Cfg.ctx_levAts (K := KK (F := F)) κ) $$ Hctx
  unfold SparseCore.Cfg.tcSt
  icases Hst with ⟨HO, Hrest⟩
  iapply ((KK (F := F)).wp_liftProg (DD (F := F)) 𝒱 (SparseCore.T d) Set.univ none)
  iapply (runA m d)
  isplitr [Hb Hbufs Hprng HO]
  · iintro ⟨Hb, Hbufs, HRR⟩
    unfold RR
    icases HRR with ⟨Hprng, HO⟩
    ihave H := (call_st m d) $$ Hbufs
    icases H with ⟨Hcall, Hoth⟩
    iapply ((KK (F := F)).wp_run (DD (F := F)) 𝒱 (EH := EH) (P := PW m) κ d 0)
    isplitr; · iexact Hctx
    isplitl [HO Hrest]
    · unfold SparseCore.Cfg.tcSt
      isplitl [HO]; · iexact HO
      iexact Hrest
    isplitl [Hcall]; · iexact Hcall
    iintro ⟨Hst, Hdn⟩
    unfold SparseCore.Cfg.tcSt
    icases Hst with ⟨HO, Hrest⟩
    iapply ((KK (F := F)).wp_liftProg (DD (F := F)) 𝒱 (SparseCore.T d) Set.univ none)
    iapply (runB m d)
    isplitr [Hb Hprng HO HGB Hdn Hoth]
    · iintro ⟨Hb, Hbufs, HRR⟩
      unfold RR
      icases HRR with ⟨-, HO⟩
      isplitl [HO Hrest]
      · isplitl [HO]; · iexact HO
        iexact Hrest
      isplitl [Hbufs]; · iexact Hbufs
      isplitl [Hb] <;> iassumption
    isplitl [Hb]; · iexact Hb
    isplitl [Hprng HO Hdn Hoth]
    · isplitl [Hdn Hoth]
      · iapply (call_dn m d); isplitl [Hdn] <;> iassumption
      unfold RR
      isplitl [Hprng]; · iexact Hprng
      iexact HO
    isplitr; · iexact Hlev
    iexact HGB
  isplitl [Hb]; · iexact Hb
  isplitl [Hbufs Hprng HO]
  · isplitl [Hbufs]; · iexact Hbufs
    unfold RR
    isplitl [Hprng]; · iexists _; iexact Hprng
    iexact HO
  isplitr; · iexact Hlev
  iapply GA d

/-! ## The run -/

def fq (d : Dev nD) (s' : Phys nD τ sig (Elt F)) : Prop := ∀ b ∈ Pipeline.ucRefs τ sig, s'.mem.mem (d, b) = W5 m d b

theorem hfin (d : Dev nD) (s' : Phys nD τ sig (Elt F)) : iprop(FIN m d ∗ SI s') ⊢ (⌜fq m d s'⌝ : sProp 𝕄) := by
  unfold FIN StableHlo.held fq
  exact (pointsTo_read_all (Pipeline.ucRefs τ sig) (fun b => (d, b)) (W5 m d) s').trans sep_elim_left

/-- The run of `rebuild`: every unscoped buffer ends at its last contents and every counter at zero, if every index the
    SparseCores are given names a row of the table. -/
theorem run_main [∀ e, Nonempty (Elt F e)] (hin : ∀ d j, (ixsW m d j : BitVec 32).toNat < 8192) :
    θ_run (Cert.RebuildIdeal.defs (F := F)) (Cert.RebuildIdeal.threads (F := F)) ⟨m, fun _ => 0, ρ⟩
      (fun r => (∀ (d : Dev nD) (b : DevRef τ sig), b ∈ Pipeline.ucRefs τ sig → r.2.mem (d, b) = W5 m d b) ∧ r.2.sem = fun _ => 0) :=
  SparseCore.Cfg.θ_run_sc_quiescent (K := KK (F := F)) (D := DD (F := F)) (𝒱 := 𝒱) (EH := EH) (P := PW m) (A := ∅) facts v₀
    (fun q hq => match q with | 0 => nomatch hq)
    (fun q _ => match q with | 0 => tileObl (tabW m) (ixsW m) (oldW m) hin)
    (fun q _ => match q with | 0 => SparseCore.Cfg.VecSplit.of_plain (vecSplit (tabW m) (ixsW m) (oldW m)))
    m ρ main GG (FIN m) (u₀ (F := F)) (sep_elim_left.trans (hu₀ m)) (hmain m ρ) (fq m) (hfin m) _ (fun _ h hz => ⟨fun d b hb => h d b hb, hz⟩)

end Cert.Proof.B
-- ==== Proof.BReg.lean ====
/- What the decoder's region of `rebuild` leaves in its two output arrays, at the arrays it is entered with. -/
module

public import proofs.«01_k».proof.Proof.BRegions
public import proofs.«01_k».proof.Proof.Nets
public import Idealize.ShloMosaic.Lib.Pipeline.ValueKit

@[expose] public section

set_option maxRecDepth 16384

noncomputable section

namespace Cert.Proof.B

open Cert.RebuildIdeal Cert.RebuildIdeal.Gen Cert.Proof.M
open Idealize.ShloMosaic Idealize.ShloMosaic.TcCoe
open Idealize.ShloMosaic.SparseCore.Cfg (HIx)
open Idealize.SL.Sem

variable (V : (c : Dev nD) → (b : Ref sig .tc) → Buf (Elt Ideal) ((c : Thread nD τ).loc b))
variable (O : (c : Dev nD) → CellTallies nD τ sig (HIx 1)) (B : (c : Dev nD) → Set (SemLoc sig × HIx 1)) (c : Dev nD)

/-! ## The payloads at an index -/

theorem hid_at (v0 v2 : Vec Ideal S1024x64 .f32) (v16 : Vec Ideal S64x128 .f32) (v18 : Vec Ideal S1x128 .f32)
    (v25 : Vec Ideal S128x64 .f32) (v27 : Vec Ideal S1x64 .f32) (v34 : Vec Ideal S64x128 .f32) (v36 : Vec Ideal S1x128 .f32)
    (i : Fin 1024) (o : Fin 128) :
    k1_pay1 (k1_pay4 v0 v2 v16 v18 v25 v27) v34 (constant S1024x128 .f32 0x00000000#32) v36 (ix2 i o)
      = dec (fun c => v0 (ix2 i c) + (v2 (ix2 i c) - v0 (ix2 i c))) (fun c p => v16 (ix2 c p)) (fun p => v18 (ix2 0 p))
          (fun c p => v25 (ix2 c p)) (fun p => v27 (ix2 0 p)) (fun c p => v34 (ix2 c p)) (fun p => v36 (ix2 0 p)) o := by
  unfold dec lk cs
  pointwise [k1_pay1, k1_pay4, k1_pay2]

theorem loss_at (v0 v2 : Vec Ideal S1024x64 .f32) :
    k1_pay3 v0 v2 (ix2 0 0) = loss (fun i c => v0 (ix2 i c)) (fun i c => v2 (ix2 i c)) := by
  unfold loss
  pointwise [k1_pay3, k1_pay2]

/-! ## The arrays -/

def aZ3 : FVec Ideal S1024x64 .f32 := V c main_arg0
def bQ : FVec Ideal S1024x128 .f32 := V c main_v2
def bW1 : FVec Ideal S64x128 .f32 := V c main_arg3
def bB1 : FVec Ideal S1x128 .f32 := V c main_v3
def bW2 : FVec Ideal S128x64 .f32 := V c main_arg5
def bB2 : FVec Ideal S1x64 .f32 := V c main_v4
def bW3 : FVec Ideal S64x128 .f32 := V c main_arg7
def bB3 : FVec Ideal S1x128 .f32 := V c main_v5

/-- The lane of a row of 128 that holds component `x`. -/
def lane (x : Fin 64) : Fin 128 := ⟨x.val, by omega⟩

theorem index1 (t : Fin cfg1.N) : win1_0.index t = ![0, 0] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![0, 0] := by
  revert t; decide +kernel

theorem q_at (i : Fin 1024) (x : Fin 64) : View.ld (iblk1 V c 1 t1_0) r1_1 (ix2 i x) = bQ V c (ix2 i (lane x)) := by
  obtain ⟨i0, i1, i2, i3, i4, i5, i6, i7⟩ := index1 t1_0
  have e : r1_1.idx (ix2 i x) = (ix2 i (lane x) : S1024x128.Idx) := by
    funext a
    match a with
    | 0 => exact Fin.ext ((Rect.idx_unit_val ..).trans (by simp))
    | 1 => exact Fin.ext ((Rect.idx_unit_val ..).trans (by simp [lane]))
  rw [View.ld_apply]
  refine (congrArg (iblk1 V c 1 t1_0) e).trans ?_
  unfold bQ; blk_ext [iblk1, i1]

theorem z_at (i : Fin 1024) (x : Fin 64) : iblk1 V c 0 t1_0 (ix2 i x) = aZ3 V c (ix2 i x) := by
  obtain ⟨i0, i1, i2, i3, i4, i5, i6, i7⟩ := index1 t1_0
  unfold aZ3; blk_ext [iblk1, i0]

/-- The loss of the arrays the region is entered with. -/
def lossG : FVec Ideal S1x1 .f32 := fun _ =>
  loss (fun i x => aZ3 V c (ix2 i x)) (fun i x => bQ V c (ix2 i (lane x)))

theorem arr1_9 : (dat1 V O B c).arrAt 9 cfg1.N = lossG V c := by
  refine (dat1 V O B c).arrAt_eq_of_after_last 9 t1_0 (by decide +kernel) _ fun j => ?_
  blk_simp
  rw [after1_9]
  frame_out
  obtain rfl : j = ix2 0 0 := by
    funext a
    match a with
    | 0 => exact Subsingleton.elim (α := Fin 1) _ _
    | 1 => exact Subsingleton.elim (α := Fin 1) _ _
  refine (loss_at _ _).trans ?_
  unfold lossG
  congr 1
  · funext i x; exact z_at V c i x
  · funext i x; exact q_at V c i x

/-- The decoder of the arrays the region is entered with. -/
def decG : FVec Ideal S1024x128 .f32 := fun j =>
    dec (fun x => aZ3 V c (ix2 (j 0) x) + (bQ V c (ix2 (j 0) (lane x)) - aZ3 V c (ix2 (j 0) x)))
      (fun x p => bW1 V c (ix2 x p)) (fun p => bB1 V c (ix2 0 p))
      (fun x p => bW2 V c (ix2 x p)) (fun p => bB2 V c (ix2 0 p))
      (fun x p => bW3 V c (ix2 x p)) (fun p => bB3 V c (ix2 0 p)) (j 1)

theorem arr1_8 : (dat1 V O B c).arrAt 8 cfg1.N = decG V c := by
  refine (dat1 V O B c).arrAt_eq_of_after_last 8 t1_0 (by decide +kernel) _ fun j => ?_
  blk_simp
  rw [after1_8]
  frame_out
  rw [eq_ix2 j]
  refine (hid_at _ _ _ _ _ _ _ _ _ _).trans ?_
  unfold decG
  obtain ⟨i0, i1, i2, i3, i4, i5, i6, i7⟩ := index1 t1_0
  congr 1
  · funext x; exact (congrArg₂ (fun a b : EReal => a + (b - a)) (z_at V c _ x) (q_at V c _ x))
  · funext c' l; unfold bW1; blk_ext [iblk1, i2]
  · funext l; unfold bB1; blk_ext [iblk1, i3]
  · funext c' l; unfold bW2; blk_ext [iblk1, i4]
  · funext l; unfold bB2; blk_ext [iblk1, i5]
  · funext c' l; unfold bW3; blk_ext [iblk1, i6]
  · funext l; unfold bB3; blk_ext [iblk1, i7]

end Cert.Proof.B
-- ==== Proof.BValue.lean ====
/- The contents of `rebuild`'s arrays at each boundary of its run, as the plain formulas of its arguments: the gathered rows of
   the codebook, the decoder's rows and the loss. -/
module

public import proofs.«01_k».proof.Proof.BChain
public import proofs.«01_k».proof.Proof.BReg

@[expose] public section

set_option maxRecDepth 16384

noncomputable section

namespace Cert.Proof.B

open Cert.RebuildIdeal Cert.RebuildIdeal.Gen Cert.Proof.M
open Idealize.ShloMosaic Idealize.ShloMosaic.TcCoe Idealize.ShloMosaic.StableHlo
open Idealize.ShloMosaic.SparseCore.Cfg (HIx)
open Idealize.SL.Sem

variable (m : (ℓ : Loc nD τ sig) → Buf (Elt Ideal) ℓ) (c : Dev nD)

def X0 : FVec Ideal S1024x64 .f32 := m ((c : Thread nD τ).loc main_arg0)
def X1 : IVec S1024 32 := m ((c : Thread nD τ).loc main_arg1)
def X2 : FVec Ideal S8192x64 .f32 := m ((c : Thread nD τ).loc main_arg2)
def X3 : FVec Ideal S64x128 .f32 := m ((c : Thread nD τ).loc main_arg3)
def X4 : FVec Ideal S128 .f32 := m ((c : Thread nD τ).loc main_arg4)
def X5 : FVec Ideal S128x64 .f32 := m ((c : Thread nD τ).loc main_arg5)
def X6 : FVec Ideal S64 .f32 := m ((c : Thread nD τ).loc main_arg6)
def X7 : FVec Ideal S64x128 .f32 := m ((c : Thread nD τ).loc main_arg7)
def X8 : FVec Ideal S128 .f32 := m ((c : Thread nD τ).loc main_arg8)

/-- The row of the codebook asked for at `r`. -/
def kk (r : Fin 1024) : Fin 8192 := ⟨(X1 m c (ix1 r)).toNat % 8192, Nat.mod_lt _ (by decide)⟩

/-! ## The gathered rows -/

theorem W0_a2 : W0 m c (Proc.devRef .tc main_arg2) = X2 m c := W0_args m c main_arg2 (by decide)
theorem W1_v1 : W1 m c (Proc.devRef .tc main_v1)
    = concatenate S8192x128 1 [⟨S8192x64, X2 m c⟩, ⟨S8192x64, broadcastInDim S8192x64 ![] bcast_S_S8192x64 (constant (F := Ideal) S_ .f32 0x00000000#32)⟩]
        concatenates_S8192x64_S8192x64_S8192x128_d1 := by
  rw [← W0_a2]; simp only [W1, ops1]; after_results_simp
  refine concatenate_congr _ _ (congrArg₂ (fun a b : FVec Ideal S8192x64 .f32 =>
    ([⟨S8192x64, a⟩, ⟨S8192x64, b⟩] : List ((s : Shape) × (s.Idx → Ideal .f32)))) ?_ ?_) _ _ <;> after_results_simp

theorem tab_at (q : Fin 8192) (x : Fin 64) : tabW m c (ix2 q (lane x)) = X2 m c (ix2 q x) := by
  refine (congrFun (W1_v1 m c) (ix2 q (lane x))).trans ?_
  pointwise []
  have h : (lane x).val < 64 := x.isLt
  rw [dif_pos h]
  rfl

theorem ixs_eq : ixsW m c = X1 m c := W1_args m c main_arg1 (by decide)

theorem gat_at (r : Fin 1024) (x : Fin 64) : W2 m c (Proc.devRef .tc main_v2) (ix2 r (lane x)) = X2 m c (ix2 (kk m c r) x) := by
  refine (congrFun (W2_out m c) (ix2 r (lane x))).trans ?_
  rw [← tab_at m c]
  unfold gath
  refine congrArg (tabW m c) ?_
  have hl : lix r = ix1 r := eq_ix1 _
  funext a
  match a with
  | 0 =>
    refine Fin.ext ?_
    show (ixsW m c (lix r) : BitVec 32).toNat % 8192 = (X1 m c (ix1 r)).toNat % 8192
    rw [ixs_eq, hl]
  | 1 => rfl

/-! ## The decoder -/

theorem z3 : aZ3 (V3 m) c = X0 m c := W3_args m c main_arg0 (by decide)
theorem W3_v2 : W3 m c (Proc.devRef .tc main_v2) = W2 m c (Proc.devRef .tc main_v2) := W3_of m c main_v2 (by decide)
theorem W2_a4 : W2 m c (Proc.devRef .tc main_arg4) = X4 m c := W2_args m c main_arg4 (by decide)
theorem W2_a6 : W2 m c (Proc.devRef .tc main_arg6) = X6 m c := W2_args m c main_arg6 (by decide)
theorem W2_a8 : W2 m c (Proc.devRef .tc main_arg8) = X8 m c := W2_args m c main_arg8 (by decide)
theorem W3_v3 : W3 m c (Proc.devRef .tc main_v3) = shapeCast S1x128 (X4 m c) shapeCasts_S128_S1x128 := by
  rw [← W2_a4]; simp only [W3, ops2]; after_results_simp; rfl
theorem W3_v4 : W3 m c (Proc.devRef .tc main_v4) = shapeCast S1x64 (X6 m c) shapeCasts_S64_S1x64 := by
  rw [← W2_a6]; simp only [W3, ops2]; after_results_simp; rfl
theorem W3_v5 : W3 m c (Proc.devRef .tc main_v5) = shapeCast S1x128 (X8 m c) shapeCasts_S128_S1x128 := by
  rw [← W2_a8]; simp only [W3, ops2]; after_results_simp; rfl
theorem d1_at (p : Fin 128) : bB1 (V3 m) c (ix2 0 p) = X4 m c (ix1 p) := by
  refine (congrFun (W3_v3 m c) (ix2 0 p)).trans ?_
  pointwise []
theorem d2_at (p : Fin 64) : bB2 (V3 m) c (ix2 0 p) = X6 m c (ix1 p) := by
  refine (congrFun (W3_v4 m c) (ix2 0 p)).trans ?_
  pointwise []
theorem d3_at (p : Fin 128) : bB3 (V3 m) c (ix2 0 p) = X8 m c (ix1 p) := by
  refine (congrFun (W3_v5 m c) (ix2 0 p)).trans ?_
  pointwise []
theorem q3 (r : Fin 1024) (x : Fin 64) : bQ (V3 m) c (ix2 r (lane x)) = X2 m c (ix2 (kk m c r) x) :=
  (congrFun (W3_v2 m c) (ix2 r (lane x))).trans (gat_at m c r x)

/-- The decoder's rows. -/
def oK (r : Fin 1024) (o : Fin 128) : EReal :=
  dec (fun x => X0 m c (ix2 r x) + (X2 m c (ix2 (kk m c r) x) - X0 m c (ix2 r x)))
    (fun x p => X3 m c (ix2 x p)) (fun p => X4 m c (ix1 p)) (fun x p => X5 m c (ix2 x p)) (fun p => X6 m c (ix1 p))
    (fun x p => X7 m c (ix2 x p)) (fun p => X8 m c (ix1 p)) o
/-- The loss. -/
def lK : EReal := loss (fun r x => X0 m c (ix2 r x)) (fun r x => X2 m c (ix2 (kk m c r) x))

def oA : FVec Ideal S1024x128 .f32 := fun j => oK m c (j 0) (j 1)
def lA : FVec Ideal S1x1 .f32 := fun _ => lK m c

theorem decG_eq : decG (V3 m) c = oA m c := by
  have e0 : bW1 (V3 m) c = X3 m c := W3_args m c main_arg3 (by decide)
  have e1 : bW2 (V3 m) c = X5 m c := W3_args m c main_arg5 (by decide)
  have e2 : bW3 (V3 m) c = X7 m c := W3_args m c main_arg7 (by decide)
  funext j
  unfold decG oA oK
  rw [e0, e1, e2, z3]
  congr 1
  · funext x; exact congrArg (fun b : EReal => X0 m c (ix2 (j 0) x) + (b - X0 m c (ix2 (j 0) x))) (q3 m c (j 0) x)
  · funext p; exact d1_at m c p
  · funext p; exact d2_at m c p
  · funext p; exact d3_at m c p
theorem lossG_eq : lossG (V3 m) c = lA m c := by
  funext j
  unfold lossG lA lK
  rw [z3]
  congr 1
  funext r x; exact q3 m c r x

theorem W4_o : W4 m c (Proc.devRef .tc main_v6_0) = oA m c :=
  (W4_arr m c 8).trans ((arr1_8 (V3 m) _ _ c).trans (decG_eq m c))
theorem W4_l : W4 m c (Proc.devRef .tc main_v6_1) = lA m c :=
  (W4_arr m c 9).trans ((arr1_9 (V3 m) _ _ c).trans (lossG_eq m c))

/-! ## The results -/

theorem W5_o (i : Fin 1024) (o : Fin 128) : W5 m c (Proc.devRef .tc main_v7) (ix3 i o 0) = oK m c i o := by
  have e : W5 m c (Proc.devRef .tc main_v7) = shapeCast S1024x128x1 (oA m c) shapeCasts_S1024x128_S1024x128x1 := by
    rw [← W4_o]; simp only [W5, ops3]; after_results_simp; rfl
  refine (congrFun e (ix3 i o 0)).trans ?_
  pointwise [oA]
theorem W5_l : W5 m c (Proc.devRef .tc main_v8) = fun _ : S_.Idx => lK m c := by
  have e : W5 m c (Proc.devRef .tc main_v8) = shapeCast S_ (lA m c) shapeCasts_S1x1_S_ := by
    rw [← W4_l]; simp only [W5, ops3]; after_results_simp; rfl
  refine e.trans ?_
  rfl

end Cert.Proof.B
-- ==== Proof.BMath.lean ====
/- The terms of `rebuild`'s reference read at an index, as the plain formulas. -/
module

public import proofs.«01_k».proof.Proof.Gen.RebuildReferenceIdeal.Run
public import proofs.«01_k».proof.Proof.MathR

@[expose] public section

set_option maxRecDepth 16384

noncomputable section

namespace Cert.Proof.MB

open Idealize.ShloMosaic Cert.RebuildReferenceIdeal Cert.RebuildReferenceIdeal.Gen Cert.RebuildReferenceIdeal.Value Cert.Proof.M

variable (m : (ℓ : Loc nD τ sig) → Buf (Elt Ideal) ℓ) (c : Dev nD)

def A0 : FVec Ideal S1024x64 .f32 := m ((c.tc : Thread nD τ).loc main_arg0)
def A1 : IVec S1024 32 := m ((c.tc : Thread nD τ).loc main_arg1)
def A2 : FVec Ideal S8192x64 .f32 := m ((c.tc : Thread nD τ).loc main_arg2)
def A3 : FVec Ideal S64x128 .f32 := m ((c.tc : Thread nD τ).loc main_arg3)
def A4 : FVec Ideal S128 .f32 := m ((c.tc : Thread nD τ).loc main_arg4)
def A5 : FVec Ideal S128x64 .f32 := m ((c.tc : Thread nD τ).loc main_arg5)
def A6 : FVec Ideal S64 .f32 := m ((c.tc : Thread nD τ).loc main_arg6)
def A7 : FVec Ideal S64x128 .f32 := m ((c.tc : Thread nD τ).loc main_arg7)
def A8 : FVec Ideal S128 .f32 := m ((c.tc : Thread nD τ).loc main_arg8)
def rJ : IVec S1024x1 32 :=
  broadcastInDim S1024x1 ![0] bcast_S1024_S1024x1_0 (select (cmpi .slt (A1 m c) (broadcastInDim S1024 ![] bcast_S_S1024 (constantI S_ 32 0#32))) (addi (A1 m c) (broadcastInDim S1024 ![] bcast_S_S1024 (constantI S_ 32 8192#32))) (A1 m c))
def rQ : FVec Ideal S1024x64 .f32 :=
  select (broadcastInDim S1024x64 ![0] bcast_S1024_S1024x64_0 (Host.reduce IntOp.andi (andi (cmpi .sge (rJ m c) (broadcastInDim S1024x1 ![] bcast_S_S1024x1 (constantI S_ 32 0#32))) (cmpi .sle (rJ m c) (broadcastInDim S1024x1 ![0, 1] bcast_S1x1_S1024x1_0_1 (broadcastInDim S1x1 ![1] bcast_S1_S1x1_1 (constantI S1 32 8191#32))))) (constantI S_ 1 1#1) reducesTo_S1024x1_S1024_d1 h_S_)) (Host.gather gather_S8192x64_S1024x1_S1024x64_1_0_n_n_0_1_164 (A2 m c) (rJ m c)) (broadcastInDim S1024x64 ![] bcast_S_S1024x64 (constant S_ .f32 0x7FC00000#32))
def rG1 : FVec Ideal S1024x128x1 .f32 :=
  addf (transpose S1024x128x1 [1, 0, 2] (Host.dotGeneral dot_S64x128_S1024x64x1_S128x1024x1_0_1_1_02_n_n none (A3 m c) (broadcastInDim S1024x64x1 ![0, 1] bcast_S1024x64_S1024x64x1_0_1 (addf (A0 m c) (subf (rQ m c) (A0 m c))))) transposes_S128x1024x1_S1024x128x1_1_0_2) (broadcastInDim S1024x128x1 ![0, 1, 2] bcast_S1x128x1_S1024x128x1_0_1_2 (broadcastInDim S1x128x1 ![1] bcast_S128_S1x128x1_1 (A4 m c)))
def rG2 : FVec Ideal S1024x64x1 .f32 :=
  addf (transpose S1024x64x1 [1, 0, 2] (Host.dotGeneral dot_S128x64_S1024x128x1_S64x1024x1_0_1_1_02_n_n none (A5 m c) (select (cmpf .oge (rG1 m c) (broadcastInDim S1024x128x1 ![] bcast_S_S1024x128x1 (constant S_ .f32 0x00000000#32))) (rG1 m c) (mulf (broadcastInDim S1024x128x1 ![] bcast_S_S1024x128x1 (constant S_ .f32 0x3A83126F#32)) (rG1 m c)))) transposes_S64x1024x1_S1024x64x1_1_0_2) (broadcastInDim S1024x64x1 ![0, 1, 2] bcast_S1x64x1_S1024x64x1_0_1_2 (broadcastInDim S1x64x1 ![1] bcast_S64_S1x64x1_1 (A6 m c)))
/-- The reference's first result. -/
def rO : FVec Ideal S1024x128x1 .f32 :=
  addf (transpose S1024x128x1 [1, 0, 2] (Host.dotGeneral dot_S64x128_S1024x64x1_S128x1024x1_0_1_1_02_n_n none (A7 m c) (select (cmpf .oge (rG2 m c) (broadcastInDim S1024x64x1 ![] bcast_S_S1024x64x1 (constant S_ .f32 0x00000000#32))) (rG2 m c) (mulf (broadcastInDim S1024x64x1 ![] bcast_S_S1024x64x1 (constant S_ .f32 0x3A83126F#32)) (rG2 m c)))) transposes_S128x1024x1_S1024x128x1_1_0_2) (broadcastInDim S1024x128x1 ![0, 1, 2] bcast_S1x128x1_S1024x128x1_0_1_2 (broadcastInDim S1x128x1 ![1] bcast_S128_S1x128x1_1 (A8 m c)))
/-- The reference's second result. -/
def rL : FVec Ideal S_ .f32 :=
  addf (Host.divf (Host.reduceAdd (mulf (subf (rQ m c) (A0 m c)) (subf (rQ m c) (A0 m c))) (constant S_ .f32 0x00000000#32) reducesTo_S1024x64_S_d0_1 h_S_) (constant S_ .f32 0x47800000#32)) (mulf (constant S_ .f32 0x3E800000#32) (Host.divf (Host.reduceAdd (mulf (subf (rQ m c) (A0 m c)) (subf (rQ m c) (A0 m c))) (constant S_ .f32 0x00000000#32) reducesTo_S1024x64_S_d0_1 h_S_) (constant S_ .f32 0x47800000#32)))

theorem rO_eq : res_main_v38 m c = rO m c := rfl
theorem rL_eq : res_main_v10 m c = rL m c := rfl

theorem rQ_at (i : Fin 1024) (o : Fin 64) (k : Fin 8192) (h : A1 m c (ix1 i) = BitVec.ofNat 32 k.val) :
    rQ m c (ix2 i o) = A2 m c (ix2 k o) :=
  take_at (A2 m c) (rJ m c) i o k (wrap_at (A1 m c) i k h)

theorem rG1_at (i : Fin 1024) (o : Fin 128) :
    rG1 m c (ix3 i o 0) = (∑ x, (A0 m c (ix2 i x) + (rQ m c (ix2 i x) - A0 m c (ix2 i x))) * A3 m c (ix2 x o)) + A4 m c (ix1 o) :=
  c1_at (A3 m c) (A0 m c) (rQ m c) (A4 m c) i o

theorem rG2_at (i : Fin 1024) (o : Fin 64) :
    rG2 m c (ix3 i o 0) = (∑ p, lk (rG1 m c (ix3 i p 0)) * A5 m c (ix2 p o)) + A6 m c (ix1 o) :=
  c2_at (A5 m c) (rG1 m c) (A6 m c) i o

theorem rO_at (i : Fin 1024) (o : Fin 128) :
    rO m c (ix3 i o 0) = dec (fun x => A0 m c (ix2 i x) + (rQ m c (ix2 i x) - A0 m c (ix2 i x))) (fun x p => A3 m c (ix2 x p)) (fun p => A4 m c (ix1 p))
      (fun x p => A5 m c (ix2 x p)) (fun p => A6 m c (ix1 p)) (fun x p => A7 m c (ix2 x p)) (fun p => A8 m c (ix1 p)) o := by
  refine (c3_at (A7 m c) (rG2 m c) (A8 m c) i o).trans ?_
  unfold dec
  simp only [rG2_at, rG1_at]

theorem rL_at (j : S_.Idx) : rL m c j = loss (fun i x => A0 m c (ix2 i x)) (fun i x => rQ m c (ix2 i x)) :=
  l_at (A0 m c) (rQ m c) j

end Cert.Proof.MB
-- ==== Proof.Same.lean ====
/- Two programs that differ in no operation are one: `rebuild` as printed and as read over the reals, and the reference as
   printed and as read over the reals. What is proved of the second at every kind of number holds of the first. -/
module

public import proofs.«01_k».proof.Defs
public import proofs.«01_k».proof.Proof.Gen.Rebuild.Launch
public import proofs.«01_k».proof.Proof.Gen.RebuildIdeal.Launch
public import proofs.«01_k».proof.Proof.Gen.Reference
public import proofs.«01_k».proof.Proof.Gen.ReferenceIdeal

@[expose] public section

set_option maxRecDepth 16384

noncomputable section

namespace Cert.Proof.S

open Idealize.ShloMosaic Idealize.ShloMosaic.TcCoe Idealize.SL.Sem

variable {F : FTy → Type} [FloatOps F]

/-! ## The reference -/

theorem ref_defs : Cert.Reference.defs (F := F) = Cert.ReferenceIdeal.defs (F := F) := rfl

set_option maxHeartbeats 4000000 in
theorem ref_main0 (d : Dev Cert.ReferenceIdeal.nD) :
    Cert.Reference.main_part0 (F := F) d = Cert.ReferenceIdeal.main_part0 (F := F) d := rfl
set_option maxHeartbeats 4000000 in
theorem ref_main1 (d : Dev Cert.ReferenceIdeal.nD) :
    Cert.Reference.main_part1 (F := F) d = Cert.ReferenceIdeal.main_part1 (F := F) d := rfl
theorem ref_main : Cert.Reference.main (F := F) = Cert.ReferenceIdeal.main (F := F) := by
  funext d
  unfold Cert.Reference.main Cert.ReferenceIdeal.main
  exact congrArg₂ (fun a b => a >>= fun _ => b) (ref_main0 d) (ref_main1 d)

/-! ## `rebuild` -/

theorem reb_threads : Cert.Rebuild.threads (F := F) = Cert.RebuildIdeal.threads (F := F) := rfl
theorem reb_defs₀ : Cert.Rebuild.defs₀ (F := F) = Cert.RebuildIdeal.defs₀ (F := F) := by
  funext d k a
  match d, k, a with
  | .scVector c s, 0, _ => rfl
  | .scVector c s, 1, _ => rfl
  | .tc, 1, (t, s) => rfl
  | .tc, 0, _ => rfl
  | .scScalar c, 0, _ => rfl
  | .scScalar c, 1, _ => rfl
theorem reb_defs : Cert.Rebuild.defs (F := F) = Cert.RebuildIdeal.defs (F := F) := by
  unfold Cert.Rebuild.defs Cert.RebuildIdeal.defs
  exact congrArg (fun D => (Cert.RebuildIdeal.sc (F := F)).defs (Pipeline.defs (Cert.RebuildIdeal.pcfgs (F := F)) D)) reb_defs₀

end Cert.Proof.S
-- ==== Proof.BClaims.lean ====
/- The claims of `rebuild`: with every index below the codebook's length it runs to the end over the machine's words and over
   the reals, its arguments unchanged and every counter at zero, and over the reals its two results are its reference's. -/
module

public import proofs.«01_k».proof.Defs
public import proofs.«01_k».proof.Proof.Gen.Pre_idx_in_codebook
public import proofs.«01_k».proof.Proof.Gen.Rebuild
public import proofs.«01_k».proof.Proof.BLaunch
public import proofs.«01_k».proof.Proof.BValue
public import proofs.«01_k».proof.Proof.BMath
public import proofs.«01_k».proof.Proof.Same
public import Idealize.ShloMosaic.Lib.ReduceAll
public import Idealize.ShloMosaic.Adequacy
public import Idealize.ShloMosaic.Init

@[expose] public section

set_option maxRecDepth 16384

noncomputable section

namespace Cert.Proof.MB

open Idealize.ShloMosaic Idealize.ShloMosaic.TcCoe Idealize.SL.Sem

/-! ## The precondition -/

/-- The precondition says of every index that it is a row of the codebook. -/
theorem idx_lt {F : FTy → Type} [FloatOps F] (a0 : FVec F Cert.Pre_idx_in_codebook.S1024x64 .f32)
    (a1 : IVec Cert.Pre_idx_in_codebook.S1024 32) (a2 : FVec F Cert.Pre_idx_in_codebook.S8192x64 .f32)
    (a3 : FVec F Cert.Pre_idx_in_codebook.S64x128 .f32) (a4 : FVec F Cert.Pre_idx_in_codebook.S128 .f32)
    (a5 : FVec F Cert.Pre_idx_in_codebook.S128x64 .f32) (a6 : FVec F Cert.Pre_idx_in_codebook.S64 .f32)
    (a7 : FVec F Cert.Pre_idx_in_codebook.S64x128 .f32) (a8 : FVec F Cert.Pre_idx_in_codebook.S128 .f32)
    (h : Cert.Pre_idx_in_codebook.fn (F := F) a0 a1 a2 a3 a4 a5 a6 a7 a8 = fun _ => 1#1)
    (j : Cert.Pre_idx_in_codebook.S1024.Idx) : (a1 j : BitVec 32).toNat < 8192 := by
  have hs : Subsingleton Cert.Pre_idx_in_codebook.S_.Idx := ⟨fun a b => funext fun x => x.elim0⟩
  have e := Host.reduce_andi_all _ _ _ _ (fun x => x.elim0) (congrFun h fun x => x.elim0) j
  obtain ⟨h1, h2⟩ := IntOp.andi_eq_one.1 e
  have l1 : (0#32 : BitVec 32).toInt ≤ (a1 j : BitVec 32).toInt := IntOp.cmpi_sge.1 h1
  have l2 : (a1 j : BitVec 32).toInt < (8192#32 : BitVec 32).toInt := IntOp.cmpi_slt.1 h2
  have t0 : (0#32 : BitVec 32).toInt = 0 := by decide
  have t1 : (8192#32 : BitVec 32).toInt = 8192 := by decide
  rw [t0] at l1
  rw [t1] at l2
  rw [BitVec.toInt_eq_toNat_cond] at l1 l2
  have := (a1 j : BitVec 32).isLt
  split at l1 <;> omega

/-! ## The run -/

/-- `rebuild`'s run at any kind of number: every array at the contents that end the chain, every counter at zero. -/
theorem run {F : FTy → Type} [FloatOps F] [∀ e, Nonempty (Elt F e)]
    (m : (ℓ : Loc Cert.RebuildIdeal.nD Cert.RebuildIdeal.τ Cert.RebuildIdeal.sig) → Buf (Elt F) ℓ)
    (g : Dev Cert.RebuildIdeal.nD → PrngReg)
    (hin : ∀ (d : Dev Cert.RebuildIdeal.nD) (j : Cert.RebuildIdeal.S1024.Idx), (m (((d.tc : Thread Cert.RebuildIdeal.nD Cert.RebuildIdeal.τ)).loc Cert.RebuildIdeal.main_arg1) j : BitVec 32).toNat < 8192) :
    θ_run (Cert.RebuildIdeal.defs (F := F)) (Cert.RebuildIdeal.threads (F := F)) ⟨m, fun _ => 0, g⟩ (fun r =>
      (∀ d b, b ∈ Pipeline.ucRefs Cert.RebuildIdeal.τ Cert.RebuildIdeal.sig → r.2.mem (d, b) = B.W5 m d b) ∧ r.2.sem = fun _ => 0) :=
  B.run_main m g fun d j => by
    have e : B.ixsW m d = m (((d.tc : Thread Cert.RebuildIdeal.nD Cert.RebuildIdeal.τ)).loc Cert.RebuildIdeal.main_arg1) :=
      B.W1_args m d Cert.RebuildIdeal.main_arg1 (by decide)
    exact (congrArg BitVec.toNat (congrFun e j)).trans_lt (hin d j)

/-- What the run leaves of the arguments. -/
theorem kept {F : FTy → Type} [FloatOps F] [∀ e, Nonempty (Elt F e)]
    (m : (ℓ : Loc Cert.RebuildIdeal.nD Cert.RebuildIdeal.τ Cert.RebuildIdeal.sig) → Buf (Elt F) ℓ)
    (g : Dev Cert.RebuildIdeal.nD → PrngReg)
    (hin : ∀ (d : Dev Cert.RebuildIdeal.nD) (j : Cert.RebuildIdeal.S1024.Idx), (m (((d.tc : Thread Cert.RebuildIdeal.nD Cert.RebuildIdeal.τ)).loc Cert.RebuildIdeal.main_arg1) j : BitVec 32).toNat < 8192) :
    θ_run (Cert.RebuildIdeal.defs (F := F)) (Cert.RebuildIdeal.threads (F := F)) ⟨m, fun _ => 0, g⟩ (fun r =>
      (∀ c : Dev Cert.RebuildIdeal.nD,
        r.2.mem ((c.tc : Thread Cert.RebuildIdeal.nD Cert.RebuildIdeal.τ).loc Cert.RebuildIdeal.main_arg0) = m ((c.tc : Thread Cert.RebuildIdeal.nD Cert.RebuildIdeal.τ).loc Cert.RebuildIdeal.main_arg0)
        ∧ r.2.mem ((c.tc : Thread Cert.RebuildIdeal.nD Cert.RebuildIdeal.τ).loc Cert.RebuildIdeal.main_arg1) = m ((c.tc : Thread Cert.RebuildIdeal.nD Cert.RebuildIdeal.τ).loc Cert.RebuildIdeal.main_arg1)
        ∧ r.2.mem ((c.tc : Thread Cert.RebuildIdeal.nD Cert.RebuildIdeal.τ).loc Cert.RebuildIdeal.main_arg2) = m ((c.tc : Thread Cert.RebuildIdeal.nD Cert.RebuildIdeal.τ).loc Cert.RebuildIdeal.main_arg2)
        ∧ r.2.mem ((c.tc : Thread Cert.RebuildIdeal.nD Cert.RebuildIdeal.τ).loc Cert.RebuildIdeal.main_arg3) = m ((c.tc : Thread Cert.RebuildIdeal.nD Cert.RebuildIdeal.τ).loc Cert.RebuildIdeal.main_arg3)
        ∧ r.2.mem ((c.tc : Thread Cert.RebuildIdeal.nD Cert.RebuildIdeal.τ).loc Cert.RebuildIdeal.main_arg4) = m ((c.tc : Thread Cert.RebuildIdeal.nD Cert.RebuildIdeal.τ).loc Cert.RebuildIdeal.main_arg4)
        ∧ r.2.mem ((c.tc : Thread Cert.RebuildIdeal.nD Cert.RebuildIdeal.τ).loc Cert.RebuildIdeal.main_arg5) = m ((c.tc : Thread Cert.RebuildIdeal.nD Cert.RebuildIdeal.τ).loc Cert.RebuildIdeal.main_arg5)
        ∧ r.2.mem ((c.tc : Thread Cert.RebuildIdeal.nD Cert.RebuildIdeal.τ).loc Cert.RebuildIdeal.main_arg6) = m ((c.tc : Thread Cert.RebuildIdeal.nD Cert.RebuildIdeal.τ).loc Cert.RebuildIdeal.main_arg6)
        ∧ r.2.mem ((c.tc : Thread Cert.RebuildIdeal.nD Cert.RebuildIdeal.τ).loc Cert.RebuildIdeal.main_arg7) = m ((c.tc : Thread Cert.RebuildIdeal.nD Cert.RebuildIdeal.τ).loc Cert.RebuildIdeal.main_arg7)
        ∧ r.2.mem ((c.tc : Thread Cert.RebuildIdeal.nD Cert.RebuildIdeal.τ).loc Cert.RebuildIdeal.main_arg8) = m ((c.tc : Thread Cert.RebuildIdeal.nD Cert.RebuildIdeal.τ).loc Cert.RebuildIdeal.main_arg8))
      ∧ r.2.sem = fun _ => 0) :=
  (θ_run Cert.RebuildIdeal.defs _ _).mono (fun r h => ⟨fun c => ⟨
      (h.1 c _ (B.mem_uc Cert.RebuildIdeal.main_arg0 (by decide))).trans (B.W5_args m c Cert.RebuildIdeal.main_arg0 (by decide)),
      (h.1 c _ (B.mem_uc Cert.RebuildIdeal.main_arg1 (by decide))).trans (B.W5_args m c Cert.RebuildIdeal.main_arg1 (by decide)),
      (h.1 c _ (B.mem_uc Cert.RebuildIdeal.main_arg2 (by decide))).trans (B.W5_args m c Cert.RebuildIdeal.main_arg2 (by decide)),
      (h.1 c _ (B.mem_uc Cert.RebuildIdeal.main_arg3 (by decide))).trans (B.W5_args m c Cert.RebuildIdeal.main_arg3 (by decide)),
      (h.1 c _ (B.mem_uc Cert.RebuildIdeal.main_arg4 (by decide))).trans (B.W5_args m c Cert.RebuildIdeal.main_arg4 (by decide)),
      (h.1 c _ (B.mem_uc Cert.RebuildIdeal.main_arg5 (by decide))).trans (B.W5_args m c Cert.RebuildIdeal.main_arg5 (by decide)),
      (h.1 c _ (B.mem_uc Cert.RebuildIdeal.main_arg6 (by decide))).trans (B.W5_args m c Cert.RebuildIdeal.main_arg6 (by decide)),
      (h.1 c _ (B.mem_uc Cert.RebuildIdeal.main_arg7 (by decide))).trans (B.W5_args m c Cert.RebuildIdeal.main_arg7 (by decide)),
      (h.1 c _ (B.mem_uc Cert.RebuildIdeal.main_arg8 (by decide))).trans (B.W5_args m c Cert.RebuildIdeal.main_arg8 (by decide))⟩, h.2⟩)
    (run m g hin)

/-- `Cert.quiescent_RebuildIdeal`. -/
theorem frame_ideal : Cert.quiescent_RebuildIdeal := fun m g hp =>
  kept m g fun d j => idx_lt _ _ _ _ _ _ _ _ _ (hp d) j

/-- `Cert.quiescent_Rebuild`. -/
theorem frame_bits : Cert.quiescent_Rebuild := fun m g hp => by
  have h := kept (F := Bits) m g fun d j => idx_lt _ _ _ _ _ _ _ _ _ (hp d) j
  exact Eq.mpr (congrArg₂ (fun D T => θ_run D T ⟨m, fun _ => 0, g⟩ _) (S.reb_defs (F := Bits)) (S.reb_threads (F := Bits))) h

/-- `Cert.quiescent_RebuildReferenceIdeal`: the reference declares no counter. -/
theorem frame_reference : Cert.quiescent_RebuildReferenceIdeal := fun m g _ =>
  (θ_run Cert.RebuildReferenceIdeal.defs _ _).mono
    (fun r h => ⟨fun c => (h c).2.2, sem_eq_zero_of_no_sems (by decide) r.2⟩)
    (Cert.RebuildReferenceIdeal.Value.run (F := Ideal) m g)

/-! ## The agreement -/

variable (m : (ℓ : Loc Cert.RebuildIdeal.nD Cert.RebuildIdeal.τ Cert.RebuildIdeal.sig) → Buf (Elt Ideal) ℓ) (c : Dev Cert.RebuildIdeal.nD)
variable (m' : (ℓ : Loc Cert.RebuildReferenceIdeal.nD Cert.RebuildReferenceIdeal.τ Cert.RebuildReferenceIdeal.sig) → Buf (Elt Ideal) ℓ)

/-- The reference's arguments are `rebuild`'s, and every index is a row of the codebook. -/
structure Agree : Prop where
  a0 : A0 m' c = B.X0 m c
  a1 : A1 m' c = B.X1 m c
  a2 : A2 m' c = B.X2 m c
  a3 : A3 m' c = B.X3 m c
  a4 : A4 m' c = B.X4 m c
  a5 : A5 m' c = B.X5 m c
  a6 : A6 m' c = B.X6 m c
  a7 : A7 m' c = B.X7 m c
  a8 : A8 m' c = B.X8 m c
  lt : ∀ j, (B.X1 m c j : BitVec 32).toNat < 8192

variable {m c m'} (h : Agree m c m')
include h

theorem q_eq (r : Fin 1024) (x : Fin 64) : rQ m' c (ix2 r x) = B.X2 m c (ix2 (B.kk m c r) x) := by
  rw [← h.a2]
  refine rQ_at m' c r x (B.kk m c r) ?_
  rw [h.a1]
  refine BitVec.eq_of_toNat_eq ?_
  have l := h.lt (ix1 r)
  rw [BitVec.toNat_ofNat]
  show _ = (B.X1 m c (ix1 r) : BitVec 32).toNat % 8192 % 2 ^ 32
  omega

theorem o_eq (r : Fin 1024) (o : Fin 128) : rO m' c (ix3 r o 0) = B.oK m c r o := by
  rw [rO_at, h.a0, h.a3, h.a4, h.a5, h.a6, h.a7, h.a8]
  simp only [q_eq h]
  rfl

theorem l_eq (j : Cert.RebuildReferenceIdeal.S_.Idx) : rL m' c j = B.lK m c := by
  rw [rL_at, h.a0]
  simp only [q_eq h]
  rfl

theorem out0 : rO m' c = B.W5 m c (Proc.devRef .tc Cert.RebuildIdeal.main_v7) := by
  funext j
  have e : j = ix3 (j 0) (j 1) 0 := by
    funext a
    match a with
    | 0 => rfl
    | 1 => rfl
    | 2 => exact Subsingleton.elim (α := Fin 1) _ _
  rw [e]
  exact (o_eq h (j 0) (j 1)).trans (B.W5_o m c (j 0) (j 1)).symm

theorem out1 : rL m' c = B.W5 m c (Proc.devRef .tc Cert.RebuildIdeal.main_v8) :=
  (funext fun j => l_eq h j : rL m' c = fun _ => B.lK m c).trans (B.W5_l m c).symm

omit h in
/-- `Cert.algebraic_RebuildIdeal_RebuildReferenceIdeal`. -/
theorem algebraic : Cert.algebraic_RebuildIdeal_RebuildReferenceIdeal := by
  intro m g m' g' hpre hagree
  have hin := fun d j => idx_lt _ _ _ _ _ _ _ _ _ (hpre d) j
  refine ⟨fun c => B.W5 m c (Proc.devRef .tc Cert.RebuildIdeal.main_v7), fun c => B.W5 m c (Proc.devRef .tc Cert.RebuildIdeal.main_v8), ?_, ?_⟩
  · refine (θ_run Cert.RebuildIdeal.defs _ _).mono (fun r h c => ⟨
      h.1 c _ (B.mem_uc Cert.RebuildIdeal.main_v7 (by decide)),
      h.1 c _ (B.mem_uc Cert.RebuildIdeal.main_v8 (by decide)),
      (h.1 c _ (B.mem_uc Cert.RebuildIdeal.main_arg0 (by decide))).trans (B.W5_args m c Cert.RebuildIdeal.main_arg0 (by decide)),
      (h.1 c _ (B.mem_uc Cert.RebuildIdeal.main_arg1 (by decide))).trans (B.W5_args m c Cert.RebuildIdeal.main_arg1 (by decide)),
      (h.1 c _ (B.mem_uc Cert.RebuildIdeal.main_arg2 (by decide))).trans (B.W5_args m c Cert.RebuildIdeal.main_arg2 (by decide)),
      (h.1 c _ (B.mem_uc Cert.RebuildIdeal.main_arg3 (by decide))).trans (B.W5_args m c Cert.RebuildIdeal.main_arg3 (by decide)),
      (h.1 c _ (B.mem_uc Cert.RebuildIdeal.main_arg4 (by decide))).trans (B.W5_args m c Cert.RebuildIdeal.main_arg4 (by decide)),
      (h.1 c _ (B.mem_uc Cert.RebuildIdeal.main_arg5 (by decide))).trans (B.W5_args m c Cert.RebuildIdeal.main_arg5 (by decide)),
      (h.1 c _ (B.mem_uc Cert.RebuildIdeal.main_arg6 (by decide))).trans (B.W5_args m c Cert.RebuildIdeal.main_arg6 (by decide)),
      (h.1 c _ (B.mem_uc Cert.RebuildIdeal.main_arg7 (by decide))).trans (B.W5_args m c Cert.RebuildIdeal.main_arg7 (by decide)),
      (h.1 c _ (B.mem_uc Cert.RebuildIdeal.main_arg8 (by decide))).trans (B.W5_args m c Cert.RebuildIdeal.main_arg8 (by decide))⟩)
      (run m g hin)
  · refine (θ_run Cert.RebuildReferenceIdeal.defs _ _).mono (fun r h c => ?_) (Cert.RebuildReferenceIdeal.Value.run (F := Ideal) m' g')
    obtain ⟨a0, a1, a2, a3, a4, a5, a6, a7, a8⟩ := hagree c
    have ag : Agree m c m' := ⟨a0, a1, a2, a3, a4, a5, a6, a7, a8, hin c⟩
    exact ⟨(h c).1.trans ((rO_eq m' c).trans (out0 ag)), (h c).2.1.trans ((rL_eq m' c).trans (out1 ag)), (h c).2.2⟩

end Cert.Proof.MB
-- ==== Proof.CRun.lean ====
/- The run of `codes`: every array ends at the last contents of its chain and every counter at zero. -/
module

public import proofs.«01_k».proof.Proof.Gen.CodesIdeal.Frame

@[expose] public section

set_option maxRecDepth 16384

noncomputable section

namespace Cert.Proof.C

open Cert.CodesIdeal Cert.CodesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r =>
      (∀ (c : Dev nD) (b : DevRef τ sig), b ∈ Pipeline.ucRefs τ sig → r.2.mem (c, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c b hb, funext fun g => hz g (.inr (no_unscoped g.2))⟩)

end Cert.Proof.C
-- ==== Proof.CPay.lean ====
/- The payloads of `codes` read at an index, as the plain formulas: they are the kernel's. -/
module

public import proofs.«01_k».proof.Proof.Gen.CodesIdeal.Skeleton
public import proofs.«01_k».proof.Proof.MathK

@[expose] public section

set_option maxRecDepth 16384

noncomputable section

namespace Cert.Proof.C

open Idealize.ShloMosaic Cert.CodesIdeal Cert.CodesIdeal.Gen
open Cert.Proof.M (enc dst FirstMin)

theorem enc_at (v0 : Vec Ideal S32x128x256 .f32) (v3 : Vec Ideal S64x128 .f32) (v5 : Vec Ideal S1x64 .f32)
    (v12 : Vec Ideal S128x64 .f32) (v14 : Vec Ideal S1x128 .f32) (v21 : Vec Ideal S64x128 .f32) (v23 : Vec Ideal S1x64 .f32)
    (i : Fin 32) (o : Fin 64) :
    k0_pay1 v0 v3 v5 v12 v14 v21 v23 (ix2 i o)
      = enc (fun c l => v0 (ix3 i c l)) (fun p c => v3 (ix2 p c)) (fun p => v5 (ix2 0 p)) (fun q p => v12 (ix2 q p))
          (fun q => v14 (ix2 0 q)) (fun q p => v21 (ix2 q p)) (fun q => v23 (ix2 0 q)) o :=
  M.enc_at v0 v3 v5 v12 v14 v21 v23 i o

theorem vq_at (v0 : Vec Ideal S128x64 .f32) (v2 : Vec Ideal S8192x64 .f32) (v4 : Vec Ideal S128x1 .f32)
    (v6 : Vec Ideal S1x8192 .f32) (i : Fin 128) (z : Fin 64 → EReal) (cb : Fin 8192 → Fin 64 → EReal)
    (h0 : ∀ x, v0 (ix2 i x) = z x) (h2 : ∀ k x, v2 (ix2 k x) = cb k x)
    (h4 : v4 (ix2 i 0) = ∑ x, z x * z x) (h6 : ∀ k, v6 (ix2 0 k) = ∑ x, cb k x * cb k x)
    {k : Fin 8192} (hk : FirstMin (dst z cb) k) :
    k1_pay1 v0 v2 v4 v6 (ix3 0 0 i) = BitVec.ofNat 32 k.val :=
  M.vq_at v0 v2 v4 v6 i z cb h0 h2 h4 h6 hk

end Cert.Proof.C
-- ==== Proof.CReg0.lean ====
/- What the encoder's region of `codes` leaves in its output array, at the arrays it is entered with. -/
module

public import proofs.«01_k».proof.Proof.Gen.CodesIdeal.Frame
public import proofs.«01_k».proof.Proof.CPay
public import Idealize.ShloMosaic.Lib.Pipeline.ValueKit

@[expose] public section

set_option maxRecDepth 16384

noncomputable section

namespace Cert.Proof.C

open Cert.CodesIdeal Cert.CodesIdeal.Gen Cert.Proof.M
open Idealize.ShloMosaic Idealize.ShloMosaic.TcCoe
open Idealize.SL.Sem

variable (V : (c : Dev nD) → (b : Ref sig .tc) → Buf (Elt Ideal) ((c : Thread nD τ).loc b))
variable (c : Dev nD)

def aX : FVec Ideal S1024x128x256 .f32 := V c main_arg0
def aW1 : FVec Ideal S64x128 .f32 := V c main_arg1
def aB1 : FVec Ideal S1x64 .f32 := V c main_v0
def aW2 : FVec Ideal S128x64 .f32 := V c main_arg3
def aB2 : FVec Ideal S1x128 .f32 := V c main_v1
def aW3 : FVec Ideal S64x128 .f32 := V c main_arg5
def aB3 : FVec Ideal S1x64 .f32 := V c main_v2

def encG : FVec Ideal S1024x64 .f32 := fun j =>
  enc (fun c' l => aX V c (ix3 (j 0) c' l)) (fun p c' => aW1 V c (ix2 p c')) (fun p => aB1 V c (ix2 0 p))
    (fun q p => aW2 V c (ix2 q p)) (fun q => aB2 V c (ix2 0 q)) (fun q p => aW3 V c (ix2 q p)) (fun q => aB3 V c (ix2 0 q)) (j 1)

theorem index0 (t : Fin cfg0.N) : win0_0.index t = ![(grid0.coords t 0).val, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![(grid0.coords t 0).val, 0] := by
  revert t; decide +kernel

theorem arr0 : (dat0 V c).arrAt 7 cfg0.N = encG V c := by
  refine (dat0 V c).arrAt_eq_of_covers 7 _ (by decide +kernel) fun t hf y => ?_
  blk_simp
  rw [after0_7]
  frame_out
  obtain ⟨i0, i1, i2, i3, i4, i5, i6, i7⟩ := index0 t
  rw [eq_ix2 y]
  refine (enc_at _ _ _ _ _ _ _ _ _).trans ?_
  unfold encG
  congr 1
  · funext c' l; unfold aX; blk_ext [iblk0, i0, i7]
  · funext c' l; unfold aW1; blk_ext [iblk0, i1]
  · funext l; unfold aB1; blk_ext [iblk0, i2]
  · funext c' l; unfold aW2; blk_ext [iblk0, i3]
  · funext l; unfold aB2; blk_ext [iblk0, i4]
  · funext c' l; unfold aW3; blk_ext [iblk0, i5]
  · funext l; unfold aB3; blk_ext [iblk0, i6]
  · exact Fin.ext (by blk_simp [i7])

end Cert.Proof.C
-- ==== Proof.CReg1.lean ====
/- What the nearest-row search's region of `codes` leaves in its output array, at the arrays it is entered with. -/
module

public import proofs.«01_k».proof.Proof.Gen.CodesIdeal.Frame
public import proofs.«01_k».proof.Proof.CPay
public import Idealize.ShloMosaic.Lib.Pipeline.ValueKit

@[expose] public section

set_option maxRecDepth 16384

noncomputable section

namespace Cert.Proof.C

open Cert.CodesIdeal Cert.CodesIdeal.Gen Cert.Proof.M
open Idealize.ShloMosaic Idealize.ShloMosaic.TcCoe
open Idealize.SL.Sem

variable (V : (c : Dev nD) → (b : Ref sig .tc) → Buf (Elt Ideal) ((c : Thread nD τ).loc b))
variable (c : Dev nD)

def aZ : FVec Ideal S1024x64 .f32 := V c main_v3
def aSq : FVec Ideal S1024x1 .f32 := V c main_v6
def aCq : FVec Ideal S1x8192 .f32 := V c main_v9
def aCb : FVec Ideal S8192x64 .f32 := V c main_arg7

theorem index1 (t : Fin cfg1.N) : win1_0.index t = ![(grid1.coords t 0).val, 0] ∧ win1_1.index t = ![(grid1.coords t 0).val, 0] ∧ win1_2.index t = ![0, 0] ∧ win1_3.index t = ![0, 0]
    ∧ win1_4.index t = ![(grid1.coords t 0).val, 0, 0] := by
  revert t; decide +kernel

def rowOf (j : S8x1x128.Idx) : Fin 1024 := ⟨128 * (j 0).val + (j 2).val, by idx_bounds j; omega⟩

theorem one_row (y : S1x1x128.Idx) : y = ix3 0 0 (y 2) := by
  funext a
  match a with
  | 0 => exact Subsingleton.elim (α := Fin 1) _ _
  | 1 => exact Subsingleton.elim (α := Fin 1) _ _
  | 2 => rfl

theorem row_val (t : Fin cfg1.N) (y : ((cfg1.win 4).xblock (cfg1.grid.coords t)).Idx) :
    (rowOf (((View.whole main_v10).slice (win1_4.rect t)).emb y)).val = 128 * (grid1.coords t 0).val + (y 2).val := by
  obtain ⟨i0, i1, i2, i3, i4⟩ := index1 t
  show 128 * ((((cfg1.win 4).blk t).view.emb y) 0).val + ((((cfg1.win 4).blk t).view.emb y) 2).val = _
  have e0 : (((((cfg1.win 4).blk t).view.emb y) 0 : Fin _) : ℕ) = (grid1.coords t 0).val := by
    blk_simp [i4]
  have e2 : (((((cfg1.win 4).blk t).view.emb y) 2 : Fin _) : ℕ) = (y 2).val := by
    blk_simp [i4]
  rw [e0, e2]

theorem z1_at (t : Fin cfg1.N) (i : Fin 128) (r : Fin 1024) (hv : r.val = 128 * (grid1.coords t 0).val + i.val) (x : Fin 64) :
    iblk1 V c 0 t (ix2 i x) = aZ V c (ix2 r x) := by
  obtain ⟨i0, i1, i2, i3, i4⟩ := index1 t
  unfold aZ; blk_ext [iblk1, i0]

theorem sq_at (t : Fin cfg1.N) (i : Fin 128) (r : Fin 1024) (hv : r.val = 128 * (grid1.coords t 0).val + i.val) :
    iblk1 V c 1 t (ix2 i 0) = aSq V c (ix2 r 0) := by
  obtain ⟨i0, i1, i2, i3, i4⟩ := index1 t
  unfold aSq; blk_ext [iblk1, i1]

theorem cq_at (t : Fin cfg1.N) (q : Fin 8192) : iblk1 V c 2 t (ix2 0 q) = aCq V c (ix2 0 q) := by
  obtain ⟨i0, i1, i2, i3, i4⟩ := index1 t
  unfold aCq; blk_ext [iblk1, i2]

theorem cb_at (t : Fin cfg1.N) (q : Fin 8192) (x : Fin 64) : iblk1 V c 3 t (ix2 q x) = aCb V c (ix2 q x) := by
  obtain ⟨i0, i1, i2, i3, i4⟩ := index1 t
  unfold aCb; blk_ext [iblk1, i3]

theorem arr1 (k : Fin 1024 → Fin 8192)
    (hs : ∀ r, aSq V c (ix2 r 0) = ∑ x, aZ V c (ix2 r x) * aZ V c (ix2 r x))
    (hc : ∀ q, aCq V c (ix2 0 q) = ∑ x, aCb V c (ix2 q x) * aCb V c (ix2 q x))
    (hk : ∀ r, FirstMin (dst (fun x => aZ V c (ix2 r x)) (fun q x => aCb V c (ix2 q x))) (k r)) :
    (dat1 V c).arrAt 4 cfg1.N = fun j : S8x1x128.Idx => BitVec.ofNat 32 (k (rowOf j)).val := by
  refine (dat1 V c).arrAt_eq_of_covers 4 _ (by decide +kernel) fun t hf y => ?_
  blk_simp
  rw [after1_4]
  frame_out
  obtain ⟨i0, i1, i2, i3, i4⟩ := index1 t
  have hy := one_row y
  have hv := row_val t y
  generalize rowOf (((View.whole main_v10).slice (win1_4.rect t)).emb y) = r at hv ⊢
  refine (congrArg (k1_pay1 (iblk1 V c 0 t) (iblk1 V c 3 t) (iblk1 V c 1 t) (iblk1 V c 2 t)) hy).trans ?_
  exact vq_at _ _ _ _ (y 2) _ _ (fun x => z1_at V c t (y 2) r hv x) (fun q x => cb_at V c t q x)
    ((sq_at V c t (y 2) r hv).trans (hs r)) (fun q => (cq_at V c t q).trans (hc q)) (hk r)

end Cert.Proof.C
-- ==== Proof.CValue.lean ====
/- The contents of `codes`'s arrays at each boundary of its run, as the plain formulas of its arguments: the encoder's rows and
   the nearest row of the codebook. -/
module

public import proofs.«01_k».proof.Proof.CReg0
public import proofs.«01_k».proof.Proof.CReg1

@[expose] public section

set_option maxRecDepth 16384

noncomputable section

namespace Cert.Proof.C

open Cert.CodesIdeal Cert.CodesIdeal.Gen Cert.Proof.M
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

def X0 : FVec Ideal S1024x128x256 .f32 := m ((c : Thread nD τ).loc main_arg0)
def X1 : FVec Ideal S64x128 .f32 := m ((c : Thread nD τ).loc main_arg1)
def X2 : FVec Ideal S64 .f32 := m ((c : Thread nD τ).loc main_arg2)
def X3 : FVec Ideal S128x64 .f32 := m ((c : Thread nD τ).loc main_arg3)
def X4 : FVec Ideal S128 .f32 := m ((c : Thread nD τ).loc main_arg4)
def X5 : FVec Ideal S64x128 .f32 := m ((c : Thread nD τ).loc main_arg5)
def X6 : FVec Ideal S64 .f32 := m ((c : Thread nD τ).loc main_arg6)
def X7 : FVec Ideal S8192x64 .f32 := m ((c : Thread nD τ).loc main_arg7)

/-! ## The encoder -/

theorem W1_v0 : W1 m ρ c (Proc.devRef .tc main_v0) = shapeCast S1x64 (X2 m c) shapeCasts_S64_S1x64 := by
  simp only [W1, hostOps0]; after_results_simp; rfl
theorem W1_v1 : W1 m ρ c (Proc.devRef .tc main_v1) = shapeCast S1x128 (X4 m c) shapeCasts_S128_S1x128 := by
  simp only [W1, hostOps0]; after_results_simp; rfl
theorem W1_v2 : W1 m ρ c (Proc.devRef .tc main_v2) = shapeCast S1x64 (X6 m c) shapeCasts_S64_S1x64 := by
  simp only [W1, hostOps0]; after_results_simp; rfl

theorem b1_at (p : Fin 64) : aB1 (V1 m ρ) c (ix2 0 p) = X2 m c (ix1 p) := by
  refine (congrFun (W1_v0 m ρ c) (ix2 0 p)).trans ?_
  pointwise []
theorem b2_at (p : Fin 128) : aB2 (V1 m ρ) c (ix2 0 p) = X4 m c (ix1 p) := by
  refine (congrFun (W1_v1 m ρ c) (ix2 0 p)).trans ?_
  pointwise []
theorem b3_at (p : Fin 64) : aB3 (V1 m ρ) c (ix2 0 p) = X6 m c (ix1 p) := by
  refine (congrFun (W1_v2 m ρ c) (ix2 0 p)).trans ?_
  pointwise []

/-- The encoder's rows. -/
def zK (r : Fin 1024) (o : Fin 64) : EReal :=
  enc (fun c' l => X0 m c (ix3 r c' l)) (fun p c' => X1 m c (ix2 p c')) (fun p => X2 m c (ix1 p))
    (fun q p => X3 m c (ix2 q p)) (fun q => X4 m c (ix1 q)) (fun q p => X5 m c (ix2 q p)) (fun q => X6 m c (ix1 q)) o

def zA : FVec Ideal S1024x64 .f32 := fun j => zK m c (j 0) (j 1)

theorem W2_v3 : W2 m ρ c (Proc.devRef .tc main_v3) = zA m c := by
  refine (W2_arr m ρ c 7).trans ((arr0 (V1 m ρ) c).trans ?_)
  funext j
  unfold encG zA zK
  simp only [b1_at, b2_at, b3_at]
  have e0 : aX (V1 m ρ) c = X0 m c := W1_args m ρ c main_arg0 (by decide)
  have e1 : aW1 (V1 m ρ) c = X1 m c := W1_args m ρ c main_arg1 (by decide)
  have e2 : aW2 (V1 m ρ) c = X3 m c := W1_args m ρ c main_arg3 (by decide)
  have e3 : aW3 (V1 m ρ) c = X5 m c := W1_args m ρ c main_arg5 (by decide)
  rw [e0, e1, e2, e3]

/-! ## The search -/

theorem W3_v3 : W3 m ρ c (Proc.devRef .tc main_v3) = zA m c := (W3_of m ρ c main_v3 (by decide)).trans (W2_v3 m ρ c)
theorem W2_a7 : W2 m ρ c (Proc.devRef .tc main_arg7) = X7 m c := W2_args m ρ c main_arg7 (by decide)
theorem W3_a7 : W3 m ρ c (Proc.devRef .tc main_arg7) = X7 m c := W3_args m ρ c main_arg7 (by decide)

theorem W3_v6 : W3 m ρ c (Proc.devRef .tc main_v6) = broadcastInDim S1024x1 ![0] bcast_S1024_S1024x1_0
    (Host.reduceAdd (mulf (zA m c) (zA m c)) (constant S_ .f32 0x00000000#32) reducesTo_S1024x64_S1024_d1 h_S_) := by
  rw [← W2_v3 m ρ]; simp only [W3, hostOps1]; after_results_simp
theorem W3_v9 : W3 m ρ c (Proc.devRef .tc main_v9) = shapeCast S1x8192
    (Host.reduceAdd (mulf (X7 m c) (X7 m c)) (constant S_ .f32 0x00000000#32) reducesTo_S8192x64_S8192_d1 h_S_) shapeCasts_S8192_S1x8192 := by
  rw [← W2_a7 m ρ]; simp only [W3, hostOps1]; after_results_simp; rfl

theorem sq_z (r : Fin 1024) : aSq (V3 m ρ) c (ix2 r 0) = ∑ x, zK m c r x * zK m c r x := by
  refine (congrFun (W3_v6 m ρ c) (ix2 r 0)).trans ?_
  have e : ∀ x, zA m c (ix2 r x) = zK m c r x := fun x => rfl
  simp only [← e]
  pointwise []
theorem sq_cb (q : Fin 8192) : aCq (V3 m ρ) c (ix2 0 q) = ∑ x, X7 m c (ix2 q x) * X7 m c (ix2 q x) := by
  refine (congrFun (W3_v9 m ρ c) (ix2 0 q)).trans ?_
  pointwise []

/-- The nearest row of the codebook. -/
theorem kk_ex (r : Fin 1024) : ∃ k, FirstMin (dst (fun x => zK m c r x) (fun q x => X7 m c (ix2 q x))) k :=
  exists_firstMin (by decide) _
def kk (r : Fin 1024) : Fin 8192 := (kk_ex m c r).choose
theorem kk_min (r : Fin 1024) : FirstMin (dst (fun x => zK m c r x) (fun q x => X7 m c (ix2 q x))) (kk m c r) :=
  (kk_ex m c r).choose_spec

theorem W4_v10 : W4 m ρ c (Proc.devRef .tc main_v10) = fun j : S8x1x128.Idx => BitVec.ofNat 32 (kk m c (rowOf j)).val := by
  have ez : aZ (V3 m ρ) c = zA m c := W3_v3 m ρ c
  have ec : aCb (V3 m ρ) c = X7 m c := W3_a7 m ρ c
  refine (W4_arr m ρ c 4).trans (arr1 (V3 m ρ) c (kk m c) ?_ ?_ ?_)
  · intro r; rw [ez]; exact sq_z m ρ c r
  · intro q; rw [ec]; exact sq_cb m ρ c q
  · intro r; rw [ez, ec]; exact kk_min m c r

theorem W5_v11 : W5 m ρ c (Proc.devRef .tc main_v11)
    = shapeCast S1024 (fun j : S8x1x128.Idx => BitVec.ofNat 32 (kk m c (rowOf j)).val) shapeCasts_S8x1x128_S1024 := by
  rw [← W4_v10 m ρ]; simp only [W5, hostOps2]; after_results_simp; rfl

theorem ixs_at (r : Fin 1024) : W5 m ρ c (Proc.devRef .tc main_v11) (ix1 r) = BitVec.ofNat 32 (kk m c r).val := by
  refine (congrFun (W5_v11 m ρ c) (ix1 r)).trans ?_
  pointwise []
  congr 3
  refine Fin.ext ?_
  show 128 * (r.val / 128) + r.val % 128 = r.val
  omega

theorem W5_v3 : W5 m ρ c (Proc.devRef .tc main_v3) = zA m c :=
  (W5_of m ρ c main_v3 (by decide)).trans ((W4_of m ρ c main_v3 (by decide +kernel)).trans (W3_v3 m ρ c))

end Cert.Proof.C
-- ==== Proof.CRefRun.lean ====
/- The run of `codes`'s reference. Its @main is a list of 53 host operations; every run of it ends with each result at the
   composed term of the operations over the arguments' contents at launch, the arguments unchanged. -/
module

public import proofs.«01_k».proof.Proof.Gen.CodesReferenceIdeal
public import Idealize.ShloMosaic.Lib.StableHlo.Run

@[expose] public section

noncomputable section

namespace Cert.CodesReferenceIdeal.Value

open Cert.CodesReferenceIdeal Cert.CodesReferenceIdeal.Gen Idealize.ShloMosaic Idealize.ShloMosaic.TcCoe Idealize.SL.Sem Idealize.ShloMosaic.StableHlo

variable {F : FTy → Type} [FloatOps F]

/-- @main's 53 operations, in order (a called function's operations stand in its call's place, spelt `TRef.…`). -/
abbrev ops : List (HloOp τ sig (Elt F)) :=
  [ binary main_arg1 main_arg0 main_v0 ((fun l r => Host.dotGeneral dot_S64x128_S1024x128x256_S64x1024x256_1_1_0_02_n_n none l r) : (⟨S64x128, .f32⟩ : BufTy).Contents (Elt F) → (⟨S1024x128x256, .f32⟩ : BufTy).Contents (Elt F) → (⟨S64x1024x256, .f32⟩ : BufTy).Contents (Elt F)),
    unary main_v0 main_v1 ((transpose S1024x64x256 [1, 0, 2] · transposes_S64x1024x256_S1024x64x256_1_0_2) : (⟨S64x1024x256, .f32⟩ : BufTy).Contents (Elt F) → (⟨S1024x64x256, .f32⟩ : BufTy).Contents (Elt F)),
    unary main_arg2 main_v2 (broadcastInDim S1x64x1 ![1] bcast_S64_S1x64x1_1 : (⟨S64, .f32⟩ : BufTy).Contents (Elt F) → (⟨S1x64x1, .f32⟩ : BufTy).Contents (Elt F)),
    unary main_v2 main_v3 (broadcastInDim S1024x64x256 ![0, 1, 2] bcast_S1x64x1_S1024x64x256_0_1_2 : (⟨S1x64x1, .f32⟩ : BufTy).Contents (Elt F) → (⟨S1024x64x256, .f32⟩ : BufTy).Contents (Elt F)),
    binary main_v1 main_v3 main_v4 (addf : (⟨S1024x64x256, .f32⟩ : BufTy).Contents (Elt F) → (⟨S1024x64x256, .f32⟩ : BufTy).Contents (Elt F) → (⟨S1024x64x256, .f32⟩ : BufTy).Contents (Elt F)),
    nullary main_cst (constant S_ .f32 0x00000000#32),
    unary main_cst main_v5 (broadcastInDim S1024x64x256 ![] bcast_S_S1024x64x256 : (⟨S_, .f32⟩ : BufTy).Contents (Elt F) → (⟨S1024x64x256, .f32⟩ : BufTy).Contents (Elt F)),
    binary main_v4 main_v5 main_v6 (cmpf .oge : (⟨S1024x64x256, .f32⟩ : BufTy).Contents (Elt F) → (⟨S1024x64x256, .f32⟩ : BufTy).Contents (Elt F) → (⟨S1024x64x256, .i1⟩ : BufTy).Contents (Elt F)),
    nullary main_cst_0 (constant S_ .f32 0x3A83126F#32),
    unary main_cst_0 main_v7 (broadcastInDim S1024x64x256 ![] bcast_S_S1024x64x256 : (⟨S_, .f32⟩ : BufTy).Contents (Elt F) → (⟨S1024x64x256, .f32⟩ : BufTy).Contents (Elt F)),
    binary main_v7 main_v4 main_v8 (mulf : (⟨S1024x64x256, .f32⟩ : BufTy).Contents (Elt F) → (⟨S1024x64x256, .f32⟩ : BufTy).Contents (Elt F) → (⟨S1024x64x256, .f32⟩ : BufTy).Contents (Elt F)),
    TRef.ternary (TRef.of (T := ⟨S1024x64x256, .i1⟩) main_v6) (TRef.of (T := ⟨S1024x64x256, .f32⟩) main_v4) (TRef.of (T := ⟨S1024x64x256, .f32⟩) main_v8) (TRef.of (T := ⟨S1024x64x256, .f32⟩) main_v9) select,
    binary main_arg3 main_v9 main_v10 ((fun l r => Host.dotGeneral dot_S128x64_S1024x64x256_S128x1024x256_1_1_0_02_n_n none l r) : (⟨S128x64, .f32⟩ : BufTy).Contents (Elt F) → (⟨S1024x64x256, .f32⟩ : BufTy).Contents (Elt F) → (⟨S128x1024x256, .f32⟩ : BufTy).Contents (Elt F)),
    unary main_v10 main_v11 ((transpose S1024x128x256 [1, 0, 2] · transposes_S128x1024x256_S1024x128x256_1_0_2) : (⟨S128x1024x256, .f32⟩ : BufTy).Contents (Elt F) → (⟨S1024x128x256, .f32⟩ : BufTy).Contents (Elt F)),
    unary main_arg4 main_v12 (broadcastInDim S1x128x1 ![1] bcast_S128_S1x128x1_1 : (⟨S128, .f32⟩ : BufTy).Contents (Elt F) → (⟨S1x128x1, .f32⟩ : BufTy).Contents (Elt F)),
    unary main_v12 main_v13 (broadcastInDim S1024x128x256 ![0, 1, 2] bcast_S1x128x1_S1024x128x256_0_1_2 : (⟨S1x128x1, .f32⟩ : BufTy).Contents (Elt F) → (⟨S1024x128x256, .f32⟩ : BufTy).Contents (Elt F)),
    binary main_v11 main_v13 main_v14 (addf : (⟨S1024x128x256, .f32⟩ : BufTy).Contents (Elt F) → (⟨S1024x128x256, .f32⟩ : BufTy).Contents (Elt F) → (⟨S1024x128x256, .f32⟩ : BufTy).Contents (Elt F)),
    nullary main_cst_1 (constant S_ .f32 0x00000000#32),
    unary main_cst_1 main_v15 (broadcastInDim S1024x128x256 ![] bcast_S_S1024x128x256 : (⟨S_, .f32⟩ : BufTy).Contents (Elt F) → (⟨S1024x128x256, .f32⟩ : BufTy).Contents (Elt F)),
    binary main_v14 main_v15 main_v16 (cmpf .oge : (⟨S1024x128x256, .f32⟩ : BufTy).Contents (Elt F) → (⟨S1024x128x256, .f32⟩ : BufTy).Contents (Elt F) → (⟨S1024x128x256, .i1⟩ : BufTy).Contents (Elt F)),
    nullary main_cst_2 (constant S_ .f32 0x3A83126F#32),
    unary main_cst_2 main_v17 (broadcastInDim S1024x128x256 ![] bcast_S_S1024x128x256 : (⟨S_, .f32⟩ : BufTy).Contents (Elt F) → (⟨S1024x128x256, .f32⟩ : BufTy).Contents (Elt F)),
    binary main_v17 main_v14 main_v18 (mulf : (⟨S1024x128x256, .f32⟩ : BufTy).Contents (Elt F) → (⟨S1024x128x256, .f32⟩ : BufTy).Contents (Elt F) → (⟨S1024x128x256, .f32⟩ : BufTy).Contents (Elt F)),
    TRef.ternary (TRef.of (T := ⟨S1024x128x256, .i1⟩) main_v16) (TRef.of (T := ⟨S1024x128x256, .f32⟩) main_v14) (TRef.of (T := ⟨S1024x128x256, .f32⟩) main_v18) (TRef.of (T := ⟨S1024x128x256, .f32⟩) main_v19) select,
    binary main_arg5 main_v19 main_v20 ((fun l r => Host.dotGeneral dot_S64x128_S1024x128x256_S64x1024x256_1_1_0_02_n_n none l r) : (⟨S64x128, .f32⟩ : BufTy).Contents (Elt F) → (⟨S1024x128x256, .f32⟩ : BufTy).Contents (Elt F) → (⟨S64x1024x256, .f32⟩ : BufTy).Contents (Elt F)),
    unary main_v20 main_v21 ((transpose S1024x64x256 [1, 0, 2] · transposes_S64x1024x256_S1024x64x256_1_0_2) : (⟨S64x1024x256, .f32⟩ : BufTy).Contents (Elt F) → (⟨S1024x64x256, .f32⟩ : BufTy).Contents (Elt F)),
    unary main_arg6 main_v22 (broadcastInDim S1x64x1 ![1] bcast_S64_S1x64x1_1 : (⟨S64, .f32⟩ : BufTy).Contents (Elt F) → (⟨S1x64x1, .f32⟩ : BufTy).Contents (Elt F)),
    unary main_v22 main_v23 (broadcastInDim S1024x64x256 ![0, 1, 2] bcast_S1x64x1_S1024x64x256_0_1_2 : (⟨S1x64x1, .f32⟩ : BufTy).Contents (Elt F) → (⟨S1024x64x256, .f32⟩ : BufTy).Contents (Elt F)),
    binary main_v21 main_v23 main_v24 (addf : (⟨S1024x64x256, .f32⟩ : BufTy).Contents (Elt F) → (⟨S1024x64x256, .f32⟩ : BufTy).Contents (Elt F) → (⟨S1024x64x256, .f32⟩ : BufTy).Contents (Elt F)),
    nullary main_cst_3 (constant S_ .f32 0xFF800000#32),
    binary main_v24 main_cst_3 main_v25 ((fun x v => Host.reduce FloatOps.maximumf x v reducesTo_S1024x64x256_S1024x64_d2 h_S_) : (⟨S1024x64x256, .f32⟩ : BufTy).Contents (Elt F) → (⟨S_, .f32⟩ : BufTy).Contents (Elt F) → (⟨S1024x64, .f32⟩ : BufTy).Contents (Elt F)),
    binary main_v25 main_v25 main_v26 (mulf : (⟨S1024x64, .f32⟩ : BufTy).Contents (Elt F) → (⟨S1024x64, .f32⟩ : BufTy).Contents (Elt F) → (⟨S1024x64, .f32⟩ : BufTy).Contents (Elt F)),
    nullary main_cst_4 (constant S_ .f32 0x00000000#32),
    binary main_v26 main_cst_4 main_v27 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v27 main_v28 (broadcastInDim S1024x1 ![0] bcast_S1024_S1024x1_0 : (⟨S1024, .f32⟩ : BufTy).Contents (Elt F) → (⟨S1024x1, .f32⟩ : BufTy).Contents (Elt F)),
    binary main_arg7 main_arg7 main_v29 (mulf : (⟨S8192x64, .f32⟩ : BufTy).Contents (Elt F) → (⟨S8192x64, .f32⟩ : BufTy).Contents (Elt F) → (⟨S8192x64, .f32⟩ : BufTy).Contents (Elt F)),
    nullary main_cst_5 (constant S_ .f32 0x00000000#32),
    binary main_v29 main_cst_5 main_v30 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v30 main_v31 (broadcastInDim S1x8192 ![1] bcast_S8192_S1x8192_1 : (⟨S8192, .f32⟩ : BufTy).Contents (Elt F) → (⟨S1x8192, .f32⟩ : BufTy).Contents (Elt F)),
    unary main_v28 main_v32 (broadcastInDim S1024x8192 ![0, 1] bcast_S1024x1_S1024x8192_0_1 : (⟨S1024x1, .f32⟩ : BufTy).Contents (Elt F) → (⟨S1024x8192, .f32⟩ : BufTy).Contents (Elt F)),
    unary main_v31 main_v33 (broadcastInDim S1024x8192 ![0, 1] bcast_S1x8192_S1024x8192_0_1 : (⟨S1x8192, .f32⟩ : BufTy).Contents (Elt F) → (⟨S1024x8192, .f32⟩ : BufTy).Contents (Elt F)),
    binary main_v32 main_v33 main_v34 (addf : (⟨S1024x8192, .f32⟩ : BufTy).Contents (Elt F) → (⟨S1024x8192, .f32⟩ : BufTy).Contents (Elt F) → (⟨S1024x8192, .f32⟩ : BufTy).Contents (Elt F)),
    unary main_arg7 main_v35 ((transpose S64x8192 [1, 0] · transposes_S8192x64_S64x8192_1_0) : (⟨S8192x64, .f32⟩ : BufTy).Contents (Elt F) → (⟨S64x8192, .f32⟩ : BufTy).Contents (Elt F)),
    binary main_v25 main_v35 main_v36 ((fun l r => Host.dotGeneral dot_S1024x64_S64x8192_S1024x8192_1_0_0_1_n_n none l r) : (⟨S1024x64, .f32⟩ : BufTy).Contents (Elt F) → (⟨S64x8192, .f32⟩ : BufTy).Contents (Elt F) → (⟨S1024x8192, .f32⟩ : BufTy).Contents (Elt F)),
    nullary main_cst_6 (constant S_ .f32 0x40000000#32),
    unary main_cst_6 main_v37 (broadcastInDim S1024x8192 ![] bcast_S_S1024x8192 : (⟨S_, .f32⟩ : BufTy).Contents (Elt F) → (⟨S1024x8192, .f32⟩ : BufTy).Contents (Elt F)),
    binary main_v37 main_v36 main_v38 (mulf : (⟨S1024x8192, .f32⟩ : BufTy).Contents (Elt F) → (⟨S1024x8192, .f32⟩ : BufTy).Contents (Elt F) → (⟨S1024x8192, .f32⟩ : BufTy).Contents (Elt F)),
    binary main_v34 main_v38 main_v39 (subf : (⟨S1024x8192, .f32⟩ : BufTy).Contents (Elt F) → (⟨S1024x8192, .f32⟩ : BufTy).Contents (Elt F) → (⟨S1024x8192, .f32⟩ : BufTy).Contents (Elt F)),
    TRef.nullary (TRef.of (T := ⟨S1024x8192, .i32⟩) main_call2_v0) (iotaInDim S1024x8192 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S1024x8192, .f32⟩) main_v39) (TRef.of (T := ⟨S1024x8192, .i32⟩) main_call2_v0) (TRef.of (T := ⟨S_, .f32⟩) main_call2_cst) (TRef.of (T := ⟨S_, .i32⟩) main_call2_c) (TRef.of (T := ⟨S1024, .f32⟩) main_call2_v1_0) (fun x y u v j => (Host.argReduce reducer_argmin_f32_i32 x y u v reducesTo_S1024x8192_S1024_d1 h_S_ j).1),
    TRef.quaternary (TRef.of (T := ⟨S1024x8192, .f32⟩) main_v39) (TRef.of (T := ⟨S1024x8192, .i32⟩) main_call2_v0) (TRef.of (T := ⟨S_, .f32⟩) main_call2_cst) (TRef.of (T := ⟨S_, .i32⟩) main_call2_c) (TRef.of (T := ⟨S1024, .i32⟩) main_v40) (fun x y u v j => (Host.argReduce reducer_argmin_f32_i32 x y u v reducesTo_S1024x8192_S1024_d1 h_S_ j).2) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., unary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub ..⟩

set_option maxRecDepth 8192 in
/-- `main_v40`'s composed term of the arguments (named: it is long). -/
def res_main_v40 (m : (ℓ : Loc nD τ sig) → Buf (Elt F) ℓ) (c : Dev nD) : Buf (Elt F) ((c.tc : Thread nD τ).loc main_v40) :=
  (fun j => (Host.argReduce reducer_argmin_f32_i32 (subf (addf (broadcastInDim S1024x8192 ![0, 1] bcast_S1024x1_S1024x8192_0_1 (broadcastInDim S1024x1 ![0] bcast_S1024_S1024x1_0 (Host.reduceAdd (mulf (Host.reduce FloatOps.maximumf (addf (transpose S1024x64x256 [1, 0, 2] (Host.dotGeneral dot_S64x128_S1024x128x256_S64x1024x256_1_1_0_02_n_n none (m ((c.tc : Thread nD τ).loc main_arg5)) (select (cmpf .oge (addf (transpose S1024x128x256 [1, 0, 2] (Host.dotGeneral dot_S128x64_S1024x64x256_S128x1024x256_1_1_0_02_n_n none (m ((c.tc : Thread nD τ).loc main_arg3)) (select (cmpf .oge (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (broadcastInDim S1024x64x256 ![] bcast_S_S1024x64x256 (constant S_ .f32 0x00000000#32))) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (mulf (broadcastInDim S1024x64x256 ![] bcast_S_S1024x64x256 (constant S_ .f32 0x3A83126F#32)) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2)))))))) transposes_S128x1024x256_S1024x128x256_1_0_2) (broadcastInDim S1024x128x256 ![0, 1, 2] bcast_S1x128x1_S1024x128x256_0_1_2 (broadcastInDim S1x128x1 ![1] bcast_S128_S1x128x1_1 (m ((c.tc : Thread nD τ).loc main_arg4))))) (broadcastInDim S1024x128x256 ![] bcast_S_S1024x128x256 (constant S_ .f32 0x00000000#32))) (addf (transpose S1024x128x256 [1, 0, 2] (Host.dotGeneral dot_S128x64_S1024x64x256_S128x1024x256_1_1_0_02_n_n none (m ((c.tc : Thread nD τ).loc main_arg3)) (select (cmpf .oge (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (broadcastInDim S1024x64x256 ![] bcast_S_S1024x64x256 (constant S_ .f32 0x00000000#32))) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (mulf (broadcastInDim S1024x64x256 ![] bcast_S_S1024x64x256 (constant S_ .f32 0x3A83126F#32)) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2)))))))) transposes_S128x1024x256_S1024x128x256_1_0_2) (broadcastInDim S1024x128x256 ![0, 1, 2] bcast_S1x128x1_S1024x128x256_0_1_2 (broadcastInDim S1x128x1 ![1] bcast_S128_S1x128x1_1 (m ((c.tc : Thread nD τ).loc main_arg4))))) (mulf (broadcastInDim S1024x128x256 ![] bcast_S_S1024x128x256 (constant S_ .f32 0x3A83126F#32)) (addf (transpose S1024x128x256 [1, 0, 2] (Host.dotGeneral dot_S128x64_S1024x64x256_S128x1024x256_1_1_0_02_n_n none (m ((c.tc : Thread nD τ).loc main_arg3)) (select (cmpf .oge (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (broadcastInDim S1024x64x256 ![] bcast_S_S1024x64x256 (constant S_ .f32 0x00000000#32))) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (mulf (broadcastInDim S1024x64x256 ![] bcast_S_S1024x64x256 (constant S_ .f32 0x3A83126F#32)) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2)))))))) transposes_S128x1024x256_S1024x128x256_1_0_2) (broadcastInDim S1024x128x256 ![0, 1, 2] bcast_S1x128x1_S1024x128x256_0_1_2 (broadcastInDim S1x128x1 ![1] bcast_S128_S1x128x1_1 (m ((c.tc : Thread nD τ).loc main_arg4)))))))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg6))))) (constant S_ .f32 0xFF800000#32) reducesTo_S1024x64x256_S1024x64_d2 h_S_) (Host.reduce FloatOps.maximumf (addf (transpose S1024x64x256 [1, 0, 2] (Host.dotGeneral dot_S64x128_S1024x128x256_S64x1024x256_1_1_0_02_n_n none (m ((c.tc : Thread nD τ).loc main_arg5)) (select (cmpf .oge (addf (transpose S1024x128x256 [1, 0, 2] (Host.dotGeneral dot_S128x64_S1024x64x256_S128x1024x256_1_1_0_02_n_n none (m ((c.tc : Thread nD τ).loc main_arg3)) (select (cmpf .oge (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (broadcastInDim S1024x64x256 ![] bcast_S_S1024x64x256 (constant S_ .f32 0x00000000#32))) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (mulf (broadcastInDim S1024x64x256 ![] bcast_S_S1024x64x256 (constant S_ .f32 0x3A83126F#32)) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2)))))))) transposes_S128x1024x256_S1024x128x256_1_0_2) (broadcastInDim S1024x128x256 ![0, 1, 2] bcast_S1x128x1_S1024x128x256_0_1_2 (broadcastInDim S1x128x1 ![1] bcast_S128_S1x128x1_1 (m ((c.tc : Thread nD τ).loc main_arg4))))) (broadcastInDim S1024x128x256 ![] bcast_S_S1024x128x256 (constant S_ .f32 0x00000000#32))) (addf (transpose S1024x128x256 [1, 0, 2] (Host.dotGeneral dot_S128x64_S1024x64x256_S128x1024x256_1_1_0_02_n_n none (m ((c.tc : Thread nD τ).loc main_arg3)) (select (cmpf .oge (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (broadcastInDim S1024x64x256 ![] bcast_S_S1024x64x256 (constant S_ .f32 0x00000000#32))) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (mulf (broadcastInDim S1024x64x256 ![] bcast_S_S1024x64x256 (constant S_ .f32 0x3A83126F#32)) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2)))))))) transposes_S128x1024x256_S1024x128x256_1_0_2) (broadcastInDim S1024x128x256 ![0, 1, 2] bcast_S1x128x1_S1024x128x256_0_1_2 (broadcastInDim S1x128x1 ![1] bcast_S128_S1x128x1_1 (m ((c.tc : Thread nD τ).loc main_arg4))))) (mulf (broadcastInDim S1024x128x256 ![] bcast_S_S1024x128x256 (constant S_ .f32 0x3A83126F#32)) (addf (transpose S1024x128x256 [1, 0, 2] (Host.dotGeneral dot_S128x64_S1024x64x256_S128x1024x256_1_1_0_02_n_n none (m ((c.tc : Thread nD τ).loc main_arg3)) (select (cmpf .oge (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (broadcastInDim S1024x64x256 ![] bcast_S_S1024x64x256 (constant S_ .f32 0x00000000#32))) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (mulf (broadcastInDim S1024x64x256 ![] bcast_S_S1024x64x256 (constant S_ .f32 0x3A83126F#32)) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2)))))))) transposes_S128x1024x256_S1024x128x256_1_0_2) (broadcastInDim S1024x128x256 ![0, 1, 2] bcast_S1x128x1_S1024x128x256_0_1_2 (broadcastInDim S1x128x1 ![1] bcast_S128_S1x128x1_1 (m ((c.tc : Thread nD τ).loc main_arg4)))))))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg6))))) (constant S_ .f32 0xFF800000#32) reducesTo_S1024x64x256_S1024x64_d2 h_S_)) (constant S_ .f32 0x00000000#32) reducesTo_S1024x64_S1024_d1 h_S_))) (broadcastInDim S1024x8192 ![0, 1] bcast_S1x8192_S1024x8192_0_1 (broadcastInDim S1x8192 ![1] bcast_S8192_S1x8192_1 (Host.reduceAdd (mulf (m ((c.tc : Thread nD τ).loc main_arg7)) (m ((c.tc : Thread nD τ).loc main_arg7))) (constant S_ .f32 0x00000000#32) reducesTo_S8192x64_S8192_d1 h_S_)))) (mulf (broadcastInDim S1024x8192 ![] bcast_S_S1024x8192 (constant S_ .f32 0x40000000#32)) (Host.dotGeneral dot_S1024x64_S64x8192_S1024x8192_1_0_0_1_n_n none (Host.reduce FloatOps.maximumf (addf (transpose S1024x64x256 [1, 0, 2] (Host.dotGeneral dot_S64x128_S1024x128x256_S64x1024x256_1_1_0_02_n_n none (m ((c.tc : Thread nD τ).loc main_arg5)) (select (cmpf .oge (addf (transpose S1024x128x256 [1, 0, 2] (Host.dotGeneral dot_S128x64_S1024x64x256_S128x1024x256_1_1_0_02_n_n none (m ((c.tc : Thread nD τ).loc main_arg3)) (select (cmpf .oge (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (broadcastInDim S1024x64x256 ![] bcast_S_S1024x64x256 (constant S_ .f32 0x00000000#32))) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (mulf (broadcastInDim S1024x64x256 ![] bcast_S_S1024x64x256 (constant S_ .f32 0x3A83126F#32)) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2)))))))) transposes_S128x1024x256_S1024x128x256_1_0_2) (broadcastInDim S1024x128x256 ![0, 1, 2] bcast_S1x128x1_S1024x128x256_0_1_2 (broadcastInDim S1x128x1 ![1] bcast_S128_S1x128x1_1 (m ((c.tc : Thread nD τ).loc main_arg4))))) (broadcastInDim S1024x128x256 ![] bcast_S_S1024x128x256 (constant S_ .f32 0x00000000#32))) (addf (transpose S1024x128x256 [1, 0, 2] (Host.dotGeneral dot_S128x64_S1024x64x256_S128x1024x256_1_1_0_02_n_n none (m ((c.tc : Thread nD τ).loc main_arg3)) (select (cmpf .oge (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (broadcastInDim S1024x64x256 ![] bcast_S_S1024x64x256 (constant S_ .f32 0x00000000#32))) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (mulf (broadcastInDim S1024x64x256 ![] bcast_S_S1024x64x256 (constant S_ .f32 0x3A83126F#32)) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2)))))))) transposes_S128x1024x256_S1024x128x256_1_0_2) (broadcastInDim S1024x128x256 ![0, 1, 2] bcast_S1x128x1_S1024x128x256_0_1_2 (broadcastInDim S1x128x1 ![1] bcast_S128_S1x128x1_1 (m ((c.tc : Thread nD τ).loc main_arg4))))) (mulf (broadcastInDim S1024x128x256 ![] bcast_S_S1024x128x256 (constant S_ .f32 0x3A83126F#32)) (addf (transpose S1024x128x256 [1, 0, 2] (Host.dotGeneral dot_S128x64_S1024x64x256_S128x1024x256_1_1_0_02_n_n none (m ((c.tc : Thread nD τ).loc main_arg3)) (select (cmpf .oge (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (broadcastInDim S1024x64x256 ![] bcast_S_S1024x64x256 (constant S_ .f32 0x00000000#32))) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (mulf (broadcastInDim S1024x64x256 ![] bcast_S_S1024x64x256 (constant S_ .f32 0x3A83126F#32)) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2)))))))) transposes_S128x1024x256_S1024x128x256_1_0_2) (broadcastInDim S1024x128x256 ![0, 1, 2] bcast_S1x128x1_S1024x128x256_0_1_2 (broadcastInDim S1x128x1 ![1] bcast_S128_S1x128x1_1 (m ((c.tc : Thread nD τ).loc main_arg4)))))))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg6))))) (constant S_ .f32 0xFF800000#32) reducesTo_S1024x64x256_S1024x64_d2 h_S_) (transpose S64x8192 [1, 0] (m ((c.tc : Thread nD τ).loc main_arg7)) transposes_S8192x64_S64x8192_1_0)))) (iotaInDim S1024x8192 32 1) (constant S_ .f32 0x7F800000#32) (constantI S_ 32 0#32) reducesTo_S1024x8192_S1024_d1 h_S_ j).2)

set_option maxRecDepth 8192 in
/-- `main_v25`'s composed term of the arguments (named: it is long). -/
def res_main_v25 (m : (ℓ : Loc nD τ sig) → Buf (Elt F) ℓ) (c : Dev nD) : Buf (Elt F) ((c.tc : Thread nD τ).loc main_v25) :=
  Host.reduce FloatOps.maximumf (addf (transpose S1024x64x256 [1, 0, 2] (Host.dotGeneral dot_S64x128_S1024x128x256_S64x1024x256_1_1_0_02_n_n none (m ((c.tc : Thread nD τ).loc main_arg5)) (select (cmpf .oge (addf (transpose S1024x128x256 [1, 0, 2] (Host.dotGeneral dot_S128x64_S1024x64x256_S128x1024x256_1_1_0_02_n_n none (m ((c.tc : Thread nD τ).loc main_arg3)) (select (cmpf .oge (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (broadcastInDim S1024x64x256 ![] bcast_S_S1024x64x256 (constant S_ .f32 0x00000000#32))) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (mulf (broadcastInDim S1024x64x256 ![] bcast_S_S1024x64x256 (constant S_ .f32 0x3A83126F#32)) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2)))))))) transposes_S128x1024x256_S1024x128x256_1_0_2) (broadcastInDim S1024x128x256 ![0, 1, 2] bcast_S1x128x1_S1024x128x256_0_1_2 (broadcastInDim S1x128x1 ![1] bcast_S128_S1x128x1_1 (m ((c.tc : Thread nD τ).loc main_arg4))))) (broadcastInDim S1024x128x256 ![] bcast_S_S1024x128x256 (constant S_ .f32 0x00000000#32))) (addf (transpose S1024x128x256 [1, 0, 2] (Host.dotGeneral dot_S128x64_S1024x64x256_S128x1024x256_1_1_0_02_n_n none (m ((c.tc : Thread nD τ).loc main_arg3)) (select (cmpf .oge (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (broadcastInDim S1024x64x256 ![] bcast_S_S1024x64x256 (constant S_ .f32 0x00000000#32))) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (mulf (broadcastInDim S1024x64x256 ![] bcast_S_S1024x64x256 (constant S_ .f32 0x3A83126F#32)) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2)))))))) transposes_S128x1024x256_S1024x128x256_1_0_2) (broadcastInDim S1024x128x256 ![0, 1, 2] bcast_S1x128x1_S1024x128x256_0_1_2 (broadcastInDim S1x128x1 ![1] bcast_S128_S1x128x1_1 (m ((c.tc : Thread nD τ).loc main_arg4))))) (mulf (broadcastInDim S1024x128x256 ![] bcast_S_S1024x128x256 (constant S_ .f32 0x3A83126F#32)) (addf (transpose S1024x128x256 [1, 0, 2] (Host.dotGeneral dot_S128x64_S1024x64x256_S128x1024x256_1_1_0_02_n_n none (m ((c.tc : Thread nD τ).loc main_arg3)) (select (cmpf .oge (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (broadcastInDim S1024x64x256 ![] bcast_S_S1024x64x256 (constant S_ .f32 0x00000000#32))) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2))))) (mulf (broadcastInDim S1024x64x256 ![] bcast_S_S1024x64x256 (constant S_ .f32 0x3A83126F#32)) (addf (transpose S1024x64x256 [1, 0, 2] (Host.dotGeneral dot_S64x128_S1024x128x256_S64x1024x256_1_1_0_02_n_n none (m ((c.tc : Thread nD τ).loc main_arg1)) (m ((c.tc : Thread nD τ).loc main_arg0))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg2)))))))) transposes_S128x1024x256_S1024x128x256_1_0_2) (broadcastInDim S1024x128x256 ![0, 1, 2] bcast_S1x128x1_S1024x128x256_0_1_2 (broadcastInDim S1x128x1 ![1] bcast_S128_S1x128x1_1 (m ((c.tc : Thread nD τ).loc main_arg4)))))))) transposes_S64x1024x256_S1024x64x256_1_0_2) (broadcastInDim S1024x64x256 ![0, 1, 2] bcast_S1x64x1_S1024x64x256_0_1_2 (broadcastInDim S1x64x1 ![1] bcast_S64_S1x64x1_1 (m ((c.tc : Thread nD τ).loc main_arg6))))) (constant S_ .f32 0xFF800000#32) reducesTo_S1024x64x256_S1024x64_d2 h_S_

set_option maxRecDepth 8192 in
set_option maxHeartbeats 2000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = res_main_v25 m c
      ∧ r.2.mem ((c.tc : Thread nD τ).loc main_v40) = res_main_v40 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v25).trans (by simp only [ops, TRef.nullary, TRef.quaternary, TRef.ternary, TRef.toBuf, TRef.ofBuf, cast_eq]; after_results_simp <;> (unfold res_main_v25; rfl)),
      (h c main_v40).trans (by simp only [ops, TRef.nullary, TRef.quaternary, TRef.ternary, TRef.toBuf, TRef.ofBuf, cast_eq]; after_results_simp <;> (unfold res_main_v40; rfl)),
      (h c main_arg0).trans (by simp only [ops, TRef.nullary, TRef.quaternary, TRef.ternary, TRef.toBuf, TRef.ofBuf, cast_eq]; after_results_simp),
      (h c main_arg1).trans (by simp only [ops, TRef.nullary, TRef.quaternary, TRef.ternary, TRef.toBuf, TRef.ofBuf, cast_eq]; after_results_simp),
      (h c main_arg2).trans (by simp only [ops, TRef.nullary, TRef.quaternary, TRef.ternary, TRef.toBuf, TRef.ofBuf, cast_eq]; after_results_simp),
      (h c main_arg3).trans (by simp only [ops, TRef.nullary, TRef.quaternary, TRef.ternary, TRef.toBuf, TRef.ofBuf, cast_eq]; after_results_simp),
      (h c main_arg4).trans (by simp only [ops, TRef.nullary, TRef.quaternary, TRef.ternary, TRef.toBuf, TRef.ofBuf, cast_eq]; after_results_simp),
      (h c main_arg5).trans (by simp only [ops, TRef.nullary, TRef.quaternary, TRef.ternary, TRef.toBuf, TRef.ofBuf, cast_eq]; after_results_simp),
      (h c main_arg6).trans (by simp only [ops, TRef.nullary, TRef.quaternary, TRef.ternary, TRef.toBuf, TRef.ofBuf, cast_eq]; after_results_simp),
      (h c main_arg7).trans (by simp only [ops, TRef.nullary, TRef.quaternary, TRef.ternary, TRef.toBuf, TRef.ofBuf, cast_eq]; after_results_simp)⟩)
    (run_seq scopedRefs_eq scopedSems_eq defs main (fun _ => ops) main_eq (fun _ => ops_sub) m ρ)

end Cert.CodesReferenceIdeal.Value

end
-- ==== Proof.CMath.lean ====
/- The terms of `codes`'s reference read at an index, as the plain formulas. -/
module

public import proofs.«01_k».proof.Proof.CRefRun
public import proofs.«01_k».proof.Proof.MathR
public import Idealize.ShloMosaic.Lib.Routing.OpsPair
public import Idealize.ShloMosaic.Lib.Routing.Ops

@[expose] public section

set_option maxRecDepth 16384

noncomputable section

namespace Cert.Proof.MC

open Idealize.ShloMosaic Cert.CodesReferenceIdeal Cert.CodesReferenceIdeal.Gen Cert.CodesReferenceIdeal.Value
open Cert.Proof.M hiding arg_at

section

variable {F : FTy → Type} [FloatOps F]
variable (m : (ℓ : Loc nD τ sig) → Buf (Elt F) ℓ) (c : Dev nD)

def A0 : FVec F S1024x128x256 .f32 := m ((c.tc : Thread nD τ).loc main_arg0)
def A1 : FVec F S64x128 .f32 := m ((c.tc : Thread nD τ).loc main_arg1)
def A2 : FVec F S64 .f32 := m ((c.tc : Thread nD τ).loc main_arg2)
def A3 : FVec F S128x64 .f32 := m ((c.tc : Thread nD τ).loc main_arg3)
def A4 : FVec F S128 .f32 := m ((c.tc : Thread nD τ).loc main_arg4)
def A5 : FVec F S64x128 .f32 := m ((c.tc : Thread nD τ).loc main_arg5)
def A6 : FVec F S64 .f32 := m ((c.tc : Thread nD τ).loc main_arg6)
def A7 : FVec F S8192x64 .f32 := m ((c.tc : Thread nD τ).loc main_arg7)
def rH1 : FVec F S1024x64x256 .f32 :=
  addf (transpose S1024x64x256 [1, 0, 2] (Host.dotGeneral dot_S64x128_S1024x128x256_S64x1024x256_1_1_0_02_n_n none (A1 m c) (A0 m c)) transposes_S64x1024x256_S1024x64x256_1_0_2) (broadcastInDim S1024x64x256 ![0, 1, 2] bcast_S1x64x1_S1024x64x256_0_1_2 (broadcastInDim S1x64x1 ![1] bcast_S64_S1x64x1_1 (A2 m c)))
def rH2 : FVec F S1024x128x256 .f32 :=
  addf (transpose S1024x128x256 [1, 0, 2] (Host.dotGeneral dot_S128x64_S1024x64x256_S128x1024x256_1_1_0_02_n_n none (A3 m c) (select (cmpf .oge (rH1 m c) (broadcastInDim S1024x64x256 ![] bcast_S_S1024x64x256 (constant S_ .f32 0x00000000#32))) (rH1 m c) (mulf (broadcastInDim S1024x64x256 ![] bcast_S_S1024x64x256 (constant S_ .f32 0x3A83126F#32)) (rH1 m c)))) transposes_S128x1024x256_S1024x128x256_1_0_2) (broadcastInDim S1024x128x256 ![0, 1, 2] bcast_S1x128x1_S1024x128x256_0_1_2 (broadcastInDim S1x128x1 ![1] bcast_S128_S1x128x1_1 (A4 m c)))
/-- The reference's first result: the encoder's rows. -/
def rZ : FVec F S1024x64 .f32 :=
  Host.reduce FloatOps.maximumf (addf (transpose S1024x64x256 [1, 0, 2] (Host.dotGeneral dot_S64x128_S1024x128x256_S64x1024x256_1_1_0_02_n_n none (A5 m c) (select (cmpf .oge (rH2 m c) (broadcastInDim S1024x128x256 ![] bcast_S_S1024x128x256 (constant S_ .f32 0x00000000#32))) (rH2 m c) (mulf (broadcastInDim S1024x128x256 ![] bcast_S_S1024x128x256 (constant S_ .f32 0x3A83126F#32)) (rH2 m c)))) transposes_S64x1024x256_S1024x64x256_1_0_2) (broadcastInDim S1024x64x256 ![0, 1, 2] bcast_S1x64x1_S1024x64x256_0_1_2 (broadcastInDim S1x64x1 ![1] bcast_S64_S1x64x1_1 (A6 m c)))) (constant (F := F) S_ .f32 0xFF800000#32) reducesTo_S1024x64x256_S1024x64_d2 h_S_
def rD : FVec F S1024x8192 .f32 :=
  subf (addf (broadcastInDim S1024x8192 ![0, 1] bcast_S1024x1_S1024x8192_0_1 (broadcastInDim S1024x1 ![0] bcast_S1024_S1024x1_0 (Host.reduceAdd (mulf (rZ m c) (rZ m c)) (constant S_ .f32 0x00000000#32) reducesTo_S1024x64_S1024_d1 h_S_))) (broadcastInDim S1024x8192 ![0, 1] bcast_S1x8192_S1024x8192_0_1 (broadcastInDim S1x8192 ![1] bcast_S8192_S1x8192_1 (Host.reduceAdd (mulf (A7 m c) (A7 m c)) (constant S_ .f32 0x00000000#32) reducesTo_S8192x64_S8192_d1 h_S_)))) (mulf (broadcastInDim S1024x8192 ![] bcast_S_S1024x8192 (constant S_ .f32 0x40000000#32)) (Host.dotGeneral dot_S1024x64_S64x8192_S1024x8192_1_0_0_1_n_n none (rZ m c) (transpose S64x8192 [1, 0] (A7 m c) transposes_S8192x64_S64x8192_1_0)))
/-- The reference's second result: the nearest rows. -/
def rI : IVec S1024 32 := fun j =>
  (Host.argReduce reducer_argmin_f32_i32 (rD m c) (iotaInDim S1024x8192 32 1) (constant S_ .f32 0x7F800000#32 : FVec F S_ .f32)
    (constantI S_ 32 0#32) reducesTo_S1024x8192_S1024_d1 h_S_ j).2

theorem rZ_eq : res_main_v25 m c = rZ m c := rfl
theorem rI_eq : res_main_v40 m c = rI m c := rfl

end

variable (m : (ℓ : Loc nD τ sig) → Buf (Elt Ideal) ℓ) (c : Dev nD)

theorem rH1_at (i : Fin 1024) (o : Fin 64) (l : Fin 256) :
    rH1 m c (ix3 i o l) = (∑ x, A0 m c (ix3 i x l) * A1 m c (ix2 o x)) + A2 m c (ix1 o) :=
  e1_at (A1 m c) (A0 m c) (A2 m c) i o l

theorem rH2_at (i : Fin 1024) (o : Fin 128) (l : Fin 256) :
    rH2 m c (ix3 i o l) = (∑ p, lk (rH1 m c (ix3 i p l)) * A3 m c (ix2 o p)) + A4 m c (ix1 o) :=
  e2_at (A3 m c) (rH1 m c) (A4 m c) i o l

theorem rZ_at (i : Fin 1024) (o : Fin 64) :
    rZ m c (ix2 i o) = enc (fun x l => A0 m c (ix3 i x l)) (fun p x => A1 m c (ix2 p x)) (fun p => A2 m c (ix1 p)) (fun q p => A3 m c (ix2 q p))
      (fun q => A4 m c (ix1 q)) (fun q p => A5 m c (ix2 q p)) (fun q => A6 m c (ix1 q)) o := by
  refine (e3_at (A5 m c) (rH2 m c) (A6 m c) i o).trans ?_
  unfold enc
  simp only [rH2_at, rH1_at]

theorem rD_at (i : Fin 1024) (k : Fin 8192) :
    rD m c (ix2 i k) = dst (fun x => rZ m c (ix2 i x)) (fun k x => A7 m c (ix2 k x)) k :=
  d_at (rZ m c) (A7 m c) i k

/-- The reference's search at row `i`. -/
theorem arg_at (d : FVec Ideal S1024x8192 .f32) (i : Fin 1024) (f : Fin 8192 → EReal) (hf : ∀ k, d (ix2 i k) = f k)
    {k : Fin 8192} (hk : FirstMin f k) :
    (Host.argReduce reducer_argmin_f32_i32 d (iotaInDim S1024x8192 32 1) (constant S_ .f32 0x7F800000#32 : FVec Ideal S_ .f32)
      (constantI S_ 32 0#32) reducesTo_S1024x8192_S1024_d1 h_S_ (ix1 i)).2 = BitVec.ofNat 32 k.val := by
  rw [Ideal.argReduce_eq_reduce2, Host.reduce2_eq_foldl_fiber]
  have hs : (reducer_argmin_f32_i32 : Ideal .f32 × BitVec 32 → Ideal .f32 × BitVec 32 → Ideal .f32 × BitVec 32) = step := by
    funext a b
    unfold reducer_argmin_f32_i32 step
    simp only [Ideal.cmpf_def, Ideal.cmp, WordCmp.cmpi_slt_eq, ne_eq, not_true_eq_false, decide_false, BitVec.ofBool_false]
    by_cases h1 : a.1 < b.1
    · have h2 : ¬ a.1 = b.1 := ne_of_lt h1
      simp [h1, h2, IntOp.ori, IntOp.andi, Scalar.select]
    · by_cases h2 : a.1 = b.1 <;> by_cases h3 : a.2.toInt < b.2.toInt <;>
        simp [h1, h2, h3, IntOp.ori, IntOp.andi, Scalar.select]
  rw [hs]
  have hL := search (n := 8192) (by norm_num) (by norm_num) f
    (Host.argReduceFiber d (iotaInDim S1024x8192 32 1) reducesTo_S1024x8192_S1024_d1 (ix1 i)) (fun x => by
      unfold Host.argReduceFiber
      simp only [List.mem_map, List.mem_filter, List.mem_finRange, true_and, decide_eq_true_eq]
      constructor
      · rintro ⟨n, hn, rfl⟩
        obtain ⟨q, hq⟩ := (Shape.ReducesTo.fiber_r2_a1 reducesTo_S1024x8192_S1024_d1 (ix1 i) _).1 hn
        refine ⟨q, ?_⟩
        rw [← hq]
        exact Prod.ext (hf q) rfl
      · rintro ⟨q, rfl⟩
        refine ⟨S1024x8192.rowMajor (ix2 i q), ?_, ?_⟩
        · rw [Equiv.symm_apply_apply]
          exact (Shape.ReducesTo.fiber_r2_a1 reducesTo_S1024x8192_S1024_d1 (ix1 i) _).2 ⟨q, rfl⟩
        · rw [Equiv.symm_apply_apply]
          exact Prod.ext (hf q) rfl)
  obtain ⟨k', hk', e⟩ := hL
  rw [hk.unique hk', ← e]
  have : (constant S_ .f32 0x7F800000#32 : FVec Ideal S_ .f32) (Shape.Idx.first h_S_) = ⊤ := inf_word
  rw [this]
  rfl

theorem rI_def : rI m c = fun j =>
  (Host.argReduce reducer_argmin_f32_i32 (rD m c) (iotaInDim S1024x8192 32 1) (constant S_ .f32 0x7F800000#32 : FVec Ideal S_ .f32)
    (constantI S_ 32 0#32) reducesTo_S1024x8192_S1024_d1 h_S_ j).2 := rfl

theorem rI_at (i : Fin 1024) {k : Fin 8192} (hk : FirstMin (dst (fun x => rZ m c (ix2 i x)) (fun k x => A7 m c (ix2 k x))) k) :
    rI m c (ix1 i) = BitVec.ofNat 32 k.val :=
  (congrFun (rI_def m c) (ix1 i)).trans (arg_at (rD m c) i _ (rD_at m c i) hk)

end Cert.Proof.MC
-- ==== Proof.CClaims.lean ====
/- The claims of `codes`: it runs to the end over the machine's words and over the reals, its arguments unchanged and every
   counter at zero, and over the reals its two results are its reference's. -/
module

public import proofs.«01_k».proof.Defs
public import proofs.«01_k».proof.Proof.Gen.Codes.Frame
public import proofs.«01_k».proof.Proof.CRun
public import proofs.«01_k».proof.Proof.CValue
public import proofs.«01_k».proof.Proof.CMath
public import Idealize.ShloMosaic.Adequacy
public import Idealize.ShloMosaic.Init

@[expose] public section

set_option maxRecDepth 16384

noncomputable section

namespace Cert.Proof.MC

open Idealize.ShloMosaic Idealize.ShloMosaic.TcCoe Idealize.SL.Sem

/-! ## The runs -/

/-- `Cert.quiescent_Codes`. -/
theorem frame_bits : Cert.quiescent_Codes := fun m g _ => Cert.Codes.Gen.frame m g

/-- `Cert.quiescent_CodesIdeal`. -/
theorem frame_ideal : Cert.quiescent_CodesIdeal := fun m g _ => Cert.CodesIdeal.Gen.frame m g

/-- `Cert.quiescent_CodesReferenceIdeal`: the reference declares no counter. -/
theorem frame_reference : Cert.quiescent_CodesReferenceIdeal := fun m g _ =>
  (θ_run Cert.CodesReferenceIdeal.defs _ _).mono
    (fun r h => ⟨fun c => (h c).2.2, sem_eq_zero_of_no_sems (by decide) r.2⟩)
    (Cert.CodesReferenceIdeal.Value.run (F := Ideal) m g)

/-! ## The agreement -/

variable (m : (ℓ : Loc Cert.CodesIdeal.nD Cert.CodesIdeal.τ Cert.CodesIdeal.sig) → Buf (Elt Ideal) ℓ)
variable (g : Dev Cert.CodesIdeal.nD → PrngReg) (c : Dev Cert.CodesIdeal.nD)
variable (m' : (ℓ : Loc Cert.CodesReferenceIdeal.nD Cert.CodesReferenceIdeal.τ Cert.CodesReferenceIdeal.sig) → Buf (Elt Ideal) ℓ)

/-- The reference's arguments are those of `codes`. -/
structure Agree : Prop where
  a0 : A0 m' c = C.X0 m c
  a1 : A1 m' c = C.X1 m c
  a2 : A2 m' c = C.X2 m c
  a3 : A3 m' c = C.X3 m c
  a4 : A4 m' c = C.X4 m c
  a5 : A5 m' c = C.X5 m c
  a6 : A6 m' c = C.X6 m c
  a7 : A7 m' c = C.X7 m c

variable {m c m'} (h : Agree m c m')
include h

theorem z_eq (r : Fin 1024) (o : Fin 64) : rZ m' c (ix2 r o) = C.zK m c r o := by
  rw [rZ_at, h.a0, h.a1, h.a2, h.a3, h.a4, h.a5, h.a6]
  rfl

theorem out0 : rZ m' c = Cert.CodesIdeal.Gen.W5 m g c (Proc.devRef .tc Cert.CodesIdeal.main_v3) := by
  rw [C.W5_v3]
  funext j
  have e : j = ix2 (j 0) (j 1) := by
    funext a
    match a with
    | 0 => rfl
    | 1 => rfl
  rw [e]
  exact z_eq h (j 0) (j 1)

theorem i_eq (r : Fin 1024) : rI m' c (ix1 r) = BitVec.ofNat 32 (C.kk m c r).val := by
  refine rI_at m' c r (k := C.kk m c r) ?_
  have e1 : (fun x => rZ m' c (ix2 r x)) = fun x => C.zK m c r x := funext fun x => z_eq h r x
  rw [e1, h.a7]
  exact C.kk_min m c r

theorem out1 : rI m' c = Cert.CodesIdeal.Gen.W5 m g c (Proc.devRef .tc Cert.CodesIdeal.main_v11) := by
  funext j
  have e : j = ix1 (j 0) := by
    funext a
    match a with
    | 0 => rfl
  rw [e]
  exact (i_eq h (j 0)).trans (C.ixs_at m g c (j 0)).symm

omit h in
open Cert.CodesIdeal Cert.CodesIdeal.Gen in
/-- `Cert.algebraic_CodesIdeal_CodesReferenceIdeal`. -/
theorem algebraic : Cert.algebraic_CodesIdeal_CodesReferenceIdeal := by
  intro m g m' g' _ hagree
  refine ⟨fun c => W5 m g c (Proc.devRef .tc main_v3), fun c => W5 m g c (Proc.devRef .tc main_v11), ?_, ?_⟩
  · refine (θ_run Cert.CodesIdeal.defs _ _).mono (fun r h c => ⟨
      h.1 c _ (mem_uc main_v3 (by decide)),
      h.1 c _ (mem_uc main_v11 (by decide)),
      (h.1 c _ (mem_uc main_arg0 (by decide))).trans (W5_args m g c main_arg0 (by decide)),
      (h.1 c _ (mem_uc main_arg1 (by decide))).trans (W5_args m g c main_arg1 (by decide)),
      (h.1 c _ (mem_uc main_arg2 (by decide))).trans (W5_args m g c main_arg2 (by decide)),
      (h.1 c _ (mem_uc main_arg3 (by decide))).trans (W5_args m g c main_arg3 (by decide)),
      (h.1 c _ (mem_uc main_arg4 (by decide))).trans (W5_args m g c main_arg4 (by decide)),
      (h.1 c _ (mem_uc main_arg5 (by decide))).trans (W5_args m g c main_arg5 (by decide)),
      (h.1 c _ (mem_uc main_arg6 (by decide))).trans (W5_args m g c main_arg6 (by decide)),
      (h.1 c _ (mem_uc main_arg7 (by decide))).trans (W5_args m g c main_arg7 (by decide))⟩)
      (C.run m g)
  · refine (θ_run Cert.CodesReferenceIdeal.defs _ _).mono (fun r h c => ?_) (Cert.CodesReferenceIdeal.Value.run (F := Ideal) m' g')
    obtain ⟨a0, a1, a2, a3, a4, a5, a6, a7⟩ := hagree c
    have ag : Agree m c m' := ⟨a0, a1, a2, a3, a4, a5, a6, a7⟩
    exact ⟨(h c).1.trans ((rZ_eq m' c).trans (out0 g ag)), (h c).2.1.trans ((rI_eq m' c).trans (out1 g ag)), (h c).2.2⟩

end Cert.Proof.MC
-- ==== Proof.lean ====
/- The certificate's claims. The kernel over the reals and the reference over the reals both run to the end, leave their
   arguments as they were and every counter at zero, and their four results are equal; the reference over the machine's words
   runs to the end in the same way. The claims of `rebuild` are in Proof/BClaims.lean, those of
   `codes` in Proof/CClaims.lean. The kernel's run is `K.run_main`
   (Proof/KLaunch.lean) read at its results by Proof/KValue.lean, the reference's is `Value.run` (Proof/RefRun.lean) read by
   Proof/MathR.lean, and Proof/Agree.lean says that the two readings are one. -/
module

public import proofs.«01_k».proof.Defs
public import proofs.«01_k».proof.Proof.Gen.Kernel
public import proofs.«01_k».proof.Proof.Gen.Reference
public import proofs.«01_k».proof.Proof.Gen.KernelIdeal
public import proofs.«01_k».proof.Proof.Gen.ReferenceIdeal
public import proofs.«01_k».proof.Proof.Gen.Codes
public import proofs.«01_k».proof.Proof.Gen.Codes.Frame
public import proofs.«01_k».proof.Proof.Gen.CodesIdeal
public import proofs.«01_k».proof.Proof.Gen.CodesIdeal.Frame
public import proofs.«01_k».proof.Proof.Gen.CodesReferenceIdeal
public import proofs.«01_k».proof.Proof.Gen.Rebuild
public import proofs.«01_k».proof.Proof.Gen.Rebuild.Skeleton
public import proofs.«01_k».proof.Proof.Gen.Rebuild.Launch
public import proofs.«01_k».proof.Proof.Gen.Rebuild.Points
public import proofs.«01_k».proof.Proof.Gen.RebuildIdeal
public import proofs.«01_k».proof.Proof.Gen.RebuildIdeal.Skeleton
public import proofs.«01_k».proof.Proof.Gen.RebuildIdeal.Launch
public import proofs.«01_k».proof.Proof.Gen.RebuildIdeal.Points
public import proofs.«01_k».proof.Proof.Gen.RebuildReferenceIdeal
public import proofs.«01_k».proof.Proof.Gen.RebuildReferenceIdeal.Run
public import proofs.«01_k».proof.Proof.Gen.Pre_idx_in_codebook
public import proofs.«01_k».proof.Proof.KLaunch
public import proofs.«01_k».proof.Proof.Agree
public import proofs.«01_k».proof.Proof.BClaims
public import proofs.«01_k».proof.Proof.CClaims
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel's run: every array of the device at the contents that end the chain, every counter at zero. The rows asked
    of the codebook are below its length, being the nearest rows. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ (fun r =>
      (∀ d b, b ∈ Pipeline.ucRefs Cert.KernelIdeal.τ Cert.KernelIdeal.sig → r.2.mem (d, b) = K.W9 m d b) ∧ r.2.sem = fun _ => 0) :=
  K.run_main m g fun d j => K.ixs_lt m d j

/-- `Cert.quiescent_KernelIdeal`. -/
theorem frame_kernel : Cert.quiescent_KernelIdeal := fun m g _ =>
  (θ_run Cert.KernelIdeal.defs _ _).mono (fun r h => ⟨fun c => ⟨
      (h.1 c _ (K.mem_uc Cert.KernelIdeal.main_arg0 (by decide))).trans (K.W9_args m c Cert.KernelIdeal.main_arg0 (by decide)),
      (h.1 c _ (K.mem_uc Cert.KernelIdeal.main_arg1 (by decide))).trans (K.W9_args m c Cert.KernelIdeal.main_arg1 (by decide)),
      (h.1 c _ (K.mem_uc Cert.KernelIdeal.main_arg2 (by decide))).trans (K.W9_args m c Cert.KernelIdeal.main_arg2 (by decide)),
      (h.1 c _ (K.mem_uc Cert.KernelIdeal.main_arg3 (by decide))).trans (K.W9_args m c Cert.KernelIdeal.main_arg3 (by decide)),
      (h.1 c _ (K.mem_uc Cert.KernelIdeal.main_arg4 (by decide))).trans (K.W9_args m c Cert.KernelIdeal.main_arg4 (by decide)),
      (h.1 c _ (K.mem_uc Cert.KernelIdeal.main_arg5 (by decide))).trans (K.W9_args m c Cert.KernelIdeal.main_arg5 (by decide)),
      (h.1 c _ (K.mem_uc Cert.KernelIdeal.main_arg6 (by decide))).trans (K.W9_args m c Cert.KernelIdeal.main_arg6 (by decide)),
      (h.1 c _ (K.mem_uc Cert.KernelIdeal.main_arg7 (by decide))).trans (K.W9_args m c Cert.KernelIdeal.main_arg7 (by decide)),
      (h.1 c _ (K.mem_uc Cert.KernelIdeal.main_arg8 (by decide))).trans (K.W9_args m c Cert.KernelIdeal.main_arg8 (by decide)),
      (h.1 c _ (K.mem_uc Cert.KernelIdeal.main_arg9 (by decide))).trans (K.W9_args m c Cert.KernelIdeal.main_arg9 (by decide)),
      (h.1 c _ (K.mem_uc Cert.KernelIdeal.main_arg10 (by decide))).trans (K.W9_args m c Cert.KernelIdeal.main_arg10 (by decide)),
      (h.1 c _ (K.mem_uc Cert.KernelIdeal.main_arg11 (by decide))).trans (K.W9_args m c Cert.KernelIdeal.main_arg11 (by decide)),
      (h.1 c _ (K.mem_uc Cert.KernelIdeal.main_arg12 (by decide))).trans (K.W9_args m c Cert.KernelIdeal.main_arg12 (by decide)),
      (h.1 c _ (K.mem_uc Cert.KernelIdeal.main_arg13 (by decide))).trans (K.W9_args m c Cert.KernelIdeal.main_arg13 (by decide))⟩, h.2⟩)
    (kernel_run m g)

/-- `Cert.quiescent_ReferenceIdeal`: the reference declares no counter. -/
theorem frame_reference : Cert.quiescent_ReferenceIdeal := fun m g _ =>
  (θ_run Cert.ReferenceIdeal.defs _ _).mono
    (fun r h => ⟨fun c => (h c).2.2.2.2, sem_eq_zero_of_no_sems (by decide) r.2⟩)
    (Cert.ReferenceIdeal.Value.run (F := Ideal) m g)

/-- `Cert.algebraic_KernelIdeal_ReferenceIdeal`. -/
theorem algebraic : Cert.algebraic_KernelIdeal_ReferenceIdeal := by
  intro m g m' g' _ hagree
  refine ⟨fun c => K.W9 m c (Proc.devRef .tc Cert.KernelIdeal.main_v19), fun c => K.W9 m c (Proc.devRef .tc Cert.KernelIdeal.main_v20),
    fun c => K.W9 m c (Proc.devRef .tc Cert.KernelIdeal.main_v3), fun c => K.W9 m c (Proc.devRef .tc Cert.KernelIdeal.main_c), ?_, ?_⟩
  · refine (θ_run Cert.KernelIdeal.defs _ _).mono (fun r h c => ⟨
      h.1 c _ (K.mem_uc Cert.KernelIdeal.main_v19 (by decide)),
      h.1 c _ (K.mem_uc Cert.KernelIdeal.main_v20 (by decide)),
      h.1 c _ (K.mem_uc Cert.KernelIdeal.main_v3 (by decide)),
      h.1 c _ (K.mem_uc Cert.KernelIdeal.main_c (by decide)),
      (h.1 c _ (K.mem_uc Cert.KernelIdeal.main_arg0 (by decide))).trans (K.W9_args m c Cert.KernelIdeal.main_arg0 (by decide)),
      (h.1 c _ (K.mem_uc Cert.KernelIdeal.main_arg1 (by decide))).trans (K.W9_args m c Cert.KernelIdeal.main_arg1 (by decide)),
      (h.1 c _ (K.mem_uc Cert.KernelIdeal.main_arg2 (by decide))).trans (K.W9_args m c Cert.KernelIdeal.main_arg2 (by decide)),
      (h.1 c _ (K.mem_uc Cert.KernelIdeal.main_arg3 (by decide))).trans (K.W9_args m c Cert.KernelIdeal.main_arg3 (by decide)),
      (h.1 c _ (K.mem_uc Cert.KernelIdeal.main_arg4 (by decide))).trans (K.W9_args m c Cert.KernelIdeal.main_arg4 (by decide)),
      (h.1 c _ (K.mem_uc Cert.KernelIdeal.main_arg5 (by decide))).trans (K.W9_args m c Cert.KernelIdeal.main_arg5 (by decide)),
      (h.1 c _ (K.mem_uc Cert.KernelIdeal.main_arg6 (by decide))).trans (K.W9_args m c Cert.KernelIdeal.main_arg6 (by decide)),
      (h.1 c _ (K.mem_uc Cert.KernelIdeal.main_arg7 (by decide))).trans (K.W9_args m c Cert.KernelIdeal.main_arg7 (by decide)),
      (h.1 c _ (K.mem_uc Cert.KernelIdeal.main_arg8 (by decide))).trans (K.W9_args m c Cert.KernelIdeal.main_arg8 (by decide)),
      (h.1 c _ (K.mem_uc Cert.KernelIdeal.main_arg9 (by decide))).trans (K.W9_args m c Cert.KernelIdeal.main_arg9 (by decide)),
      (h.1 c _ (K.mem_uc Cert.KernelIdeal.main_arg10 (by decide))).trans (K.W9_args m c Cert.KernelIdeal.main_arg10 (by decide)),
      (h.1 c _ (K.mem_uc Cert.KernelIdeal.main_arg11 (by decide))).trans (K.W9_args m c Cert.KernelIdeal.main_arg11 (by decide)),
      (h.1 c _ (K.mem_uc Cert.KernelIdeal.main_arg12 (by decide))).trans (K.W9_args m c Cert.KernelIdeal.main_arg12 (by decide)),
      (h.1 c _ (K.mem_uc Cert.KernelIdeal.main_arg13 (by decide))).trans (K.W9_args m c Cert.KernelIdeal.main_arg13 (by decide))⟩)
      (kernel_run m g)
  · refine (θ_run Cert.ReferenceIdeal.defs _ _).mono (fun r h c => ?_) (Cert.ReferenceIdeal.Value.run (F := Ideal) m' g')
    obtain ⟨a0, a1, a2, a3, a4, a5, a6, a7, a8, a9, a10, a11, a12, a13⟩ := hagree c
    have ag : M.Agree m c (StableHlo.launchContents m' c) := ⟨a0, a1, a2, a3, a4, a5, a6, a7, a8, a9, a10, a11, a12, a13⟩
    exact ⟨(h c).1.trans (M.out0 ag), (h c).2.1.trans (M.out1 ag), (h c).2.2.1.trans (M.out2 ag),
      (h c).2.2.2.1.trans (K.W9_c m c).symm, (h c).2.2.2.2⟩

/-- `Cert.quiescent_Reference`: the reference over the machine's words is the reference over the reals, operation for operation. -/
theorem frame_reference_bits : Cert.quiescent_Reference := fun m g _ => by
  refine Eq.mpr (congrArg₂ (fun D M => θ_run D (onTc M) ⟨m, fun _ => 0, g⟩ _) (S.ref_defs (F := Bits)) (S.ref_main (F := Bits))) ?_
  exact (θ_run (Cert.ReferenceIdeal.defs (F := Bits)) _ _).mono
    (fun r h => ⟨fun c => (h c).2.2.2.2, sem_eq_zero_of_no_sems (by decide) r.2⟩)
    (Cert.ReferenceIdeal.Value.run (F := Bits) m g)

theorem claim : Cert.Claim :=
  ⟨Cert.Kernel.Gen.facts, Cert.Reference.Gen.facts, Cert.KernelIdeal.Gen.facts, Cert.ReferenceIdeal.Gen.facts,
    Cert.Codes.Gen.facts, Cert.CodesIdeal.Gen.facts, Cert.CodesReferenceIdeal.Gen.facts,
    Cert.Rebuild.Gen.facts, Cert.RebuildIdeal.Gen.facts, Cert.RebuildReferenceIdeal.Gen.facts, Cert.Pre_idx_in_codebook.Gen.facts,
    frame_reference_bits, frame_kernel, frame_reference, MC.frame_bits, MC.frame_ideal, MC.frame_reference,
    MB.frame_bits, MB.frame_ideal, MB.frame_reference,
    trivial, algebraic, trivial, MC.algebraic, trivial, MB.algebraic⟩

end Cert.Proof

end
